-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.blockN ⟨4, ![2, 64, 64, 64]⟩ ⟨4, ![2, 128, 128, 64]⟩ (Layout.meshBlock [2, 2] ![[], [0], [1], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨4, ![2, 64, 64, 64]⟩ ⟨4, ![2, 128, 128, 64]⟩ (Layout.meshBlock [2, 2] ![[], [0], [1], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v85) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x64x64x64 : Shape := ⟨4, ![2, 64, 64, 64]⟩
abbrev S3x3x64 : Shape := ⟨3, ![3, 3, 64]⟩
abbrev S64x64 : Shape := ⟨2, ![64, 64]⟩
abbrev S_ : Shape := ⟨0, ![]⟩

class Facts : Prop where
  bcast_S_S2x64x64x64 : S_.BroadcastsInDim S2x64x64x64 (![] : Fin 0 → Fin S2x64x64x64.rank)
  reducesTo_S2x64x64x64_S_d0_1_2_3 : S2x64x64x64.ReducesTo [0, 1, 2, 3] S_
  h_S_ : 0 < S_.numel
  bcast_S_S3x3x64 : S_.BroadcastsInDim S3x3x64 (![] : Fin 0 → Fin S3x3x64.rank)
  reducesTo_S3x3x64_S_d0_1_2 : S3x3x64.ReducesTo [0, 1, 2] S_

variable [Facts]

def fn {F : FTy → Type} [FloatOps F] (main_arg0 : FVec F S2x64x64x64 .f32) (main_arg1 : FVec F S3x3x64 .f32) (main_arg2 : FVec F S64x64 .f32) : IVec S_ 1 :=
  let main_v0 : FVec F S2x64x64x64 .f32 := Host.absf main_arg0
  let main_cst : FVec F S_ .f32 := constant S_ .f32 0x7F800000#32
  let main_v1 : FVec F S2x64x64x64 .f32 := broadcastInDim S2x64x64x64 ![] bcast_S_S2x64x64x64 main_cst
  let main_v2 : IVec S2x64x64x64 1 := cmpf .olt main_v0 main_v1
  let main_c : IVec S_ 1 := constantI S_ 1 1#1
  let main_v3 : IVec S_ 1 := (fun x v => Host.reduce IntOp.andi x v reducesTo_S2x64x64x64_S_d0_1_2_3 h_S_) main_v2 main_c
  let main_v4 : FVec F S3x3x64 .f32 := Host.absf main_arg1
  let main_cst_0 : FVec F S_ .f32 := constant S_ .f32 0x7F800000#32
  let main_v5 : FVec F S3x3x64 .f32 := broadcastInDim S3x3x64 ![] bcast_S_S3x3x64 main_cst_0
  let main_v6 : IVec S3x3x64 1 := cmpf .olt main_v4 main_v5
  let main_c_1 : IVec S_ 1 := constantI S_ 1 1#1
  let main_v7 : IVec S_ 1 := (fun x v => Host.reduce IntOp.andi x v reducesTo_S3x3x64_S_d0_1_2 h_S_) main_v6 main_c_1
  let main_v8 : IVec S_ 1 := andi main_v3 main_v7
  main_v8
-- ==== Pre_finite_ReferenceIdeal.lean ====
abbrev S2x128x128x64 : Shape := ⟨4, ![2, 128, 128, 64]⟩
abbrev S3x3x64 : Shape := ⟨3, ![3, 3, 64]⟩
abbrev S64x64 : Shape := ⟨2, ![64, 64]⟩
abbrev S_ : Shape := ⟨0, ![]⟩

class Facts : Prop where
  bcast_S_S2x128x128x64 : S_.BroadcastsInDim S2x128x128x64 (![] : Fin 0 → Fin S2x128x128x64.rank)
  reducesTo_S2x128x128x64_S_d0_1_2_3 : S2x128x128x64.ReducesTo [0, 1, 2, 3] S_
  h_S_ : 0 < S_.numel
  bcast_S_S3x3x64 : S_.BroadcastsInDim S3x3x64 (![] : Fin 0 → Fin S3x3x64.rank)
  reducesTo_S3x3x64_S_d0_1_2 : S3x3x64.ReducesTo [0, 1, 2] S_

variable [Facts]

def fn {F : FTy → Type} [FloatOps F] (main_arg0 : FVec F S2x128x128x64 .f32) (main_arg1 : FVec F S3x3x64 .f32) (main_arg2 : FVec F S64x64 .f32) : IVec S_ 1 :=
  let main_v0 : FVec F S2x128x128x64 .f32 := Host.absf main_arg0
  let main_cst : FVec F S_ .f32 := constant S_ .f32 0x7F800000#32
  let main_v1 : FVec F S2x128x128x64 .f32 := broadcastInDim S2x128x128x64 ![] bcast_S_S2x128x128x64 main_cst
  let main_v2 : IVec S2x128x128x64 1 := cmpf .olt main_v0 main_v1
  let main_c : IVec S_ 1 := constantI S_ 1 1#1
  let main_v3 : IVec S_ 1 := (fun x v => Host.reduce IntOp.andi x v reducesTo_S2x128x128x64_S_d0_1_2_3 h_S_) main_v2 main_c
  let main_v4 : FVec F S3x3x64 .f32 := Host.absf main_arg1
  let main_cst_0 : FVec F S_ .f32 := constant S_ .f32 0x7F800000#32
  let main_v5 : FVec F S3x3x64 .f32 := broadcastInDim S3x3x64 ![] bcast_S_S3x3x64 main_cst_0
  let main_v6 : IVec S3x3x64 1 := cmpf .olt main_v4 main_v5
  let main_c_1 : IVec S_ 1 := constantI S_ 1 1#1
  let main_v7 : IVec S_ 1 := (fun x v => Host.reduce IntOp.andi x v reducesTo_S3x3x64_S_d0_1_2 h_S_) main_v6 main_c_1
  let main_v8 : IVec S_ 1 := andi main_v3 main_v7
  main_v8
-- ==== Kernel.lean ====
abbrev S2x64x64x64 : Shape := ⟨4, ![2, 64, 64, 64]⟩
abbrev S3x3x64 : Shape := ⟨3, ![3, 3, 64]⟩
abbrev S64x64 : Shape := ⟨2, ![64, 64]⟩
abbrev S2x66x66x64 : Shape := ⟨4, ![2, 66, 66, 64]⟩
abbrev S4x4x64 : Shape := ⟨3, ![4, 4, 64]⟩
abbrev S2x1x64x64 : Shape := ⟨4, ![2, 1, 64, 64]⟩
abbrev S2x64x1x64 : Shape := ⟨4, ![2, 64, 1, 64]⟩
abbrev S2x1x1x64 : Shape := ⟨4, ![2, 1, 1, 64]⟩
abbrev S7 : Shape := ⟨1, ![7]⟩
abbrev S_ : Shape := ⟨0, ![]⟩
abbrev S1 : Shape := ⟨1, ![1]⟩
abbrev S8192x64 : Shape := ⟨2, ![8192, 64]⟩
abbrev S1x4096 : Shape := ⟨2, ![1, 4096]⟩
abbrev S1x8192 : Shape := ⟨2, ![1, 8192]⟩
abbrev S2x8192 : Shape := ⟨2, ![2, 8192]⟩
abbrev S2x64 : Shape := ⟨2, ![2, 64]⟩
abbrev S4x64 : Shape := ⟨2, ![4, 64]⟩
abbrev S1x4x64 : Shape := ⟨3, ![1, 4, 64]⟩
abbrev S2x66x1x64 : Shape := ⟨4, ![2, 66, 1, 64]⟩
abbrev S64 : Shape := ⟨1, ![64]⟩
abbrev S1x64 : Shape := ⟨2, ![1, 64]⟩
abbrev S1x1x64 : Shape := ⟨3, ![1, 1, 64]⟩

abbrev nBuf : Space → Nat
  | .hbm => 4
  | .vmem => 14
  | .smem => 0
  | _ => 0

abbrev bufTy : (tb : Table) → Fin (tcTables nBuf tb) → BufTy
  | .hbm, ⟨0, _⟩ => ⟨S2x64x64x64, .f32⟩
  | .hbm, ⟨1, _⟩ => ⟨S3x3x64, .f32⟩
  | .hbm, ⟨2, _⟩ => ⟨S64x64, .f32⟩
  | .hbm, ⟨3, _⟩ => ⟨S2x64x64x64, .f32⟩
  | .local _ .vmem, ⟨0, _⟩ => ⟨S2x64x64x64, .f32⟩
  | .local _ .vmem, ⟨1, _⟩ => ⟨S3x3x64, .f32⟩
  | .local _ .vmem, ⟨2, _⟩ => ⟨S64x64, .f32⟩
  | .local _ .vmem, ⟨3, _⟩ => ⟨S2x64x64x64, .f32⟩
  | .local _ .vmem, ⟨4, _⟩ => ⟨S2x66x66x64, .f32⟩
  | .local _ .vmem, ⟨5, _⟩ => ⟨S4x4x64, .f32⟩
  | .local _ .vmem, ⟨6, _⟩ => ⟨S2x1x64x64, .f32⟩
  | .local _ .vmem, ⟨7, _⟩ => ⟨S2x1x64x64, .f32⟩
  | .local _ .vmem, ⟨8, _⟩ => ⟨S2x64x1x64, .f32⟩
  | .local _ .vmem, ⟨9, _⟩ => ⟨S2x64x1x64, .f32⟩
  | .local _ .vmem, ⟨10, _⟩ => ⟨S2x1x1x64, .f32⟩
  | .local _ .vmem, ⟨11, _⟩ => ⟨S2x1x1x64, .f32⟩
  | .local _ .vmem, ⟨12, _⟩ => ⟨S2x1x1x64, .f32⟩
  | .local _ .vmem, ⟨13, _⟩ => ⟨S2x1x1x64, .f32⟩
  | _, _ => ⟨S2x64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_scratch8 : Ref sig .tc := ⟨.vmem, 12, rfl⟩
abbrev cc0_scratch9 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_7 : BitVec 32 := 2#32
  let v11 : BitVec 32 := Scalar.muli v6 c2_i32_7
  let v12 : BitVec 32 := Scalar.addi c0_i32 v11
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_8 : BitVec 32 := 1#32
  let v13 : BitVec 32 := Scalar.muli v5 c1_i32_8
  let v14 : BitVec 32 := Scalar.addi v12 v13
  v14.toNat
def k0_dev2 (d0 : Dev nD) : Nat :=
  let c0_i32_11 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_10 : BitVec 32 := 2#32
  let v15 : BitVec 32 := Scalar.muli v2 c2_i32_10
  let v16 : BitVec 32 := Scalar.addi c0_i32_11 v15
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_12 : BitVec 32 := 1#32
  let v17 : BitVec 32 := Scalar.muli v7 c1_i32_12
  let v18 : BitVec 32 := Scalar.addi v16 v17
  v18.toNat
def k0_dev3 (d0 : Dev nD) : Nat :=
  let c0_i32_15 : BitVec 32 := 0#32
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.subi c1_i32_4 v2
  let c2_i32_14 : BitVec 32 := 2#32
  let v19 : BitVec 32 := Scalar.muli v8 c2_i32_14
  let v20 : BitVec 32 := Scalar.addi c0_i32_15 v19
  let c1_i32_5 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_5 v5
  let c1_i32_16 : BitVec 32 := 1#32
  let v21 : BitVec 32 := Scalar.muli v9 c1_i32_16
  let v22 : BitVec 32 := Scalar.addi v20 v21
  v22.toNat
def k0_off1 (d0 : Dev nD) (c63_i32 : BitVec 32) (c0_i32_18 : BitVec 32) : Fin 4 → Nat :=
  let c0 : Index := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_17 : BitVec 32 := 0#32
  let v23 : BitVec 1 := Scalar.cmpi .eq v2 c0_i32_17
  let v24 : BitVec 32 := Scalar.select v23 c63_i32 c0_i32_18
  let v37 : Index := Scalar.indexCast v24
  let c0_36 : Index := 0#32
  let c0_37 : Index := 0#32
  ![0, v37.toNat, 0, 0]
def k0_off1_at (r : Fin 2) : BitVec 32 × BitVec 32 :=
  if r.val < 1 then
    (63#32, 0#32)
  else
    (0#32, 63#32)
def k0_dev4 (d0 : Dev nD) : Nat :=
  let c0_i32_45 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_44 : BitVec 32 := 2#32
  let v43 : BitVec 32 := Scalar.muli v6 c2_i32_44
  let v44 : BitVec 32 := Scalar.addi c0_i32_45 v43
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_46 : BitVec 32 := 1#32
  let v45 : BitVec 32 := Scalar.muli v5 c1_i32_46
  let v46 : BitVec 32 := Scalar.addi v44 v45
  v46.toNat
def k0_cond1 (d0 : Dev nD) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_47 : BitVec 32 := 0#32
  let v51 : BitVec 1 := Scalar.cmpi .eq v5 c0_i32_47
  let v52 : BitVec 32 := Scalar.extui v51
  let c0_i32_48 : BitVec 32 := 0#32
  let v53 : BitVec 1 := Scalar.cmpi .ne v52 c0_i32_48
  v53

def k0_off2 (d0 : Dev nD) (c63_i32_28 : BitVec 32) (c0_i32_29 : BitVec 32) : Fin 4 → Nat :=
  let c0_256 : Index := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_27 : BitVec 32 := 0#32
  let v31 : BitVec 1 := Scalar.cmpi .eq v2 c0_i32_27
  let v32 : BitVec 32 := Scalar.select v31 c63_i32_28 c0_i32_29
  let v374 : Index := Scalar.indexCast v32
  let c63_257 : Index := 63#32
  let c0_258 : Index := 0#32
  ![0, v374.toNat, 63, 0]
def k0_off2_at (r : Fin 2) : BitVec 32 × BitVec 32 :=
  if r.val < 1 then
    (63#32, 0#32)
  else
    (0#32, 63#32)
def k0_cond2 (d0 : Dev nD) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_49 : BitVec 32 := 1#32
  let v54 : BitVec 1 := Scalar.cmpi .eq v5 c1_i32_49
  let v55 : BitVec 32 := Scalar.extui v54
  let c0_i32_50 : BitVec 32 := 0#32
  let v56 : BitVec 1 := Scalar.cmpi .ne v55 c0_i32_50
  v56

def k0_off3 (d0 : Dev nD) (c63_i32_28 : BitVec 32) (c0_i32_29 : BitVec 32) : Fin 4 → Nat :=
  let c0_257 : Index := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_27 : BitVec 32 := 0#32
  let v31 : BitVec 1 := Scalar.cmpi .eq v2 c0_i32_27
  let v32 : BitVec 32 := Scalar.select v31 c63_i32_28 c0_i32_29
  let v374 : Index := Scalar.indexCast v32
  let c0_258 : Index := 0#32
  let c0_259 : Index := 0#32
  ![0, v374.toNat, 0, 0]
def k0_off3_at (r : Fin 2) : BitVec 32 × BitVec 32 :=
  if r.val < 1 then
    (63#32, 0#32)
  else
    (0#32, 63#32)
def k0_dev5 (d0 : Dev nD) : Nat :=
  let c0_i32_54 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_53 : BitVec 32 := 2#32
  let v57 : BitVec 32 := Scalar.muli v2 c2_i32_53
  let v58 : BitVec 32 := Scalar.addi c0_i32_54 v57
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_55 : BitVec 32 := 1#32
  let v59 : BitVec 32 := Scalar.muli v7 c1_i32_55
  let v60 : BitVec 32 := Scalar.addi v58 v59
  v60.toNat
def k0_dev6 (d0 : Dev nD) : Nat :=
  let c0_i32_59 : BitVec 32 := 0#32
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.subi c1_i32_4 v2
  let c2_i32_58 : BitVec 32 := 2#32
  let v65 : BitVec 32 := Scalar.muli v8 c2_i32_58
  let v66 : BitVec 32 := Scalar.addi c0_i32_59 v65
  let c1_i32_5 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_5 v5
  let c1_i32_60 : BitVec 32 := 1#32
  let v67 : BitVec 32 := Scalar.muli v9 c1_i32_60
  let v68 : BitVec 32 := Scalar.addi v66 v67
  v68.toNat
def k0_dev7 (d0 : Dev nD) : Nat :=
  let c0_i32_64 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_63 : BitVec 32 := 2#32
  let v73 : BitVec 32 := Scalar.muli v2 c2_i32_63
  let v74 : BitVec 32 := Scalar.addi c0_i32_64 v73
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_65 : BitVec 32 := 1#32
  let v75 : BitVec 32 := Scalar.muli v7 c1_i32_65
  let v76 : BitVec 32 := Scalar.addi v74 v75
  v76.toNat
def k0_dev8 (d0 : Dev nD) : Nat :=
  let c0_i32_82 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_81 : BitVec 32 := 2#32
  let v98 : BitVec 32 := Scalar.muli v6 c2_i32_81
  let v99 : BitVec 32 := Scalar.addi c0_i32_82 v98
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_83 : BitVec 32 := 1#32
  let v100 : BitVec 32 := Scalar.muli v5 c1_i32_83
  let v101 : BitVec 32 := Scalar.addi v99 v100
  v101.toNat
def k0_dev9 (d0 : Dev nD) : Nat :=
  let c0_i32_92 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_91 : BitVec 32 := 2#32
  let v110 : BitVec 32 := Scalar.muli v2 c2_i32_91
  let v111 : BitVec 32 := Scalar.addi c0_i32_92 v110
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_93 : BitVec 32 := 1#32
  let v112 : BitVec 32 := Scalar.muli v7 c1_i32_93
  let v113 : BitVec 32 := Scalar.addi v111 v112
  v113.toNat
def k0_dev10 (d0 : Dev nD) : Nat :=
  let c0_i32_102 : BitVec 32 := 0#32
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.subi c1_i32_4 v2
  let c2_i32_101 : BitVec 32 := 2#32
  let v122 : BitVec 32 := Scalar.muli v8 c2_i32_101
  let v123 : BitVec 32 := Scalar.addi c0_i32_102 v122
  let c1_i32_5 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_5 v5
  let c1_i32_103 : BitVec 32 := 1#32
  let v124 : BitVec 32 := Scalar.muli v9 c1_i32_103
  let v125 : BitVec 32 := Scalar.addi v123 v124
  v125.toNat
def k0_off4 (d0 : Dev nD) (c0_i32_22 : BitVec 32) (c65_i32_23 : BitVec 32) : Fin 4 → Nat :=
  let c0_114 : Index := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_21 : BitVec 32 := 0#32
  let v27 : BitVec 1 := Scalar.cmpi .eq v2 c0_i32_21
  let v28 : BitVec 32 := Scalar.select v27 c0_i32_22 c65_i32_23
  let v140 : Index := Scalar.indexCast v28
  let c1_115 : Index := 1#32
  let c0_116 : Index := 0#32
  ![0, v140.toNat, 1, 0]
def k0_off4_at (r : Fin 2) : BitVec 32 × BitVec 32 :=
  if r.val < 1 then
    (0#32, 65#32)
  else
    (65#32, 0#32)
def k0_cond3 (d0 : Dev nD) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_156 : BitVec 32 := 0#32
  let v181 : BitVec 1 := Scalar.cmpi .eq v5 c0_i32_156
  let v182 : BitVec 32 := Scalar.extui v181
  let c0_i32_157 : BitVec 32 := 0#32
  let v183 : BitVec 1 := Scalar.cmpi .ne v182 c0_i32_157
  v183

def k0_off5 (d0 : Dev nD) (c65_i32_31 : BitVec 32) (c0_i32_32 : BitVec 32) : Fin 4 → Nat :=
  let c0_268 : Index := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_30 : BitVec 32 := 0#32
  let v33 : BitVec 1 := Scalar.cmpi .eq v2 c0_i32_30
  let v34 : BitVec 32 := Scalar.select v33 c65_i32_31 c0_i32_32
  let v378 : Index := Scalar.indexCast v34
  let c65_269 : Index := 65#32
  let c0_270 : Index := 0#32
  ![0, v378.toNat, 65, 0]
def k0_off5_at (r : Fin 2) : BitVec 32 × BitVec 32 :=
  if r.val < 1 then
    (65#32, 0#32)
  else
    (0#32, 65#32)
def k0_cond4 (d0 : Dev nD) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_158 : BitVec 32 := 1#32
  let v184 : BitVec 1 := Scalar.cmpi .eq v5 c1_i32_158
  let v185 : BitVec 32 := Scalar.extui v184
  let c0_i32_159 : BitVec 32 := 0#32
  let v186 : BitVec 1 := Scalar.cmpi .ne v185 c0_i32_159
  v186

def k0_off6 (d0 : Dev nD) (c65_i32_31 : BitVec 32) (c0_i32_32 : BitVec 32) : Fin 4 → Nat :=
  let c0_267 : Index := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_30 : BitVec 32 := 0#32
  let v33 : BitVec 1 := Scalar.cmpi .eq v2 c0_i32_30
  let v34 : BitVec 32 := Scalar.select v33 c65_i32_31 c0_i32_32
  let v378 : Index := Scalar.indexCast v34
  let c0_268 : Index := 0#32
  let c0_269 : Index := 0#32
  ![0, v378.toNat, 0, 0]
def k0_off6_at (r : Fin 2) : BitVec 32 × BitVec 32 :=
  if r.val < 1 then
    (65#32, 0#32)
  else
    (0#32, 65#32)
abbrev stage0_0 : Fin 1 → Memref sig .tc .vmem S2x64x64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x3x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x64x64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2x128x128x64 : Shape := ⟨4, ![2, 128, 128, 64]⟩
abbrev S3x3x64 : Shape := ⟨3, ![3, 3, 64]⟩
abbrev S64x64 : Shape := ⟨2, ![64, 64]⟩
abbrev S_ : Shape := ⟨0, ![]⟩
abbrev S2x64 : Shape := ⟨2, ![2, 64]⟩
abbrev S2x1x1x64 : Shape := ⟨4, ![2, 1, 1, 64]⟩
abbrev S1x128x128x64 : Shape := ⟨4, ![1, 128, 128, 64]⟩
abbrev S1x0x128x128x64 : Shape := ⟨5, ![1, 0, 128, 128, 64]⟩
abbrev S0x128x128x64 : Shape := ⟨4, ![0, 128, 128, 64]⟩
abbrev S2x1x128x64 : Shape := ⟨4, ![2, 1, 128, 64]⟩
abbrev S2x1x1x128x64 : Shape := ⟨5, ![2, 1, 1, 128, 64]⟩
abbrev S2x130x128x64 : Shape := ⟨4, ![2, 130, 128, 64]⟩
abbrev S2x130x1x64 : Shape := ⟨4, ![2, 130, 1, 64]⟩
abbrev S2x130x1x1x64 : Shape := ⟨5, ![2, 130, 1, 1, 64]⟩
abbrev S2x130x130x64 : Shape := ⟨4, ![2, 130, 130, 64]⟩
abbrev S2x130x130x1 : Shape := ⟨4, ![2, 130, 130, 1]⟩
abbrev S2x130x130x1x0 : Shape := ⟨5, ![2, 130, 130, 1, 0]⟩
abbrev S2x130x130x0 : Shape := ⟨4, ![2, 130, 130, 0]⟩
abbrev S1x1x64 : Shape := ⟨3, ![1, 1, 64]⟩
abbrev S64 : Shape := ⟨1, ![64]⟩
abbrev S1x1x1x64 : Shape := ⟨4, ![1, 1, 1, 64]⟩
abbrev S32768x64 : Shape := ⟨2, ![32768, 64]⟩

abbrev nBuf : Space → Nat
  | .hbm => 145
  | .vmem => 0
  | .smem => 0
  | _ => 0

abbrev hbmTy0_0 (i : Nat) : BufTy := match i % 128 with
  | 0 => ⟨S2x128x128x64, .f32⟩
  | 1 => ⟨S3x3x64, .f32⟩
  | 2 => ⟨S64x64, .f32⟩
  | 3 => ⟨S_, .f32⟩
  | 4 => ⟨S2x64, .f32⟩
  | 5 => ⟨S2x1x1x64, .f32⟩
  | 6 => ⟨S_, .f32⟩
  | 7 => ⟨S2x1x1x64, .f32⟩
  | 8 => ⟨S2x1x1x64, .f32⟩
  | 9 => ⟨S_, .i32⟩
  | 10 => ⟨S_, .f32⟩
  | 11 => ⟨S2x64, .f32⟩
  | 12 => ⟨S2x1x1x64, .f32⟩
  | 13 => ⟨S_, .f32⟩
  | 14 => ⟨S2x1x1x64, .f32⟩
  | 15 => ⟨S2x1x1x64, .f32⟩
  | 16 => ⟨S2x128x128x64, .f32⟩
  | 17 => ⟨S2x128x128x64, .f32⟩
  | 18 => ⟨S2x128x128x64, .f32⟩
  | 19 => ⟨S_, .f32⟩
  | 20 => ⟨S_, .f32⟩
  | 21 => ⟨S_, .f32⟩
  | 22 => ⟨S_, .f32⟩
  | 23 => ⟨S2x64, .f32⟩
  | 24 => ⟨S2x1x1x64, .f32⟩
  | 25 => ⟨S2x1x1x64, .f32⟩
  | 26 => ⟨S2x1x1x64, .f32⟩
  | 27 => ⟨S_, .f32⟩
  | 28 => ⟨S_, .i1⟩
  | 29 => ⟨S_, .f32⟩
  | 30 => ⟨S_, .f32⟩
  | 31 => ⟨S2x1x1x64, .f32⟩
  | 32 => ⟨S2x1x1x64, .f32⟩
  | 33 => ⟨S2x128x128x64, .f32⟩
  | 34 => ⟨S2x128x128x64, .f32⟩
  | 35 => ⟨S_, .f32⟩
  | 36 => ⟨S2x1x1x64, .f32⟩
  | 37 => ⟨S2x1x1x64, .f32⟩
  | 38 => ⟨S2x1x1x64, .f32⟩
  | 39 => ⟨S2x128x128x64, .f32⟩
  | 40 => ⟨S2x128x128x64, .f32⟩
  | 41 => ⟨S_, .i32⟩
  | 42 => ⟨S1x128x128x64, .f32⟩
  | 43 => ⟨S1x0x128x128x64, .f32⟩
  | 44 => ⟨S0x128x128x64, .f32⟩
  | 45 => ⟨S1x128x128x64, .f32⟩
  | 46 => ⟨S1x0x128x128x64, .f32⟩
  | 47 => ⟨S0x128x128x64, .f32⟩
  | 48 => ⟨S2x128x128x64, .f32⟩
  | 49 => ⟨S2x1x128x64, .f32⟩
  | 50 => ⟨S2x1x1x128x64, .f32⟩
  | 51 => ⟨S2x1x128x64, .f32⟩
  | 52 => ⟨S2x1x128x64, .f32⟩
  | 53 => ⟨S2x1x1x128x64, .f32⟩
  | 54 => ⟨S2x1x128x64, .f32⟩
  | 55 => ⟨S2x130x128x64, .f32⟩
  | 56 => ⟨S2x130x1x64, .f32⟩
  | 57 => ⟨S2x130x1x1x64, .f32⟩
  | 58 => ⟨S2x130x1x64, .f32⟩
  | 59 => ⟨S2x130x1x64, .f32⟩
  | 60 => ⟨S2x130x1x1x64, .f32⟩
  | 61 => ⟨S2x130x1x64, .f32⟩
  | 62 => ⟨S2x130x130x64, .f32⟩
  | 63 => ⟨S2x130x130x1, .f32⟩
  | 64 => ⟨S2x130x130x1x0, .f32⟩
  | 65 => ⟨S2x130x130x0, .f32⟩
  | 66 => ⟨S2x130x130x1, .f32⟩
  | 67 => ⟨S2x130x130x1x0, .f32⟩
  | 68 => ⟨S2x130x130x0, .f32⟩
  | 69 => ⟨S2x130x130x64, .f32⟩
  | 70 => ⟨S_, .f32⟩
  | 71 => ⟨S2x128x128x64, .f32⟩
  | 72 => ⟨S2x128x128x64, .f32⟩
  | 73 => ⟨S1x1x64, .f32⟩
  | 74 => ⟨S64, .f32⟩
  | 75 => ⟨S1x1x1x64, .f32⟩
  | 76 => ⟨S2x128x128x64, .f32⟩
  | 77 => ⟨S2x128x128x64, .f32⟩
  | 78 => ⟨S2x128x128x64, .f32⟩
  | 79 => ⟨S2x128x128x64, .f32⟩
  | 80 => ⟨S1x1x64, .f32⟩
  | 81 => ⟨S64, .f32⟩
  | 82 => ⟨S1x1x1x64, .f32⟩
  | 83 => ⟨S2x128x128x64, .f32⟩
  | 84 => ⟨S2x128x128x64, .f32⟩
  | 85 => ⟨S2x128x128x64, .f32⟩
  | 86 => ⟨S2x128x128x64, .f32⟩
  | 87 => ⟨S1x1x64, .f32⟩
  | 88 => ⟨S64, .f32⟩
  | 89 => ⟨S1x1x1x64, .f32⟩
  | 90 => ⟨S2x128x128x64, .f32⟩
  | 91 => ⟨S2x128x128x64, .f32⟩
  | 92 => ⟨S2x128x128x64, .f32⟩
  | 93 => ⟨S2x128x128x64, .f32⟩
  | 94 => ⟨S1x1x64, .f32⟩
  | 95 => ⟨S64, .f32⟩
  | 96 => ⟨S1x1x1x64, .f32⟩
  | 97 => ⟨S2x128x128x64, .f32⟩
  | 98 => ⟨S2x128x128x64, .f32⟩
  | 99 => ⟨S2x128x128x64, .f32⟩
  | 100 => ⟨S2x128x128x64, .f32⟩
  | 101 => ⟨S1x1x64, .f32⟩
  | 102 => ⟨S64, .f32⟩
  | 103 => ⟨S1x1x1x64, .f32⟩
  | 104 => ⟨S2x128x128x64, .f32⟩
  | 105 => ⟨S2x128x128x64, .f32⟩
  | 106 => ⟨S2x128x128x64, .f32⟩
  | 107 => ⟨S2x128x128x64, .f32⟩
  | 108 => ⟨S1x1x64, .f32⟩
  | 109 => ⟨S64, .f32⟩
  | 110 => ⟨S1x1x1x64, .f32⟩
  | 111 => ⟨S2x128x128x64, .f32⟩
  | 112 => ⟨S2x128x128x64, .f32⟩
  | 113 => ⟨S2x128x128x64, .f32⟩
  | 114 => ⟨S2x128x128x64, .f32⟩
  | 115 => ⟨S1x1x64, .f32⟩
  | 116 => ⟨S64, .f32⟩
  | 117 => ⟨S1x1x1x64, .f32⟩
  | 118 => ⟨S2x128x128x64, .f32⟩
  | 119 => ⟨S2x128x128x64, .f32⟩
  | 120 => ⟨S2x128x128x64, .f32⟩
  | 121 => ⟨S2x128x128x64, .f32⟩
  | 122 => ⟨S1x1x64, .f32⟩
  | 123 => ⟨S64, .f32⟩
  | 124 => ⟨S1x1x1x64, .f32⟩
  | 125 => ⟨S2x128x128x64, .f32⟩
  | 126 => ⟨S2x128x128x64, .f32⟩
  | 127 => ⟨S2x128x128x64, .f32⟩
  | _ => ⟨S2x128x128x64, .f32⟩

abbrev hbmTy0_1 (i : Nat) : BufTy := match i % 128 with
  | 0 => ⟨S2x128x128x64, .f32⟩
  | 1 => ⟨S1x1x64, .f32⟩
  | 2 => ⟨S64, .f32⟩
  | 3 => ⟨S1x1x1x64, .f32⟩
  | 4 => ⟨S2x128x128x64, .f32⟩
  | 5 => ⟨S2x128x128x64, .f32⟩
  | 6 => ⟨S2x128x128x64, .f32⟩
  | 7 => ⟨S2x128x128x64, .f32⟩
  | 8 => ⟨S2x128x128x64, .f32⟩
  | 9 => ⟨S_, .f32⟩
  | 10 => ⟨S2x128x128x64, .f32⟩
  | 11 => ⟨S2x128x128x64, .f32⟩
  | 12 => ⟨S2x128x128x64, .f32⟩
  | 13 => ⟨S32768x64, .f32⟩
  | 14 => ⟨S32768x64, .f32⟩
  | 15 => ⟨S2x128x128x64, .f32⟩
  | 16 => ⟨S2x128x128x64, .f32⟩
  | _ => ⟨S2x128x128x64, .f32⟩

abbrev hbmTy (i : Nat) : BufTy := match i / 128 with
  | 0 => hbmTy0_0 i
  | 1 => hbmTy0_1 i
  | _ => ⟨S2x128x128x64, .f32⟩

abbrev bufTy : (tb : Table) → Fin (tcTables nBuf tb) → BufTy
  | .hbm, ⟨i, _⟩ => hbmTy i
  | _, _ => ⟨S2x128x128x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_cst_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_cst_1 : Ref sig .tc := ⟨.hbm, 20, rfl⟩
abbrev main_call0_v8 : Ref sig .tc := ⟨.hbm, 21, rfl⟩
abbrev main_call0_cst_2 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_cst_3 : Ref sig .tc := ⟨.hbm, 27, rfl⟩
abbrev main_call0_v13 : Ref sig .tc := ⟨.hbm, 28, rfl⟩
abbrev main_call0_cst_4 : Ref sig .tc := ⟨.hbm, 29, rfl⟩
abbrev main_call0_call0_v0 : Ref sig .tc := ⟨.hbm, 30, rfl⟩
abbrev main_call0_call0_v1 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_cst_1 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_c_2 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_v5 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_v12 : Ref sig .tc := ⟨.hbm, 54, rfl⟩
abbrev main_call1_v13 : Ref sig .tc := ⟨.hbm, 55, rfl⟩
abbrev main_call1_v14 : Ref sig .tc := ⟨.hbm, 56, rfl⟩
abbrev main_call1_v15 : Ref sig .tc := ⟨.hbm, 57, rfl⟩
abbrev main_call1_v16 : Ref sig .tc := ⟨.hbm, 58, rfl⟩
abbrev main_call1_v17 : Ref sig .tc := ⟨.hbm, 59, rfl⟩
abbrev main_call1_v18 : Ref sig .tc := ⟨.hbm, 60, rfl⟩
abbrev main_call1_v19 : Ref sig .tc := ⟨.hbm, 61, rfl⟩
abbrev main_call1_v20 : Ref sig .tc := ⟨.hbm, 62, rfl⟩
abbrev main_call1_v21 : Ref sig .tc := ⟨.hbm, 63, rfl⟩
abbrev main_call1_v22 : Ref sig .tc := ⟨.hbm, 64, rfl⟩
abbrev main_call1_v23 : Ref sig .tc := ⟨.hbm, 65, rfl⟩
abbrev main_call1_v24 : Ref sig .tc := ⟨.hbm, 66, rfl⟩
abbrev main_call1_v25 : Ref sig .tc := ⟨.hbm, 67, rfl⟩
abbrev main_call1_v26 : Ref sig .tc := ⟨.hbm, 68, rfl⟩
abbrev main_v12 : Ref sig .tc := ⟨.hbm, 69, rfl⟩
abbrev main_cst_3 : Ref sig .tc := ⟨.hbm, 70, rfl⟩
abbrev main_v13 : Ref sig .tc := ⟨.hbm, 71, rfl⟩
abbrev main_v14 : Ref sig .tc := ⟨.hbm, 72, rfl⟩
abbrev main_v15 : Ref sig .tc := ⟨.hbm, 73, rfl⟩
abbrev main_v16 : Ref sig .tc := ⟨.hbm, 74, rfl⟩
abbrev main_v17 : Ref sig .tc := ⟨.hbm, 75, rfl⟩
abbrev main_v18 : Ref sig .tc := ⟨.hbm, 76, rfl⟩
abbrev main_v19 : Ref sig .tc := ⟨.hbm, 77, rfl⟩
abbrev main_v20 : Ref sig .tc := ⟨.hbm, 78, rfl⟩
abbrev main_v21 : Ref sig .tc := ⟨.hbm, 79, rfl⟩
abbrev main_v22 : Ref sig .tc := ⟨.hbm, 80, rfl⟩
abbrev main_v23 : Ref sig .tc := ⟨.hbm, 81, rfl⟩
abbrev main_v24 : Ref sig .tc := ⟨.hbm, 82, rfl⟩
abbrev main_v25 : Ref sig .tc := ⟨.hbm, 83, rfl⟩
abbrev main_v26 : Ref sig .tc := ⟨.hbm, 84, rfl⟩
abbrev main_v27 : Ref sig .tc := ⟨.hbm, 85, rfl⟩
abbrev main_v28 : Ref sig .tc := ⟨.hbm, 86, rfl⟩
abbrev main_v29 : Ref sig .tc := ⟨.hbm, 87, rfl⟩
abbrev main_v30 : Ref sig .tc := ⟨.hbm, 88, rfl⟩
abbrev main_v31 : Ref sig .tc := ⟨.hbm, 89, rfl⟩
abbrev main_v32 : Ref sig .tc := ⟨.hbm, 90, rfl⟩
abbrev main_v33 : Ref sig .tc := ⟨.hbm, 91, rfl⟩
abbrev main_v34 : Ref sig .tc := ⟨.hbm, 92, rfl⟩
abbrev main_v35 : Ref sig .tc := ⟨.hbm, 93, rfl⟩
abbrev main_v36 : Ref sig .tc := ⟨.hbm, 94, rfl⟩
abbrev main_v37 : Ref sig .tc := ⟨.hbm, 95, rfl⟩
abbrev main_v38 : Ref sig .tc := ⟨.hbm, 96, rfl⟩
abbrev main_v39 : Ref sig .tc := ⟨.hbm, 97, rfl⟩
abbrev main_v40 : Ref sig .tc := ⟨.hbm, 98, rfl⟩
abbrev main_v41 : Ref sig .tc := ⟨.hbm, 99, rfl⟩
abbrev main_v42 : Ref sig .tc := ⟨.hbm, 100, rfl⟩
abbrev main_v43 : Ref sig .tc := ⟨.hbm, 101, rfl⟩
abbrev main_v44 : Ref sig .tc := ⟨.hbm, 102, rfl⟩
abbrev main_v45 : Ref sig .tc := ⟨.hbm, 103, rfl⟩
abbrev main_v46 : Ref sig .tc := ⟨.hbm, 104, rfl⟩
abbrev main_v47 : Ref sig .tc := ⟨.hbm, 105, rfl⟩
abbrev main_v48 : Ref sig .tc := ⟨.hbm, 106, rfl⟩
abbrev main_v49 : Ref sig .tc := ⟨.hbm, 107, rfl⟩
abbrev main_v50 : Ref sig .tc := ⟨.hbm, 108, rfl⟩
abbrev main_v51 : Ref sig .tc := ⟨.hbm, 109, rfl⟩
abbrev main_v52 : Ref sig .tc := ⟨.hbm, 110, rfl⟩
abbrev main_v53 : Ref sig .tc := ⟨.hbm, 111, rfl⟩
abbrev main_v54 : Ref sig .tc := ⟨.hbm, 112, rfl⟩
abbrev main_v55 : Ref sig .tc := ⟨.hbm, 113, rfl⟩
abbrev main_v56 : Ref sig .tc := ⟨.hbm, 114, rfl⟩
abbrev main_v57 : Ref sig .tc := ⟨.hbm, 115, rfl⟩
abbrev main_v58 : Ref sig .tc := ⟨.hbm, 116, rfl⟩
abbrev main_v59 : Ref sig .tc := ⟨.hbm, 117, rfl⟩
abbrev main_v60 : Ref sig .tc := ⟨.hbm, 118, rfl⟩
abbrev main_v61 : Ref sig .tc := ⟨.hbm, 119, rfl⟩
abbrev main_v62 : Ref sig .tc := ⟨.hbm, 120, rfl⟩
abbrev main_v63 : Ref sig .tc := ⟨.hbm, 121, rfl⟩
abbrev main_v64 : Ref sig .tc := ⟨.hbm, 122, rfl⟩
abbrev main_v65 : Ref sig .tc := ⟨.hbm, 123, rfl⟩
abbrev main_v66 : Ref sig .tc := ⟨.hbm, 124, rfl⟩
abbrev main_v67 : Ref sig .tc := ⟨.hbm, 125, rfl⟩
abbrev main_v68 : Ref sig .tc := ⟨.hbm, 126, rfl⟩
abbrev main_v69 : Ref sig .tc := ⟨.hbm, 127, rfl⟩
abbrev main_v70 : Ref sig .tc := ⟨.hbm, 128, rfl⟩
abbrev main_v71 : Ref sig .tc := ⟨.hbm, 129, rfl⟩
abbrev main_v72 : Ref sig .tc := ⟨.hbm, 130, rfl⟩
abbrev main_v73 : Ref sig .tc := ⟨.hbm, 131, rfl⟩
abbrev main_v74 : Ref sig .tc := ⟨.hbm, 132, rfl⟩
abbrev main_v75 : Ref sig .tc := ⟨.hbm, 133, rfl⟩
abbrev main_v76 : Ref sig .tc := ⟨.hbm, 134, rfl⟩
abbrev main_v77 : Ref sig .tc := ⟨.hbm, 135, rfl⟩
abbrev main_v78 : Ref sig .tc := ⟨.hbm, 136, rfl⟩
abbrev main_cst_4 : Ref sig .tc := ⟨.hbm, 137, rfl⟩
abbrev main_v79 : Ref sig .tc := ⟨.hbm, 138, rfl⟩
abbrev main_v80 : Ref sig .tc := ⟨.hbm, 139, rfl⟩
abbrev main_v81 : Ref sig .tc := ⟨.hbm, 140, rfl⟩
abbrev main_v82 : Ref sig .tc := ⟨.hbm, 141, rfl⟩
abbrev main_v83 : Ref sig .tc := ⟨.hbm, 142, rfl⟩
abbrev main_v84 : Ref sig .tc := ⟨.hbm, 143, rfl⟩
abbrev main_v85 : Ref sig .tc := ⟨.hbm, 144, rfl⟩

abbrev nD : Nat := 1
abbrev τ : Topo := Topo.v7x

variable {F : FTy → Type} [FloatOps F]
-- ==== Proof.Sched.lean ====
/-
# The mesh, the memrefs, the contents and the schedule of the kernel's semaphores

The 2x2 mesh has three involutions: the neighbour along `x` (`xn`), along `y` (`yn`) and across the diagonal (`dn`).
A device trades the barrier with all three, then sends seven blocks: its boundary row to `xn`, its boundary column to
`yn`, its corner to `dn`, its corner to `yn`, and its statistics to all three. Each of the seven transfers has a send
cell on the sender and a receive cell on the receiver.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.NormConv

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy, and the mesh protocol's with three duty names -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every semaphore at zero, any generator registers. -/
def s₀ : MemSt nD τ sig (Elt F) := ⟨m, fun _ => 0, ρ⟩

/-! ## The mesh: device `d` stands at row `d / 2`, column `d % 2` -/

set_option backward.proofsInPublic true in
/-- The neighbour along `x`. -/
def xn (c : Dev nD) : Dev nD := ⟨(c.val + 2) % 4, Nat.mod_lt _ (by decide)⟩
set_option backward.proofsInPublic true in
/-- The neighbour along `y`. -/
def yn (c : Dev nD) : Dev nD := ⟨(c.val + 1 + 2 * (1 - c.val % 2) + 2) % 4, Nat.mod_lt _ (by decide)⟩
set_option backward.proofsInPublic true in
/-- The neighbour across the diagonal. -/
def dn (c : Dev nD) : Dev nD := ⟨(3 + 3 * c.val) % 4, Nat.mod_lt _ (by decide)⟩

/-- The peer of the `j`-th transfer. -/
def nb : Fin 7 → Dev nD → Dev nD := ![xn, yn, dn, yn, xn, yn, dn]

theorem xn_xn (c : Dev nD) : xn (xn c) = c := by revert c; decide
theorem yn_yn (c : Dev nD) : yn (yn c) = c := by revert c; decide
theorem dn_dn (c : Dev nD) : dn (dn c) = c := by revert c; decide
theorem nb_nb (j : Fin 7) (c : Dev nD) : nb j (nb j c) = c := by revert j c; decide

theorem dev1_eq (c : Dev nD) : (⟨k0_dev1 c, k0_dev1_lt c⟩ : Dev nD) = xn c := Fin.ext ((k0_dev1_eq c).trans (by revert c; decide))
theorem dev2_eq (c : Dev nD) : (⟨k0_dev2 c, k0_dev2_lt c⟩ : Dev nD) = yn c := Fin.ext ((k0_dev2_eq c).trans (by revert c; decide))
theorem dev3_eq (c : Dev nD) : (⟨k0_dev3 c, k0_dev3_lt c⟩ : Dev nD) = dn c := Fin.ext ((k0_dev3_eq c).trans (by revert c; decide))
theorem dev4_eq (c : Dev nD) : (⟨k0_dev4 c, k0_dev4_lt c⟩ : Dev nD) = nb 0 c := Fin.ext ((k0_dev4_eq c).trans (by revert c; decide))
theorem dev5_eq (c : Dev nD) : (⟨k0_dev5 c, k0_dev5_lt c⟩ : Dev nD) = nb 1 c := Fin.ext ((k0_dev5_eq c).trans (by revert c; decide))
theorem dev6_eq (c : Dev nD) : (⟨k0_dev6 c, k0_dev6_lt c⟩ : Dev nD) = nb 2 c := Fin.ext ((k0_dev6_eq c).trans (by revert c; decide))
theorem dev7_eq (c : Dev nD) : (⟨k0_dev7 c, k0_dev7_lt c⟩ : Dev nD) = nb 3 c := Fin.ext ((k0_dev7_eq c).trans (by revert c; decide))
theorem dev8_eq (c : Dev nD) : (⟨k0_dev8 c, k0_dev8_lt c⟩ : Dev nD) = nb 4 c := Fin.ext ((k0_dev8_eq c).trans (by revert c; decide))
theorem dev9_eq (c : Dev nD) : (⟨k0_dev9 c, k0_dev9_lt c⟩ : Dev nD) = nb 5 c := Fin.ext ((k0_dev9_eq c).trans (by revert c; decide))
theorem dev10_eq (c : Dev nD) : (⟨k0_dev10 c, k0_dev10_lt c⟩ : Dev nD) = nb 6 c := Fin.ext ((k0_dev10_eq c).trans (by revert c; decide))

/-! ## The memrefs -/

abbrev xM : Memref sig .tc .vmem S2x64x64x64 .f32 := Memref.whole cc0_stg0_0
abbrev kM : Memref sig .tc .vmem S3x3x64 .f32 := Memref.whole cc0_stg1_0
abbrev wM : Memref sig .tc .vmem S64x64 .f32 := Memref.whole cc0_stg2_0
abbrev oM : Memref sig .tc .vmem S2x64x64x64 .f32 := Memref.whole cc0_stg3_0
abbrev pM : Memref sig .tc .vmem S2x66x66x64 .f32 := Memref.whole cc0_scratch0
abbrev stM : Memref sig .tc .vmem S4x4x64 .f32 := Memref.whole cc0_scratch1
abbrev rsS : Memref sig .tc .vmem S2x1x64x64 .f32 := Memref.whole cc0_scratch2
abbrev rsR : Memref sig .tc .vmem S2x1x64x64 .f32 := Memref.whole cc0_scratch3
abbrev csS : Memref sig .tc .vmem S2x64x1x64 .f32 := Memref.whole cc0_scratch4
abbrev csR : Memref sig .tc .vmem S2x64x1x64 .f32 := Memref.whole cc0_scratch5
abbrev dgS : Memref sig .tc .vmem S2x1x1x64 .f32 := Memref.whole cc0_scratch6
abbrev dgR : Memref sig .tc .vmem S2x1x1x64 .f32 := Memref.whole cc0_scratch7
abbrev ycS : Memref sig .tc .vmem S2x1x1x64 .f32 := Memref.whole cc0_scratch8
abbrev ycR : Memref sig .tc .vmem S2x1x1x64 .f32 := Memref.whole cc0_scratch9

theorem slot_inb (i : Fin 4) : ∀ a, (![i.val, 0, 0] : Fin 3 → ℕ) a + S1x4x64.size a ≤ S4x4x64.size a := by revert i; decide

/-- The `i`-th of the four slots of the statistics buffer. -/
abbrev slotR (i : Fin 4) : Rect S4x4x64 := Rect.unit (s := S4x4x64) ![i.val, 0, 0] S1x4x64.size (slot_inb i)
/-- The slot as a buffer of one by four by 64, -/
abbrev slotU (i : Fin 4) : Memref sig .tc .vmem S1x4x64 .f32 := stM.slice (slotR i) (fun _ => rfl)
/-- and with its unit dimension dropped, as the transfers move it. -/
abbrev slotM (i : Fin 4) : Memref sig .tc .vmem S4x64 .f32 := (slotU i).squeeze S4x64 squeezes_S1x4x64_S4x64

/-! ## The cells -/

abbrev barS : Sem sig := (SemArray.scalar (sig.barrier 0 rfl) : Sems sig S_).sem

theorem sendQ_lt (j : Fin 7) : 4 + j.val < 18 := by omega
theorem recvQ_lt (j : Fin 7) : 11 + j.val < 18 := by omega
/-- The send and receive semaphores of the `j`-th transfer. -/
def sendQ (j : Fin 7) : DmaSem sig := ⟨4 + j.val, sendQ_lt j⟩
def recvQ (j : Fin 7) : DmaSem sig := ⟨11 + j.val, recvQ_lt j⟩

abbrev barCell (c : Dev nD) : GSem nD τ sig := ((c : Thread nD τ), .reg barS)
abbrev sendCell (j : Fin 7) (c : Dev nD) : GSem nD τ sig := ((c : Thread nD τ), .dma (sendQ j))
abbrev recvCell (j : Fin 7) (c : Dev nD) : GSem nD τ sig := ((c : Thread nD τ), .dma (recvQ j))

/-- The launch's own semaphores: the seven send ones, then the seven receive ones. -/
def osem (k : Fin 14) : SemLoc sig := .dma ⟨4 + k.val, by have := k.isLt; show 4 + k.val < 18; omega⟩
/-- All the protocol's: the barrier, then those. -/
def csem (k : Fin 15) : SemLoc sig := if h : k.val = 0 then .reg barS else .dma ⟨3 + k.val, by have := k.isLt; show 3 + k.val < 18; omega⟩
abbrev kcell (ck : Dev nD × Fin 15) : GSem nD τ sig := ((ck.1 : Thread nD τ), csem ck.2)

/-- The credit of the `j`-th transfer. -/
def cr : Fin 7 → ℕ := ![rsR.view.dmaCredit, csR.view.dmaCredit, dgR.view.dmaCredit, ycR.view.dmaCredit,
  (slotM 1).view.dmaCredit, (slotM 2).view.dmaCredit, (slotM 3).view.dmaCredit]

theorem cr_pos (j : Fin 7) : 0 < cr j := by
  match j with
  | 0 | 1 | 2 | 3 | 4 | 5 | 6 => exact View.dmaCredit_pos _ (by decide)

/-! ## The contents -/

/-- The device's blocks of the three inputs, as the pipeline stages them. -/
def xstg (c : Dev nD) : (cc0_stg0_0 : Ref sig .tc).ty.Contents (Elt F) := (win0_0.blk (0 : Fin 1)).view.read (Elt F) ((s₀ m ρ).mem ((c : Thread nD τ).loc main_arg0))
def kstg (c : Dev nD) : (cc0_stg1_0 : Ref sig .tc).ty.Contents (Elt F) := (win0_1.blk (0 : Fin 1)).view.read (Elt F) ((s₀ m ρ).mem ((c : Thread nD τ).loc main_arg1))
def wstg (c : Dev nD) : (cc0_stg2_0 : Ref sig .tc).ty.Contents (Elt F) := (win0_2.blk (0 : Fin 1)).view.read (Elt F) ((s₀ m ρ).mem ((c : Thread nD τ).loc main_arg2))

set_option backward.proofsInPublic true in
/-- An index of a block, its row and column read modulo 64. -/
def ix (b : Fin 2) (r q : ℕ) (ch : Fin 64) : S2x64x64x64.Idx :=
  fun a => match a with
    | ⟨0, _⟩ => b
    | ⟨1, _⟩ => ⟨r % 64, Nat.mod_lt _ (by decide)⟩
    | ⟨2, _⟩ => ⟨q % 64, Nat.mod_lt _ (by decide)⟩
    | ⟨3, _⟩ => ch

/-- The row (column) of a block which its neighbour needs: the last of the first block, the first of the second. -/
def edge (p : ℕ) : ℕ := if p = 0 then 63 else 0
/-- The row (column) next to the image's border: the first of the first block, the last of the second. -/
def far (p : ℕ) : ℕ := if p = 0 then 0 else 63

/-- What the device sends: its boundary row; its boundary column; the corner where they meet; its corner on the image's border. -/
def rsV (c : Dev nD) : Vec F S2x1x64x64 .f32 := fun i => xstg m ρ c (ix (i 0) (edge (c.val / 2)) (i 2).val (i 3))
def csV (c : Dev nD) : Vec F S2x64x1x64 .f32 := fun i => xstg m ρ c (ix (i 0) (i 1).val (edge (c.val % 2)) (i 3))
def dgV (c : Dev nD) : Vec F S2x1x1x64 .f32 := fun i => xstg m ρ c (ix (i 0) (edge (c.val / 2)) (edge (c.val % 2)) (i 3))
def ycV (c : Dev nD) : Vec F S2x1x1x64 .f32 := fun i => xstg m ρ c (ix (i 0) (far (c.val / 2)) (edge (c.val % 2)) (i 3))

/-- The device's statistics, as the kernel computes them of its block. -/
def stV (c : Dev nD) : Vec F S1x4x64 .f32 := k0_pay12 (k0_pay10 (xstg m ρ c)) k0_pay11 (Scalar.ofBits .f32 0x00000000#32)

/-- The padded image: entry `(r, q)` of device `c`'s 66 by 66 window is the image's at the global row and column
    clamped to the image, read from the block of the device which has it. -/
def gcl (p r : ℕ) : ℕ := min 127 (64 * p + r - 1)
set_option backward.proofsInPublic true in
def devAt (r q : ℕ) : Dev nD := ⟨(2 * (r / 64) + q / 64) % 4, Nat.mod_lt _ (by decide)⟩
def padAt (c : Dev nD) (b : Fin 2) (r q : ℕ) (ch : Fin 64) : F .f32 :=
  xstg m ρ (devAt (gcl (c.val / 2) r) (gcl (c.val % 2) q)) (ix b (gcl (c.val / 2) r) (gcl (c.val % 2) q) ch)
def padV (c : Dev nD) : Vec F S2x66x66x64 .f32 := fun i => padAt m ρ c (i 0) (i 1).val (i 2).val (i 3)

/-- What the device writes: the kernel's payloads over its block, the four statistics, the padded image, the taps and the matrix. -/
def meanV (c : Dev nD) : FVec F S2x64 .f32 := k0_pay25 (stV m ρ c) (stV m ρ (xn c)) (stV m ρ (yn c)) (stV m ρ (dn c))
def varV (c : Dev nD) : FVec F S2x64 .f32 := k0_pay26 (stV m ρ c) (stV m ρ (xn c)) (stV m ρ (yn c)) (stV m ρ (dn c))
def outAt (c : Dev nD) : (cc0_stg3_0 : Ref sig .tc).ty.Contents (Elt F) :=
  k0_pay1 (k0_pay9 (xstg m ρ c))
    (k0_pay31 (varV m ρ c) (padV m ρ c) (k0_pay27 (kstg m ρ c)) (k0_pay28 (meanV m ρ c) (varV m ρ c) (padV m ρ c) (kstg m ρ c)) (k0_pay29 (padV m ρ c)) (k0_pay30 (varV m ρ c) (kstg m ρ c)))
    (k0_pay32 (wstg m ρ c)) (constant S8192x64 .f32 0x00000000#32)

/-! ## What the cells hand over -/

/-- The whole buffer `b` of device `c` at contents `f`, -/
abbrev pt (c : Dev nD) (b : Ref sig .tc) (f : Buf (Elt F) ((c : Thread nD τ).loc b)) : sProp 𝕄 := ((c : Thread nD τ).loc b) ↦{fullShare} f
/-- at some contents; -/
abbrev anyPt (c : Dev nD) (b : Ref sig .tc) : sProp 𝕄 := iprop(∃ f : Buf (Elt F) ((c : Thread nD τ).loc b), pt c b f)
/-- slot `i` of its statistics buffer at share `q`, read as `X`, -/
abbrev slotAt (c : Dev nD) (i : Fin 4) (q : PosShare TreeShare) (X : Vec F S1x4x64 .f32) : sProp 𝕄 :=
  owns (Ix := Unit) (Name := ℕ) (U := UU) (Lvl := ℕ) (c : Thread nD τ) (slotU i) q X
/-- whatever it reads. -/
abbrev slotAny (c : Dev nD) (i : Fin 4) : sProp 𝕄 := iprop(∃ X : Vec F S1x4x64 .f32, slotAt c i fullShare X)

/-- The share of slot 0 lent to each of the three transfers of the statistics. -/
def lend : Fin 7 → PosShare TreeShare := ![fullShare, fullShare, fullShare, fullShare, fullShare.left, fullShare.right.left, fullShare.right.right]

/-- A signal hands over the buffers which the signalled device will write on the signaller: the row and a slot by the
    neighbour along `x`, the column, a corner and a slot by the one along `y`, a corner and a slot by the diagonal one. -/
def barPay (c : Dev nD) (d : Fin 3) : sProp 𝕄 :=
  match d with
  | 0 => iprop(anyPt (xn c) cc0_scratch3 ∗ slotAny (xn c) 1)
  | 1 => iprop(anyPt (yn c) cc0_scratch5 ∗ anyPt (yn c) cc0_scratch9 ∗ slotAny (yn c) 2)
  | 2 => iprop(anyPt (dn c) cc0_scratch7 ∗ slotAny (dn c) 3)

/-- A send cell hands the source back, -/
def sendPay (j : Fin 7) (c : Dev nD) : sProp 𝕄 :=
  match j with
  | 0 => pt c cc0_scratch2 (rsV m ρ c)
  | 1 => pt c cc0_scratch4 (csV m ρ c)
  | 2 => pt c cc0_scratch6 (dgV m ρ c)
  | 3 => pt c cc0_scratch8 (ycV m ρ c)
  | 4 => slotAt c 0 (lend 4) (stV m ρ c)
  | 5 => slotAt c 0 (lend 5) (stV m ρ c)
  | 6 => slotAt c 0 (lend 6) (stV m ρ c)
/-- a receive cell the buffer which holds the peer's block. -/
def recvPay (j : Fin 7) (c : Dev nD) : sProp 𝕄 :=
  match j with
  | 0 => pt c cc0_scratch3 (rsV m ρ (xn c))
  | 1 => pt c cc0_scratch5 (csV m ρ (yn c))
  | 2 => pt c cc0_scratch7 (dgV m ρ (dn c))
  | 3 => pt c cc0_scratch9 (ycV m ρ (yn c))
  | 4 => slotAt c 1 fullShare (stV m ρ (xn c))
  | 5 => slotAt c 2 fullShare (stV m ρ (yn c))
  | 6 => slotAt c 3 fullShare (stV m ρ (dn c))

omit [FloatOps F] in
instance barPay_storable (c : Dev nD) (d : Fin 3) : BI.Storable (upEmb : UEmb _ 𝕄) (barPay (F := F) c d) := by
  match d with
  | 0 | 1 | 2 => unfold barPay; infer_instance
instance sendPay_storable (j : Fin 7) (c : Dev nD) : BI.Storable (upEmb : UEmb _ 𝕄) (sendPay m ρ j c) := by
  match j with
  | 0 | 1 | 2 | 3 | 4 | 5 | 6 => unfold sendPay; infer_instance
instance recvPay_storable (j : Fin 7) (c : Dev nD) : BI.Storable (upEmb : UEmb _ 𝕄) (recvPay m ρ j c) := by
  match j with
  | 0 | 1 | 2 | 3 | 4 | 5 | 6 => unfold recvPay; infer_instance

/-! ## The schedule: one round, round 0 -/

theorem xfer_lt (n : ℕ) : n % 7 < 7 := Nat.mod_lt _ (by decide)
/-- The transfer a DMA semaphore belongs to. -/
def xferOf (q : DmaSem sig) : Fin 7 := ⟨(q.val - 4) % 7, xfer_lt _⟩

theorem xferOf_send (j : Fin 7) : xferOf (sendQ j) = j := by revert j; decide
theorem xferOf_recv (j : Fin 7) : xferOf (recvQ j) = j := by revert j; decide

/-- The barrier's cell has three duties of one unit; a DMA cell of the protocol one, of its transfer's credit. -/
def rd : Rounds.Schedule (GSem nD τ sig) (Fin 3) 𝕄 where
  duties g r := if r = 0 ∧ g.1.2 = .tc then (match g.2 with | .reg _ => Finset.univ | .dma q => if 4 ≤ q.val then {0} else ∅) else ∅
  unitless _ := False
  amount g _ _ := match g.2 with | .reg _ => 1 | .dma q => cr (xferOf q)
  payload g _ d := match g.2 with
    | .reg _ => barPay g.1.1 d
    | .dma q => if q.val < 11 then sendPay m ρ (xferOf q) g.1.1 else recvPay m ρ (xferOf q) g.1.1
  amount_pos g _ _ _ := by
    cases g.2 with
    | reg s => exact Nat.one_pos
    | dma q => exact cr_pos _

instance rd_payload_storable (g : GSem nD τ sig) (r : ℕ) (d : Fin 3) : BI.Storable (upEmb : UEmb _ 𝕄) ((rd (F := F) m ρ).payload g r d) := by
  obtain ⟨t, sm⟩ := g
  cases sm with
  | reg s => exact barPay_storable t.1 d
  | dma q =>
    show BI.Storable upEmb (if q.val < 11 then sendPay m ρ (xferOf q) t.1 else recvPay m ρ (xferOf q) t.1)
    split <;> infer_instance

section Sched
variable (c : Dev nD) (j : Fin 7)

theorem duties_bar : (rd (F := F) m ρ).duties (barCell c) 0 = Finset.univ := by
  dsimp only [rd]; exact if_pos ⟨rfl, rfl⟩
theorem duties_send : (rd (F := F) m ρ).duties (sendCell j c) 0 = {0} := by
  dsimp only [rd]; exact (if_pos ⟨rfl, rfl⟩).trans (if_pos (show 4 ≤ (sendQ j).val from Nat.le_add_right 4 _))
theorem duties_recv : (rd (F := F) m ρ).duties (recvCell j c) 0 = {0} := by
  dsimp only [rd]; exact (if_pos ⟨rfl, rfl⟩).trans (if_pos (show 4 ≤ (recvQ j).val from Nat.le_trans (by decide) (Nat.le_add_right 11 _)))
theorem duties_later (g : GSem nD τ sig) : ∀ r, 1 ≤ r → (rd (F := F) m ρ).duties g r = ∅ :=
  fun r hr => if_neg fun h => by omega

theorem amount_bar (d : Fin 3) : (rd (F := F) m ρ).amount (barCell c) 0 d = 1 := rfl
theorem amount_send (d : Fin 3) : (rd (F := F) m ρ).amount (sendCell j c) 0 d = cr j := congrArg cr (xferOf_send j)
theorem amount_recv (d : Fin 3) : (rd (F := F) m ρ).amount (recvCell j c) 0 d = cr j := congrArg cr (xferOf_recv j)

theorem payload_bar (d : Fin 3) : (rd (F := F) m ρ).payload (barCell c) 0 d = barPay c d := rfl
theorem payload_send (d : Fin 3) : (rd (F := F) m ρ).payload (sendCell j c) 0 d = sendPay m ρ j c :=
  (if_pos (show (sendQ j).val < 11 by have := j.isLt; show 4 + j.val < 11; omega)).trans (by rw [xferOf_send])
theorem payload_recv (d : Fin 3) : (rd (F := F) m ρ).payload (recvCell j c) 0 d = recvPay m ρ j c :=
  (if_neg (show ¬ (recvQ j).val < 11 by show ¬ 11 + j.val < 11; omega)).trans (by rw [xferOf_recv])

theorem expect_bar : (rd (F := F) m ρ).expect (barCell c) 0 = 3 := by
  unfold Schedule.expect Schedule.amountOf
  rw [duties_bar, Finset.sum_congr rfl fun d _ => amount_bar m ρ c d, Finset.sum_const, Finset.card_univ, Fintype.card_fin, smul_eq_mul]
theorem expect_send : (rd (F := F) m ρ).expect (sendCell j c) 0 = cr j := by
  unfold Schedule.expect Schedule.amountOf; rw [duties_send, Finset.sum_singleton, amount_send]
theorem expect_recv : (rd (F := F) m ρ).expect (recvCell j c) 0 = cr j := by
  unfold Schedule.expect Schedule.amountOf; rw [duties_recv, Finset.sum_singleton, amount_recv]

/-- The rest of each round, no duty taken. -/
theorem rest_bar : bigSep ((rd (F := F) m ρ).duties (barCell c) 0 \ ∅) (fun d => (rd (F := F) m ρ).payload (barCell c) 0 d)
    = iprop(barPay c 0 ∗ barPay c 1 ∗ barPay c 2) := by
  rw [Finset.sdiff_empty, duties_bar, bigSep_univ_eq_bigSepL [0, 1, 2] (by decide) (by decide), bigSepL_cons_cons, bigSepL_cons_cons, bigSepL_singleton,
    payload_bar, payload_bar, payload_bar]
  rfl
theorem rest_send : bigSep ((rd (F := F) m ρ).duties (sendCell j c) 0 \ ∅) (fun d => (rd (F := F) m ρ).payload (sendCell j c) 0 d) = sendPay m ρ j c := by
  rw [Finset.sdiff_empty, duties_send, bigSep_singleton, payload_send]
theorem rest_recv : bigSep ((rd (F := F) m ρ).duties (recvCell j c) 0 \ ∅) (fun d => (rd (F := F) m ρ).payload (recvCell j c) 0 d) = recvPay m ρ j c := by
  rw [Finset.sdiff_empty, duties_recv, bigSep_singleton, payload_recv]

end Sched

/-! ## What a device owes: the program pays the last summand first -/

/-- The seven transfers, the last one first, then the three signals, the last one first. -/
def dueSem : ℕ → SemLoc sig
  | 0 => .dma (recvQ 6) | 1 => .dma (recvQ 5) | 2 => .dma (recvQ 4) | 3 => .dma (recvQ 3) | 4 => .dma (recvQ 2) | 5 => .dma (recvQ 1) | 6 => .dma (recvQ 0)
  | _ => .reg barS
def dueTo : ℕ → Dev nD → Dev nD
  | 0 => nb 6 | 1 => nb 5 | 2 => nb 4 | 3 => nb 3 | 4 => nb 2 | 5 => nb 1 | 6 => nb 0
  | 7 => dn | 8 => yn | _ => xn
def dueAmt : ℕ → ℕ
  | 0 => cr 6 | 1 => cr 5 | 2 => cr 4 | 3 => cr 3 | 4 => cr 2 | 5 => cr 1 | 6 => cr 0
  | _ => 1
abbrev dueCell (n : ℕ) (c : Dev nD) : GSem nD τ sig := ((dueTo n c : Thread nD τ), dueSem n)

/-- The first `n` debts of device `c`. -/
def due (c : Dev nD) : ℕ → CellTallies nD τ sig Unit
  | 0 => 0
  | n + 1 => due c n + tallyAt (dueCell n c) () (dueAmt n)

theorem dueTo_dueTo (n : ℕ) (c : Dev nD) : dueTo n (dueTo n c) = c := by
  match n with
  | 0 | 1 | 2 | 3 | 4 | 5 | 6 => exact nb_nb _ c
  | 7 => exact dn_dn c
  | 8 => exact yn_yn c
  | _ + 9 => exact xn_xn c

theorem due_pos {c : Dev nD} {n : ℕ} {g : GSem nD τ sig} {u : Unit} (h : 0 < due c n g u) : ∃ i, i < n ∧ g = dueCell i c := by
  induction n with
  | zero => exact absurd h (Nat.lt_irrefl 0)
  | succ n ih =>
    have h' : 0 < due c n g u + tallyAt (dueCell n c) () (dueAmt n) g u := h
    rcases Nat.eq_zero_or_pos (due c n g u) with h0 | h0
    · rw [h0, Nat.zero_add] at h'
      exact ⟨n, Nat.lt_succ_self n, (Pipeline.tallyAt_pos h').1⟩
    · obtain ⟨i, hi, e⟩ := ih h0
      exact ⟨i, Nat.lt_succ_of_lt hi, e⟩

/-! ## The levels: the barrier below the receive cells, everything else at zero -/

def L (g : GSem nD τ sig) : Finset Unit := if g.1.2 = .tc then {()} else ∅
def lv (g : GSem nD τ sig) (_ : Unit) : ℕ := match g.2 with | .reg _ => 1 | .dma q => if 11 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_due (n : ℕ) (c : Dev nD) (u : Unit) : 0 < lv (dueCell n c) u ∧ (n < 7 → 1 < lv (dueCell n c) u) := by
  have h (j : Fin 7) (d : Dev nD) : lv (recvCell j d) u = 2 := if_pos (Nat.le_add_right 11 _)
  match n with
  | 0 | 1 | 2 | 3 | 4 | 5 | 6 => exact ⟨Nat.lt_of_lt_of_eq (by decide) (h _ _).symm, fun _ => Nat.lt_of_lt_of_eq (by decide) (h _ _).symm⟩
  | n + 7 => exact ⟨Nat.one_pos, fun h => absurd h (by omega)⟩

theorem mayWait_due (c : Dev nD) (sm : SemLoc sig) (n l : ℕ) (hl : lv ((c : Thread nD τ), sm) () ≤ l) (hd : ∀ i < n, l < lv (dueCell i c) ()) :
    (levAts L lv : sProp 𝕄) ⊢ MayWait (c : Thread nD τ) sm () (due c n) :=
  MayOwe.of_cut (L := L) (lev := lv) l (fun p hp => by rw [Finset.mem_singleton.mp hp, L_tc]; exact Finset.mem_singleton_self _)
    (fun g u hg => by obtain ⟨i, _, rfl⟩ := due_pos hg; exact Finset.mem_singleton_self _)
    (fun p hp => by rw [Finset.mem_singleton.mp hp]; exact hl)
    (fun g u hg => by obtain ⟨i, hi, rfl⟩ := due_pos hg; exact hd i hi)

/-- A staging wait comes before every debt. -/
theorem mayWait_stage (c : Dev nD) (q : DmaSem sig) (hq : q.val < 11) (n : ℕ) : (levAts L lv : sProp 𝕄) ⊢ MayWait (c : Thread nD τ) (.dma q) () (due c n) :=
  mayWait_due c _ n 0 (Nat.le_of_eq (if_neg (by omega))) fun i _ => (lv_due i c ()).1
/-- At the barrier's wait a device owes transfers only. -/
theorem mayWait_bar (c : Dev nD) : (levAts L lv : sProp 𝕄) ⊢ MayWait (c : Thread nD τ) (.reg barS) () (due c 7) :=
  mayWait_due c _ 7 1 (Nat.le_refl 1) fun i hi => (lv_due i c ()).2 hi

end Cert.NormConv

end
-- ==== Proof.Data.lean ====
/-
# The data the kernel moves, as functions of the launch memory

What each load reads and each store writes, index by index: the four blocks a device sends, and the padded image which
seven stores build in the scratch buffer.
-/
module

public import proofs.«01_k».proof.Proof.Sched
public import Idealize.ShloMosaic.Lib.Pipeline.Value

@[expose] public section

noncomputable section

namespace Cert.NormConv

open Cert.KernelIdeal Cert.KernelIdeal.Gen
open Idealize.ShloMosaic
open Idealize.ShloMosaic.TcCoe

variable {F : FTy → Type} [FloatOps F]
variable (m : (ℓ : Loc nD τ sig) → Buf (Elt F) ℓ) (ρ : Dev nD → PrngReg)

/-! ## The kernel's offsets -/

/-- The padded row (column) which the neighbour's block fills, and the one beyond the image's border. -/
def edgeP (p : ℕ) : ℕ := if p = 0 then 65 else 0
def farP (p : ℕ) : ℕ := if p = 0 then 0 else 65

theorem off1_edge (c : Dev nD) : k0_off1 c 63#32 0#32 = ![0, edge (c.val / 2), 0, 0] := by revert c; decide
theorem off1_far (c : Dev nD) : k0_off1 c 0#32 63#32 = ![0, far (c.val / 2), 0, 0] := by revert c; decide
theorem off2_edge (c : Dev nD) : k0_off2 c 63#32 0#32 = ![0, edge (c.val / 2), 63, 0] := by revert c; decide
theorem off2_far (c : Dev nD) : k0_off2 c 0#32 63#32 = ![0, far (c.val / 2), 63, 0] := by revert c; decide
theorem off3_edge (c : Dev nD) : k0_off3 c 63#32 0#32 = ![0, edge (c.val / 2), 0, 0] := by revert c; decide
theorem off3_far (c : Dev nD) : k0_off3 c 0#32 63#32 = ![0, far (c.val / 2), 0, 0] := by revert c; decide
theorem off4_far (c : Dev nD) : k0_off4 c 0#32 65#32 = ![0, farP (c.val / 2), 1, 0] := by revert c; decide
theorem off4_edge (c : Dev nD) : k0_off4 c 65#32 0#32 = ![0, edgeP (c.val / 2), 1, 0] := by revert c; decide
theorem off5_edge (c : Dev nD) : k0_off5 c 65#32 0#32 = ![0, edgeP (c.val / 2), 65, 0] := by revert c; decide
theorem off5_far (c : Dev nD) : k0_off5 c 0#32 65#32 = ![0, farP (c.val / 2), 65, 0] := by revert c; decide
theorem off6_edge (c : Dev nD) : k0_off6 c 65#32 0#32 = ![0, edgeP (c.val / 2), 0, 0] := by revert c; decide
theorem off6_far (c : Dev nD) : k0_off6 c 0#32 65#32 = ![0, farP (c.val / 2), 0, 0] := by revert c; decide

theorem cond1_iff (c : Dev nD) : k0_cond1 c = 1#1 ↔ c.val % 2 = 0 := by revert c; decide
theorem cond2_iff (c : Dev nD) : k0_cond2 c = 1#1 ↔ c.val % 2 = 1 := by revert c; decide
theorem cond3_iff (c : Dev nD) : k0_cond3 c = 1#1 ↔ c.val % 2 = 0 := by revert c; decide
theorem cond4_iff (c : Dev nD) : k0_cond4 c = 1#1 ↔ c.val % 2 = 1 := by revert c; decide

theorem xn_coords (c : Dev nD) : (xn c).val / 2 = 1 - c.val / 2 ∧ (xn c).val % 2 = c.val % 2 := by revert c; decide
theorem yn_coords (c : Dev nD) : (yn c).val / 2 = c.val / 2 ∧ (yn c).val % 2 = 1 - c.val % 2 := by revert c; decide
theorem dn_coords (c : Dev nD) : (dn c).val / 2 = 1 - c.val / 2 ∧ (dn c).val % 2 = 1 - c.val % 2 := by revert c; decide
theorem row_le (c : Dev nD) : c.val / 2 ≤ 1 ∧ c.val % 2 ≤ 1 := by revert c; decide

/-! ## Payloads that only recast a shape to itself -/

theorem pay2_id (v : Vec F S2x1x64x64 .f32) : k0_pay2 v = v := (shapeCast_self _ _).trans (shapeCast_self _ _)
theorem pay3_id (v : Vec F S2x64x1x64 .f32) : k0_pay3 v = v := (shapeCast_self _ _).trans (shapeCast_self _ _)
theorem pay4_id (v : Vec F S2x1x1x64 .f32) : k0_pay4 v = v := (shapeCast_self _ _).trans (shapeCast_self _ _)
theorem pay5_id (v : Vec F S2x1x1x64 .f32) : k0_pay5 v = v := (shapeCast_self _ _).trans (shapeCast_self _ _)
theorem pay6_id (v : Vec F S2x64x1x64 .f32) : k0_pay6 v = v := (shapeCast_self _ _).trans (shapeCast_self _ _)
theorem pay7_id (v : Vec F S2x1x1x64 .f32) : k0_pay7 v = v := (shapeCast_self _ _).trans (shapeCast_self _ _)
theorem pay8_id (v : Vec F S2x1x1x64 .f32) : k0_pay8 v = v := (shapeCast_self _ _).trans (shapeCast_self _ _)
theorem pay9_id (v : Vec F S2x64x64x64 .f32) : k0_pay9 v = v := shapeCast_self _ _
theorem pay13_id (v : Vec F S2x64x64x64 .f32) : k0_pay13 v = v := shapeCast_self _ _
theorem pay14_id (v : Vec F S2x1x64x64 .f32) : k0_pay14 v = v := (shapeCast_self _ _).trans (shapeCast_self _ _)
theorem pay15_id (v : Vec F S2x1x64x64 .f32) : k0_pay15 v = v := shapeCast_self _ _
theorem pay16_id (v : Vec F S2x66x1x64 .f32) : k0_pay16 v = v := shapeCast_self _ _
theorem pay17_id (v : Vec F S2x64x1x64 .f32) : k0_pay17 v = v := shapeCast_self _ _
theorem pay18_id (v : Vec F S2x1x1x64 .f32) : k0_pay18 v = v := shapeCast_self _ _
theorem pay19_id (v : Vec F S2x1x1x64 .f32) : k0_pay19 v = v := shapeCast_self _ _
theorem pay20_id (v : Vec F S2x66x1x64 .f32) : k0_pay20 v = v := shapeCast_self _ _
theorem pay21_id (v : Vec F S2x64x1x64 .f32) : k0_pay21 v = v := shapeCast_self _ _
theorem pay22_id (v : Vec F S2x1x1x64 .f32) : k0_pay22 v = v := shapeCast_self _ _
theorem pay23_id (v : Vec F S2x1x1x64 .f32) : k0_pay23 v = v := shapeCast_self _ _
theorem pay27_id (v : Vec F S3x3x64 .f32) : k0_pay27 v = v := shapeCast_self _ _
theorem pay32_id (v : Vec F S64x64 .f32) : k0_pay32 v = v := shapeCast_self _ _

/-! ## The blocks sent -/

/-- A load from the block through a unit-stride rectangle reads at the shifted index. -/
theorem read_x {off sz : Fin 4 → ℕ} {inb} (f : Vec F S2x64x64x64 .f32) (i : (Rect.unit (s := S2x64x64x64) off sz inb).shape.Idx)
    (R C : ℕ) (hoff : off = ![0, R, C, 0]) (b : Fin 2) (r q : ℕ) (ch : Fin 64)
    (h0 : b.val = (i 0).val) (h1 : r % 64 = R + (i 1).val) (h2 : q % 64 = C + (i 2).val) (h3 : ch.val = (i 3).val) :
    (xM : Memref sig .tc .vmem S2x64x64x64 .f32).view.readAt (Elt F) (Rect.unit (s := S2x64x64x64) off sz inb).toLoadRect f i = f (ix b r q ch) := by
  subst hoff
  refine congrArg f (funext fun a => Fin.ext ?_)
  match a with
  | 0 => show 0 + 1 * (i 0).val = b.val; omega
  | 1 => show R + 1 * (i 1).val = r % 64; omega
  | 2 => show C + 1 * (i 2).val = q % 64; omega
  | 3 => show 0 + 1 * (i 3).val = ch.val; omega

theorem edge_mod (p : ℕ) : edge p % 64 = edge p := by unfold edge; split <;> rfl
theorem far_mod (p : ℕ) : far p % 64 = far p := by unfold far; split <;> rfl

theorem load_rs (c : Dev nD) {inb} : k0_pay2 (xM.view.readAt (Elt F) (Rect.unit (s := S2x64x64x64) (k0_off1 c 63#32 0#32) S2x1x64x64.size inb).toLoadRect (xstg m ρ c)) = rsV m ρ c := by
  rw [pay2_id]; unfold rsV; funext i
  have h1 : (i 1).val < 1 := (i 1).isLt
  exact read_x _ i _ _ (off1_edge c) _ _ _ _ rfl (by rw [edge_mod]; omega) (by rw [Nat.mod_eq_of_lt (show (i 2).val < 64 from (i 2).isLt), Nat.zero_add]) rfl

theorem load_cs0 (c : Dev nD) (h : c.val % 2 = 0) {inb} : k0_pay3 (xM.view.readAt (Elt F) (Rect.unit (s := S2x64x64x64) ![0, 0, 63, 0] S2x64x1x64.size inb).toLoadRect (xstg m ρ c)) = csV m ρ c := by
  rw [pay3_id]; unfold csV; funext i
  have h2 : (i 2).val < 1 := (i 2).isLt
  exact read_x _ i _ _ rfl _ _ _ _ rfl (by rw [Nat.mod_eq_of_lt (show (i 1).val < 64 from (i 1).isLt), Nat.zero_add]) (by rw [h]; show 63 = _; omega) rfl

theorem load_cs1 (c : Dev nD) (h : c.val % 2 = 1) {inb} : k0_pay6 (xM.view.readAt (Elt F) (Rect.unit (s := S2x64x64x64) ![0, 0, 0, 0] S2x64x1x64.size inb).toLoadRect (xstg m ρ c)) = csV m ρ c := by
  rw [pay6_id]; unfold csV; funext i
  have h2 : (i 2).val < 1 := (i 2).isLt
  exact read_x _ i _ _ rfl _ _ _ _ rfl (by rw [Nat.mod_eq_of_lt (show (i 1).val < 64 from (i 1).isLt), Nat.zero_add]) (by rw [h]; show 0 = _; omega) rfl

/-- The corner blocks: one row, one column. -/
theorem read_corner (c : Dev nD) {off : Fin 4 → ℕ} {inb} (R C : ℕ) (hoff : off = ![0, R, C, 0]) (r q : ℕ) (hr : r % 64 = R) (hq : q % 64 = C) :
    xM.view.readAt (Elt F) (Rect.unit (s := S2x64x64x64) off S2x1x1x64.size inb).toLoadRect (xstg m ρ c)
      = (fun i : S2x1x1x64.Idx => xstg m ρ c (ix (i 0) r q (i 3))) := by
  funext i
  have h1 : (i 1).val < 1 := (i 1).isLt
  have h2 : (i 2).val < 1 := (i 2).isLt
  exact read_x _ i _ _ hoff _ _ _ _ rfl (by omega) (by omega) rfl

theorem load_dg0 (c : Dev nD) (h : c.val % 2 = 0) {inb} : k0_pay4 (xM.view.readAt (Elt F) (Rect.unit (s := S2x64x64x64) (k0_off2 c 63#32 0#32) S2x1x1x64.size inb).toLoadRect (xstg m ρ c)) = dgV m ρ c := by
  rw [pay4_id]; unfold dgV
  exact read_corner m ρ c _ _ (off2_edge c) _ _ (edge_mod _) (by rw [h]; rfl)
theorem load_dg1 (c : Dev nD) (h : c.val % 2 = 1) {inb} : k0_pay7 (xM.view.readAt (Elt F) (Rect.unit (s := S2x64x64x64) (k0_off3 c 63#32 0#32) S2x1x1x64.size inb).toLoadRect (xstg m ρ c)) = dgV m ρ c := by
  rw [pay7_id]; unfold dgV
  exact read_corner m ρ c _ _ (off3_edge c) _ _ (edge_mod _) (by rw [h]; rfl)
theorem load_yc0 (c : Dev nD) (h : c.val % 2 = 0) {inb} : k0_pay5 (xM.view.readAt (Elt F) (Rect.unit (s := S2x64x64x64) (k0_off2 c 0#32 63#32) S2x1x1x64.size inb).toLoadRect (xstg m ρ c)) = ycV m ρ c := by
  rw [pay5_id]; unfold ycV
  exact read_corner m ρ c _ _ (off2_far c) _ _ (far_mod _) (by rw [h]; rfl)
theorem load_yc1 (c : Dev nD) (h : c.val % 2 = 1) {inb} : k0_pay8 (xM.view.readAt (Elt F) (Rect.unit (s := S2x64x64x64) (k0_off3 c 0#32 63#32) S2x1x1x64.size inb).toLoadRect (xstg m ρ c)) = ycV m ρ c := by
  rw [pay8_id]; unfold ycV
  exact read_corner m ρ c _ _ (off3_far c) _ _ (far_mod _) (by rw [h]; rfl)

/-! ## The padded image -/

/-- An entry of the padded image is the entry of the block which has its clamped row and column. -/
theorem padV_of (c d : Dev nD) (i : S2x66x66x64.Idx) (j : S2x64x64x64.Idx) (h0 : (i 0).val = (j 0).val) (h3 : (i 3).val = (j 3).val)
    (h1 : gcl (c.val / 2) (i 1).val = 64 * (d.val / 2) + (j 1).val) (h2 : gcl (c.val % 2) (i 2).val = 64 * (d.val % 2) + (j 2).val) :
    padV m ρ c i = xstg m ρ d j := by
  have l1 : (j 1).val < 64 := (j 1).isLt
  have l2 : (j 2).val < 64 := (j 2).isLt
  have ld := d.isLt
  have lr := row_le d
  unfold padV padAt
  rw [h1, h2]
  have hd : devAt (64 * (d.val / 2) + (j 1).val) (64 * (d.val % 2) + (j 2).val) = d := Fin.ext (by
    show (2 * ((64 * (d.val / 2) + (j 1).val) / 64) + (64 * (d.val % 2) + (j 2).val) / 64) % 4 = d.val
    omega)
  rw [hd]
  refine congrArg _ (funext fun a => Fin.ext ?_)
  match a with
  | 0 => exact h0
  | 1 => show (64 * (d.val / 2) + (j 1).val) % 64 = (j 1).val; omega
  | 2 => show (64 * (d.val % 2) + (j 2).val) % 64 = (j 2).val; omega
  | 3 => exact h3

/-- The scratch contents `f` agree with the padded image at the rows and columns `P`. -/
def Ag (c : Dev nD) (f : Vec F S2x66x66x64 .f32) (P : ℕ → ℕ → Prop) : Prop := ∀ i : S2x66x66x64.Idx, P (i 1).val (i 2).val → f i = padV m ρ c i

theorem ag_none (c : Dev nD) (f : Vec F S2x66x66x64 .f32) : Ag m ρ c f fun _ _ => False := fun _ h => h.elim
theorem ag_all (c : Dev nD) (f : Vec F S2x66x66x64 .f32) (P : ℕ → ℕ → Prop) (h : Ag m ρ c f P) (hP : ∀ r q, r < 66 → q < 66 → P r q) : f = padV m ρ c :=
  funext fun i => h i (hP _ _ (i 1).isLt (i 2).isLt)

/-- A store of the padded image's entries extends the agreement by its rectangle. -/
theorem ag_write (c : Dev nD) {off sz : Fin 4 → ℕ} {inb} (f : Vec F S2x66x66x64 .f32) (w : (Rect.unit (s := S2x66x66x64) off sz inb).shape.Idx → F .f32)
    {P : ℕ → ℕ → Prop} (hf : Ag m ρ c f P) (Q : ℕ → ℕ → Prop) (R C n k : ℕ) (hoff : off = ![0, R, C, 0]) (hsz : sz = ![2, n, k, 64])
    (hw : ∀ x, w x = padV m ρ c ((Rect.unit (s := S2x66x66x64) off sz inb).emb x))
    (hQ : ∀ r q, r < 66 → q < 66 → Q r q → P r q ∨ (R ≤ r ∧ r < R + n ∧ C ≤ q ∧ q < C + k)) :
    Ag m ρ c (((pM : Memref sig .tc .vmem S2x66x66x64 .f32).access (Rect.unit (s := S2x66x66x64) off sz inb) : View sig .tc _ _ _).write (Elt F) f w Finset.univ) Q := by
  intro i hi
  by_cases hm : i ∈ (Rect.unit (s := S2x66x66x64) off sz inb).set
  · rw [← Rect.map_emb_univ] at hm
    obtain ⟨x, -, rfl⟩ := Finset.mem_map.mp hm
    exact (View.write_emb_of_mem (v := (pM : Memref sig .tc .vmem S2x66x66x64 .f32).access (Rect.unit (s := S2x66x66x64) off sz inb)) f w (Finset.mem_univ x)).trans (hw x)
  · have hn : i ∉ ((pM : Memref sig .tc .vmem S2x66x66x64 .f32).access (Rect.unit (s := S2x66x66x64) off sz inb) : View sig .tc _ _ _).setOn Finset.univ := by
      rw [View.setOn_univ]
      exact fun h => hm ((View.set_slice_whole cc0_scratch0 _) ▸ h)
    rw [View.write_of_not_mem _ _ _ hn]
    rcases hQ _ _ (i 1).isLt (i 2).isLt hi with hP | hr
    · exact hf i hP
    · refine absurd (Rect.mem_set_unit.mpr fun a => ?_) hm
      subst hoff hsz
      match a with
      | 0 => exact ⟨Nat.zero_le _, by have := (i 0).isLt; show (i 0).val < 0 + 2; rw [Nat.zero_add]; exact this⟩
      | 1 => exact ⟨hr.1, hr.2.1⟩
      | 2 => exact ⟨hr.2.2.1, hr.2.2.2⟩
      | 3 => exact ⟨Nat.zero_le _, by have := (i 3).isLt; show (i 3).val < 0 + 64; rw [Nat.zero_add]; exact this⟩

/-- The interior. -/
theorem st_own (c : Dev nD) {inb} (x : (Rect.unit (s := S2x66x66x64) ![0, 1, 1, 0] S2x64x64x64.size inb).shape.Idx) :
    k0_pay13 (k0_pay9 (xstg m ρ c)) x = padV m ρ c ((Rect.unit (s := S2x66x66x64) ![0, 1, 1, 0] S2x64x64x64.size inb).emb x) := by
  rw [pay13_id, pay9_id]
  have l1 : (x 1).val < 64 := (x 1).isLt
  have l2 : (x 2).val < 64 := (x 2).isLt
  have lr := row_le c
  refine (padV_of m ρ c c _ x ?_ ?_ ?_ ?_).symm
  · show 0 + 1 * (x 0).val = _; omega
  · show 0 + 1 * (x 3).val = _; omega
  · show min 127 (64 * (c.val / 2) + (1 + 1 * (x 1).val) - 1) = _; omega
  · show min 127 (64 * (c.val % 2) + (1 + 1 * (x 2).val) - 1) = _; omega

/-- The row beyond the image's border repeats the border's. -/
theorem st_far (c : Dev nD) (off : Fin 4 → ℕ) (hoff : off = ![0, farP (c.val / 2), 1, 0]) {inb inb'} (x : (Rect.unit (s := S2x66x66x64) off S2x1x64x64.size inb).shape.Idx) :
    k0_pay14 (xM.view.readAt (Elt F) (Rect.unit (s := S2x64x64x64) (k0_off1 c 0#32 63#32) S2x1x64x64.size inb').toLoadRect (xstg m ρ c)) x
      = padV m ρ c ((Rect.unit (s := S2x66x66x64) off S2x1x64x64.size inb).emb x) := by
  subst hoff; rw [pay14_id]
  have l1 : (x 1).val < 1 := (x 1).isLt
  have l2 : (x 2).val < 64 := (x 2).isLt
  have lr := row_le c
  refine (read_x _ x _ _ (off1_far c) (x 0) (far (c.val / 2)) (x 2).val (x 3) rfl (by rw [far_mod]; omega) (by omega) rfl).trans (padV_of m ρ c c _ _ ?_ ?_ ?_ ?_).symm
  · show 0 + 1 * (x 0).val = (x 0).val; omega
  · show 0 + 1 * (x 3).val = (x 3).val; omega
  · show min 127 (64 * (c.val / 2) + (farP (c.val / 2) + 1 * (x 1).val) - 1) = 64 * (c.val / 2) + far (c.val / 2) % 64
    rw [far_mod]
    unfold farP far; split <;> omega
  · show min 127 (64 * (c.val % 2) + (1 + 1 * (x 2).val) - 1) = 64 * (c.val % 2) + (x 2).val % 64; omega

/-- The row across the edge is the `x` neighbour's. -/
theorem st_rs (c : Dev nD) (off : Fin 4 → ℕ) (hoff : off = ![0, edgeP (c.val / 2), 1, 0]) {inb} (x : (Rect.unit (s := S2x66x66x64) off S2x1x64x64.size inb).shape.Idx) :
    k0_pay15 (rsV m ρ (xn c)) x = padV m ρ c ((Rect.unit (s := S2x66x66x64) off S2x1x64x64.size inb).emb x) := by
  subst hoff; rw [pay15_id]
  have l1 : (x 1).val < 1 := (x 1).isLt
  have l2 : (x 2).val < 64 := (x 2).isLt
  have lr := row_le c
  have hn := xn_coords c
  refine (padV_of m ρ c (xn c) _ _ ?_ ?_ ?_ ?_).symm
  · show 0 + 1 * (x 0).val = (x 0).val; omega
  · show 0 + 1 * (x 3).val = (x 3).val; omega
  · show min 127 (64 * (c.val / 2) + (edgeP (c.val / 2) + 1 * (x 1).val) - 1) = 64 * ((xn c).val / 2) + edge ((xn c).val / 2) % 64
    rw [edge_mod, hn.1]
    unfold edgeP edge; split <;> split <;> omega
  · show min 127 (64 * (c.val % 2) + (1 + 1 * (x 2).val) - 1) = 64 * ((xn c).val % 2) + (x 2).val % 64
    rw [hn.2]; omega

/-- The column beyond the image's border (column `C`) repeats the border's (column `C'`), all 66 rows of it. -/
theorem st_col (c : Dev nD) (C C' : ℕ) (hC : gcl (c.val % 2) C = gcl (c.val % 2) C') {inb inb'} (f : Vec F S2x66x66x64 .f32) {P : ℕ → ℕ → Prop} (hf : Ag m ρ c f P)
    (hP : ∀ r, P r C') (x : (Rect.unit (s := S2x66x66x64) ![0, 0, C, 0] S2x66x1x64.size inb).shape.Idx) :
    pM.view.readAt (Elt F) (Rect.unit (s := S2x66x66x64) ![0, 0, C', 0] S2x66x1x64.size inb').toLoadRect f x
      = padV m ρ c ((Rect.unit (s := S2x66x66x64) ![0, 0, C, 0] S2x66x1x64.size inb).emb x) := by
  have l2 : (x 2).val < 1 := (x 2).isLt
  have e : ((Rect.unit (s := S2x66x66x64) ![0, 0, C', 0] S2x66x1x64.size inb').emb x 2).val = C' := by show C' + 1 * (x 2).val = C'; omega
  refine (hf ((Rect.unit (s := S2x66x66x64) ![0, 0, C', 0] S2x66x1x64.size inb').emb x) (by rw [e]; exact hP _)).trans ?_
  unfold padV padAt
  have e' : ((Rect.unit (s := S2x66x66x64) ![0, 0, C, 0] S2x66x1x64.size inb).emb x 2).val = C := by show C + 1 * (x 2).val = C; omega
  rw [e, e', hC]
  rfl

/-- The column across the edge is the `y` neighbour's. -/
theorem st_cs (c : Dev nD) (C : ℕ) (hC : C = edgeP (c.val % 2)) {inb} (x : (Rect.unit (s := S2x66x66x64) ![0, 1, C, 0] S2x64x1x64.size inb).shape.Idx) :
    csV m ρ (yn c) x = padV m ρ c ((Rect.unit (s := S2x66x66x64) ![0, 1, C, 0] S2x64x1x64.size inb).emb x) := by
  subst hC
  have l1 : (x 1).val < 64 := (x 1).isLt
  have l2 : (x 2).val < 1 := (x 2).isLt
  have lr := row_le c
  have hn := yn_coords c
  refine (padV_of m ρ c (yn c) _ _ ?_ ?_ ?_ ?_).symm
  · show 0 + 1 * (x 0).val = (x 0).val; omega
  · show 0 + 1 * (x 3).val = (x 3).val; omega
  · show min 127 (64 * (c.val / 2) + (1 + 1 * (x 1).val) - 1) = 64 * ((yn c).val / 2) + (x 1).val % 64
    rw [hn.1]; omega
  · show min 127 (64 * (c.val % 2) + (edgeP (c.val % 2) + 1 * (x 2).val) - 1) = 64 * ((yn c).val % 2) + edge ((yn c).val % 2) % 64
    rw [edge_mod, hn.2]; unfold edgeP edge; split <;> split <;> omega

/-- The corner across both edges is the diagonal neighbour's, -/
theorem st_dg (c : Dev nD) (off : Fin 4 → ℕ) (hoff : off = ![0, edgeP (c.val / 2), edgeP (c.val % 2), 0]) {inb}
    (x : (Rect.unit (s := S2x66x66x64) off S2x1x1x64.size inb).shape.Idx) :
    dgV m ρ (dn c) x = padV m ρ c ((Rect.unit (s := S2x66x66x64) off S2x1x1x64.size inb).emb x) := by
  subst hoff
  have l1 : (x 1).val < 1 := (x 1).isLt
  have l2 : (x 2).val < 1 := (x 2).isLt
  have lr := row_le c
  have hn := dn_coords c
  refine (padV_of m ρ c (dn c) _ _ ?_ ?_ ?_ ?_).symm
  · show 0 + 1 * (x 0).val = (x 0).val; omega
  · show 0 + 1 * (x 3).val = (x 3).val; omega
  · show min 127 (64 * (c.val / 2) + (edgeP (c.val / 2) + 1 * (x 1).val) - 1) = 64 * ((dn c).val / 2) + edge ((dn c).val / 2) % 64
    rw [edge_mod, hn.1]; unfold edgeP edge; split <;> split <;> omega
  · show min 127 (64 * (c.val % 2) + (edgeP (c.val % 2) + 1 * (x 2).val) - 1) = 64 * ((dn c).val % 2) + edge ((dn c).val % 2) % 64
    rw [edge_mod, hn.2]; unfold edgeP edge; split <;> split <;> omega

/-- and the one across the `y` edge, beyond the border, the `y` neighbour's. -/
theorem st_yc (c : Dev nD) (off : Fin 4 → ℕ) (hoff : off = ![0, farP (c.val / 2), edgeP (c.val % 2), 0]) {inb}
    (x : (Rect.unit (s := S2x66x66x64) off S2x1x1x64.size inb).shape.Idx) :
    ycV m ρ (yn c) x = padV m ρ c ((Rect.unit (s := S2x66x66x64) off S2x1x1x64.size inb).emb x) := by
  subst hoff
  have l1 : (x 1).val < 1 := (x 1).isLt
  have l2 : (x 2).val < 1 := (x 2).isLt
  have lr := row_le c
  have hn := yn_coords c
  refine (padV_of m ρ c (yn c) _ _ ?_ ?_ ?_ ?_).symm
  · show 0 + 1 * (x 0).val = (x 0).val; omega
  · show 0 + 1 * (x 3).val = (x 3).val; omega
  · show min 127 (64 * (c.val / 2) + (farP (c.val / 2) + 1 * (x 1).val) - 1) = 64 * ((yn c).val / 2) + far ((yn c).val / 2) % 64
    rw [far_mod, hn.1]; unfold farP far; split <;> omega
  · show min 127 (64 * (c.val % 2) + (edgeP (c.val % 2) + 1 * (x 2).val) - 1) = 64 * ((yn c).val % 2) + edge ((yn c).val % 2) % 64
    rw [edge_mod, hn.2]; unfold edgeP edge; split <;> split <;> omega

end Cert.NormConv

end
-- ==== Proof.Proto.lean ====
/-
# The steps of the protocol

The records every device keeps (the cells' invariants, each cell's first round reached), and one lemma for each kind of
step: a barrier signal, the barrier's wait, a transfer, the wait of a send cell, the wait of a receive cell.
-/
module

public import proofs.«01_k».proof.Proof.Data

@[expose] public section

noncomputable section

namespace Cert.NormConv

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The program `p` runs on device `c` and ends in `Q`. -/
abbrev wpK (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- The places of the send and receive cells among the fifteen. -/
def sIx (j : Fin 7) : Fin 15 := ⟨1 + j.val, by omega⟩
def rIx (j : Fin 7) : Fin 15 := ⟨8 + j.val, by omega⟩

theorem csem_send (j : Fin 7) : csem (sIx j) = .dma (sendQ j) := by revert j; decide
theorem csem_recv (j : Fin 7) : csem (rIx j) = .dma (recvQ j) := by revert j; decide
theorem kcell_bar (c : Dev nD) : kcell (c, 0) = barCell c := rfl
theorem kcell_send (j : Fin 7) (c : Dev nD) : kcell (c, sIx j) = sendCell j c := Prod.ext rfl (csem_send j)
theorem kcell_recv (j : Fin 7) (c : Dev nD) : kcell (c, rIx j) = recvCell j c := Prod.ext rfl (csem_recv j)

/-- What every device keeps: all the invariants, and that every cell's first round is reached. -/
def recs (K : Dev nD × Fin 15 → ℕ) : sProp 𝕄 :=
  iprop((bigSep Finset.univ fun ck : Dev nD × Fin 15 => cellInv ER (rd m ρ) (K ck) (kcell ck))
    ∗ bigSep Finset.univ fun ck : Dev nD × Fin 15 => reached ER (kcell ck) 0)

instance recs_persistent (K : Dev nD × Fin 15 → ℕ) : BI.Persistent (recs m ρ K) := by unfold recs; infer_instance

theorem inv_of (K : Dev nD × Fin 15 → ℕ) (ck : Dev nD × Fin 15) (g : GSem nD τ sig) (hg : kcell ck = g) : recs m ρ K ⊢ cellInv ER (rd m ρ) (K ck) g := by
  subst hg; unfold recs
  iintro ⟨#HI, -⟩
  iapply (show (bigSep Finset.univ fun ck : Dev nD × Fin 15 => (cellInv ER (rd m ρ) (K ck) (kcell ck) : sProp 𝕄)) ⊢ cellInv ER (rd m ρ) (K ck) (kcell ck) from bigSep_elim (Finset.mem_univ ck))
  iexact HI
theorem reached_of (K : Dev nD × Fin 15 → ℕ) (ck : Dev nD × Fin 15) (g : GSem nD τ sig) (hg : kcell ck = g) : recs m ρ K ⊢ reached ER g 0 := by
  subst hg; unfold recs
  iintro ⟨-, #HR⟩
  iapply (show (bigSep Finset.univ fun ck : Dev nD × Fin 15 => (reached ER (kcell ck) 0 : sProp 𝕄)) ⊢ reached ER (kcell ck) 0 from bigSep_elim (Finset.mem_univ ck))
  iexact HR

/-- Device `c` owes its first `n` debts. -/
def owing (c : Dev nD) (n : ℕ) : sProp 𝕄 := iprop(∃ W, owes (c : Thread nD τ) (due c n) W)

section Steps

variable (K : Dev nD × Fin 15 → ℕ) (c : Dev nD)

/-- A barrier signal pays duty `d` of the barrier of device `t`. -/
theorem signal_step (t n : Dev nD) (hn : n = t) (d : Fin 3) (i : ℕ) (hO : due c (i + 1) = due c i + tallyAt (barCell t) () 1) {k' : ℕ} (hk : 1 = k')
    {α : Type} {Q : α → sProp 𝕄} {k : PUnit → Prog (TpuEff nD τ sig (Elt F) Λ₀ .tc) α} :
    iprop(recs m ρ K ∗ owing c (i + 1) ∗ dutyTok ER (barCell t) 0 d ∗ barPay t d)
      ⊢ iprop((owing c i -∗ wpK c (k ⟨⟩) Q) -∗ wpK c (.op (.semSignal (n : Thread nD τ) barS k') k) Q) := by
  subst hn hk
  unfold owing
  iintro ⟨#HR, ⟨%W, HO⟩, Ht, Hp⟩ Hk
  iapply (Rounds.wp_signal 𝒱₀ ER (rd m ρ) (c : Thread nD τ) none (dst := (n : Thread nD τ)) (κ := K (n, 0))
      (d := d) (by rw [duties_bar]; exact Finset.mem_univ _) (amount_bar m ρ n d) () (due c i) hO) $$ [HO Ht Hp]
  · isplitr; · iapply (inv_of m ρ K (n, 0) (barCell n) rfl); iexact HR
    isplitl [HO]; · iexact HO
    isplitl [Ht]; · iexact Ht
    isplitl [Hp]; · rw [payload_bar]; iexact Hp
    iapply (reached_of m ρ K (n, 0) (barCell n) rfl); iexact HR
  iintro HO
  iapply Hk
  iexists W; iexact HO

/-- The barrier's wait: what the three neighbours handed over. -/
theorem barrier_step {k' : ℕ} (hk : 3 = k') {α : Type} {Q : α → sProp 𝕄} {k : PUnit → Prog (TpuEff nD τ sig (Elt F) Λ₀ .tc) α} :
    iprop(recs m ρ K ∗ levAts L lv ∗ owing c 7 ∗ cred (tallyAt (barCell c) () 3) ∗ atPos ER (barCell c) 0 ∅ 0)
      ⊢ iprop(((owing c 7 ∗ atPos ER (barCell c) 1 ∅ 0 ∗ barPay c 0 ∗ barPay c 1 ∗ barPay c 2) -∗ wpK c (k ⟨⟩) Q)
          -∗ wpK c (.op (.semWait barS k') k) Q) := by
  subst hk
  unfold owing
  iintro ⟨#HR, #Hlev, ⟨%W, HO⟩, Hc, Hat⟩ Hk
  iapply (Rounds.wp_wait_rest_token 𝒱₀ ER (rd m ρ) (c : Thread nD τ) none (κ := K (c, 0))
      (wpE_semWait_eq 𝒱₀ (c : Thread nD τ) none Set.univ) (Set.mem_univ _) () (O := due c 7) (W := W) (R := 0) (m := 0) (T := ∅)
      (by rw [expect_bar])) $$ [Hc HO Hat]
  · isplitr; · iapply (inv_of m ρ K (c, 0) (barCell c) rfl); iexact HR
    isplitl [Hc]; · iexact Hc
    isplitl [HO]; · iexact HO
    isplitr; · iapply (mayWait_bar c); iexact Hlev
    iexact Hat
  iintro ⟨HO, Hat, -, Hpay⟩
  ihave Hp := (Entails.of_eq (rest_bar m ρ c)) $$ Hpay
  iapply Hk
  isplitl [HO]; · iexists _; iexact HO
  isplitl [Hat]; · iexact Hat
  iexact Hp

/-- The `j`-th transfer, from the buffer elements it reads, lent at a share, and the peer's elements it writes. -/
theorem send_step (j : Fin 7) (n : Dev nD) (hn : n = nb j c) (i : ℕ) (hO : due c (i + 1) = due c i + tallyAt (recvCell j (nb j c)) () (cr j))
    {s : Shape} {src dst : Memref sig .tc .vmem s .f32} (qs qr : DmaSem sig) (hqs : qs = sendQ j) (hqr : qr = recvQ j)
    {hsc : dst.view.ref.isScScratch = false} {hsrc : src.view.WordExact} {hdst : dst.view.WordExact}
    {hsem : DmaTarget.Typed .vmem (.dma qr) (.remote (Dev.tc n : Thread nD τ) dst (.dma qs) hsc)}
    (hN : dst.view.amount (.dma qr) = cr j) {q : PosShare TreeShare} {fs : Buf (Elt F) (src.view.loc (c : Thread nD τ))} {fd : Buf (Elt F) (dst.view.loc (nb j c : Thread nD τ))}
    (hpay₁ : (src.view.loc (c : Thread nD τ) ↦[src.view.set]{q} fs) ⊢ sendPay m ρ j c)
    (hpay₂ : (dst.view.loc (nb j c : Thread nD τ) ↦[dst.view.set]{fullShare} (dst.view.write (Elt F) fd (src.view.read (Elt F) fs) Finset.univ)) ⊢ recvPay m ρ j (nb j c))
    {α : Type} {Q : α → sProp 𝕄} {k : PUnit → Prog (TpuEff nD τ sig (Elt F) Λ₀ .tc) α} :
    iprop(recs m ρ K ∗ (src.view.loc (c : Thread nD τ) ↦[src.view.set]{q} fs) ∗ (dst.view.loc (nb j c : Thread nD τ) ↦[dst.view.set]{fullShare} fd)
        ∗ owing c (i + 1) ∗ dutyTok ER (sendCell j c) 0 0 ∗ dutyTok ER (recvCell j (nb j c)) 0 0)
      ⊢ iprop(((cred (tallyAt (sendCell j c) () (cr j)) ∗ owing c i) -∗ wpK c (k ⟨⟩) Q)
          -∗ wpK c (.op (.enqueueDma src (.remote (Dev.tc n : Thread nD τ) dst (.dma qs) hsc) (.dma qr) hsrc hdst hsem) k) Q) := by
  subst hn hqs hqr
  unfold owing
  iintro ⟨#HR, Hs, Hd, ⟨%W, HO⟩, Ht1, Ht2⟩ Hk
  iapply (Rounds.wp_send_pointsTo 𝒱₀ ER (rd m ρ) (c : Thread nD τ) none (κ₁ := K (c, sIx j)) (κ₂ := K (nb j c, rIx j))
    (r₁ := 0) (r₂ := 0) (d₁ := 0) (d₂ := 0) (fd := fd)
    (by rw [duties_send]; exact Finset.mem_singleton_self _) (by rw [duties_recv]; exact Finset.mem_singleton_self _)
    () () (cr j) hN (amount_send m ρ c j 0) (amount_recv m ρ (nb j c) j 0) (due c i) hO (W := W)
    (by rw [payload_send]; exact hpay₁) (by rw [payload_recv]; exact hpay₂)) $$ [Hs Hd HO Ht1 Ht2]
  · isplitr; · iapply (inv_of m ρ K (c, sIx j) (sendCell j c) (kcell_send j c)); iexact HR
    isplitr; · iapply (inv_of m ρ K (nb j c, rIx j) (recvCell j (nb j c)) (kcell_recv j _)); iexact HR
    isplitl [Hs]; · iexact Hs
    isplitl [Hd]; · iexact Hd
    isplitl [HO]; · iexact HO
    isplitl [Ht1]; · iexact Ht1
    isplitr; · iapply (reached_of m ρ K (c, sIx j) (sendCell j c) (kcell_send j c)); iexact HR
    isplitl [Ht2]; · iexact Ht2
    iapply (reached_of m ρ K (nb j c, rIx j) (recvCell j (nb j c)) (kcell_recv j _)); iexact HR
  iintro ⟨Hc, HO⟩
  iapply Hk
  isplitl [Hc]; · iexact Hc
  iexists W; iexact HO

/-- The wait of the `j`-th send cell, every debt paid: the source comes back. -/
theorem wait_send_step (j : Fin 7) (q : DmaSem sig) (hq : q = sendQ j) {s s' : Shape} {e e' : EltTy} {sp sp' : Space} {κ' : Kind}
    {src : Memref sig .tc sp' s' e'} {dst : Memref sig κ' sp s e} {hsrc : src.view.WordExact} {hdst : dst.view.WordExact}
    (hN : dst.view.dmaCredit = cr j) {α : Type} {Q : α → sProp 𝕄} {k : PUnit → Prog (TpuEff nD τ sig (Elt F) Λ₀ .tc) α} :
    iprop(recs m ρ K ∗ cred (tallyAt (sendCell j c) () (cr j)) ∗ owing c 0 ∗ atPos ER (sendCell j c) 0 ∅ 0)
      ⊢ iprop(((owing c 0 ∗ atPos ER (sendCell j c) 1 ∅ 0 ∗ sendPay m ρ j c) -∗ wpK c (k ⟨⟩) Q)
          -∗ wpK c (.op (.waitDma2 q src dst hsrc hdst) k) Q) := by
  subst hq
  rw [← hN]
  unfold owing
  iintro ⟨#HR, Hc, ⟨%W, HO⟩, Hat⟩ Hk
  iapply (Rounds.wp_wait_rest_token 𝒱₀ ER (rd m ρ) (c : Thread nD τ) none (κ := K (c, sIx j))
      (wpE_waitDma2_eq 𝒱₀ (c : Thread nD τ) none Set.univ) (Set.mem_univ _) () (O := due c 0) (W := W) (R := 0) (m := 0) (T := ∅)
      (by rw [Nat.zero_add, expect_send, hN])) $$ [Hc HO Hat]
  · isplitr; · iapply (inv_of m ρ K (c, sIx j) (sendCell j c) (kcell_send j c)); iexact HR
    isplitl [Hc]; · iexact Hc
    isplitl [HO]; · iexact HO
    isplitr; · rw [show due c 0 = 0 from rfl, MayWait_zero]; iempintro
    iexact Hat
  iintro ⟨HO, Hat, -, Hpay⟩
  ihave Hp := (Entails.of_eq (rest_send m ρ c j)) $$ Hpay
  iapply Hk
  isplitl [HO]; · iexists _; iexact HO
  isplitl [Hat]; · iexact Hat
  iexact Hp

/-- The wait of the `j`-th receive cell: the buffer the peer wrote. -/
theorem wait_recv_step (j : Fin 7) (q : DmaSem sig) (hq : q = recvQ j) {s s' : Shape} {e e' : EltTy} {sp sp' : Space} {κ' : Kind}
    {src : Memref sig .tc sp' s' e'} {dst : Memref sig κ' sp s e} {hsrc : src.view.WordExact} {hdst : dst.view.WordExact}
    (hN : dst.view.dmaCredit = cr j) {α : Type} {Q : α → sProp 𝕄} {k : PUnit → Prog (TpuEff nD τ sig (Elt F) Λ₀ .tc) α} :
    iprop(recs m ρ K ∗ cred (tallyAt (recvCell j c) () (cr j)) ∗ owing c 0 ∗ atPos ER (recvCell j c) 0 ∅ 0)
      ⊢ iprop(((owing c 0 ∗ atPos ER (recvCell j c) 1 ∅ 0 ∗ recvPay m ρ j c) -∗ wpK c (k ⟨⟩) Q)
          -∗ wpK c (.op (.waitDma2 q src dst hsrc hdst) k) Q) := by
  subst hq
  rw [← hN]
  unfold owing
  iintro ⟨#HR, Hc, ⟨%W, HO⟩, Hat⟩ Hk
  iapply (Rounds.wp_wait_rest_token 𝒱₀ ER (rd m ρ) (c : Thread nD τ) none (κ := K (c, rIx j))
      (wpE_waitDma2_eq 𝒱₀ (c : Thread nD τ) none Set.univ) (Set.mem_univ _) () (O := due c 0) (W := W) (R := 0) (m := 0) (T := ∅)
      (by rw [Nat.zero_add, expect_recv, hN])) $$ [Hc HO Hat]
  · isplitr; · iapply (inv_of m ρ K (c, rIx j) (recvCell j c) (kcell_recv j c)); iexact HR
    isplitl [Hc]; · iexact Hc
    isplitl [HO]; · iexact HO
    isplitr; · rw [show due c 0 = 0 from rfl, MayWait_zero]; iempintro
    iexact Hat
  iintro ⟨HO, Hat, -, Hpay⟩
  ihave Hp := (Entails.of_eq (rest_recv m ρ c j)) $$ Hpay
  iapply Hk
  isplitl [HO]; · iexists _; iexact HO
  isplitl [Hat]; · iexact Hat
  iexact Hp

end Steps

end Cert.NormConv

end
-- ==== Proof.Slots.lean ====
/-
# The statistics buffer, slot by slot

The buffer is its four slots; a store fills slot 0, three transfers read it at a share each and write a peer's slot.
-/
module

public import proofs.«01_k».proof.Proof.Proto
public import Idealize.ShloMosaic.Lib.MemrefSat

@[expose] public section

noncomputable section

namespace Cert.NormConv

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem mem_slot (i : Fin 4) (x : S4x4x64.Idx) : x ∈ (slotR i).set ↔ (x 0).val = i.val := by
  rw [Rect.mem_set_unit]
  constructor
  · intro h
    have h0 := h 0
    have h1 : i.val ≤ (x 0).val := h0.1
    have h2 : (x 0).val < i.val + 1 := h0.2
    omega
  · intro h a
    match a with
    | 0 => exact ⟨Nat.le_of_eq h.symm, Nat.lt_of_le_of_lt (Nat.le_of_eq h) (Nat.lt_succ_self _)⟩
    | 1 => exact ⟨Nat.zero_le _, by have := (x 1).isLt; show (x 1).val < 0 + 4; rw [Nat.zero_add]; exact this⟩
    | 2 => exact ⟨Nat.zero_le _, by have := (x 2).isLt; show (x 2).val < 0 + 64; rw [Nat.zero_add]; exact this⟩

theorem slot_disjoint (i j : Fin 4) (h : i ≠ j) : Disjoint (slotR i).set (slotR j).set :=
  Finset.disjoint_left.mpr fun x hi hj => h (Fin.ext (((mem_slot i x).mp hi).symm.trans ((mem_slot j x).mp hj)))
theorem slot_cover : (Finset.univ : Finset (Fin 4)).biUnion (fun i => (slotR i).set) = Finset.univ :=
  Finset.eq_univ_iff_forall.mpr fun x => Finset.mem_biUnion.mpr ⟨⟨(x 0).val, (x 0).isLt⟩, Finset.mem_univ _, (mem_slot _ x).mpr rfl⟩

omit [FloatOps F] in
theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ

/-- The buffer splits into its slots, -/
theorem slots_split (c : Dev nD) : (anyPt (F := F) c cc0_scratch1 : sProp 𝕄) ⊢ iprop(slotAny c 0 ∗ slotAny c 1 ∗ slotAny c 2 ∗ slotAny c 3) := by
  refine BIBase.Entails.trans ?_ (Entails.of_eq (bigSep_fin4 (F := F) fun i => slotAny c i))
  have h (f : Buf (Elt F) ((c : Thread nD τ).loc cc0_scratch1)) : (pt c cc0_scratch1 f : sProp 𝕄) ⊢ bigSep Finset.univ fun i : Fin 4 => slotAny c i :=
    (Entails.of_eq (owns_whole (c : Thread nD τ) cc0_scratch1 fullShare f).symm).trans
      ((owns_rects (c : Thread nD τ) stM fullShare slotR (fun _ _ => rfl) slot_disjoint slot_cover f).trans
        (bigSep_mono fun t _ => show _ ⊢ slotAny c t from by iintro H; iexists _; iexact H))
  iintro ⟨%f, H⟩
  iapply (h f); iexact H

/-- Contents of the whole buffer from its slots'. -/
def glue (X : Fin 4 → Vec F S1x4x64 .f32) : Vec F S4x4x64 .f32 := fun i => X (i 0) (fun a => match a with | ⟨0, _⟩ => ⟨0, Nat.one_pos⟩ | ⟨1, _⟩ => i 1 | ⟨2, _⟩ => i 2)

theorem glue_slot (X : Fin 4 → Vec F S1x4x64 .f32) (t : Fin 4) : (fun j => glue X ((slotR t).emb j)) = X t := by
  funext j
  have l0 : (j 0).val < 1 := (j 0).isLt
  have e : ((slotR t).emb j) 0 = t := Fin.ext (by show t.val + 1 * (j 0).val = t.val; omega)
  unfold glue
  rw [e]
  refine congrArg _ (funext fun a => Fin.ext ?_)
  match a with
  | 0 => show 0 = (j 0).val; omega
  | 1 => show 0 + 1 * (j 1).val = (j 1).val; omega
  | 2 => show 0 + 1 * (j 2).val = (j 2).val; omega

/-- and the slots join into the buffer. -/
theorem slots_join (c : Dev nD) (X : Fin 4 → Vec F S1x4x64 .f32) :
    iprop(slotAt c 0 fullShare (X 0) ∗ slotAt c 1 fullShare (X 1) ∗ slotAt c 2 fullShare (X 2) ∗ slotAt c 3 fullShare (X 3)) ⊢ (anyPt (F := F) c cc0_scratch1 : sProp 𝕄) := by
  refine (Entails.of_eq (bigSep_fin4 (F := F) fun i => slotAt c i fullShare (X i)).symm).trans ?_
  rw [bigSep_congr (s := (Finset.univ : Finset (Fin 4))) (fun t _ => show slotAt c t fullShare (X t) = owns (c : Thread nD τ) (stM.slice (slotR t) (fun _ => rfl)) fullShare (fun j => glue X ((slotR t).emb j)) by rw [glue_slot])]
  refine (owns_of_rects (c : Thread nD τ) stM fullShare slotR (fun _ _ => rfl) slot_disjoint slot_cover (glue X)).trans ?_
  rw [owns_whole]
  iintro H; iexists _; iexact H

/-- The share of slot 0 splits in three, one for each transfer. -/
theorem slot_lend (c : Dev nD) (X : Vec F S1x4x64 .f32) :
    (slotAt c 0 fullShare X : sProp 𝕄) ⊣⊢ iprop(slotAt c 0 (lend 4) X ∗ slotAt c 0 (lend 5) X ∗ slotAt c 0 (lend 6) X) := by
  have h1 := owns_halves (Ix := Unit) (Name := ℕ) (U := UU) (Lvl := ℕ) (c : Thread nD τ) (slotU 0) fullShare X
  have h2 := owns_halves (Ix := Unit) (Name := ℕ) (U := UU) (Lvl := ℕ) (c : Thread nD τ) (slotU 0) fullShare.right X
  exact ⟨h1.1.trans (sep_mono_right h2.1), (sep_mono_right h2.2).trans h1.2⟩

/-- A load from a slot reads the slot. -/
theorem slot_load (c : Dev nD) (i : Fin 4) (X : Vec F S1x4x64 .f32) {q : PosShare TreeShare} {hl} {α : Type} {Q : α → sProp 𝕄}
    {k : Vec F S1x4x64 .f32 → Prog (TpuEff nD τ sig (Elt F) Λ₀ .tc) α} :
    slotAt c i q X ⊢ iprop((slotAt c i q X -∗ wpK c (k X) Q) -∗ wpK c (.op (.load stM (slotR i).toLoadRect hl) k) Q) := by
  unfold slotAt owns
  iintro ⟨%f, %hf, H⟩ Hk
  iapply (wp_load 𝒱₀ (c : Thread nD τ) none Set.univ (m := stM) (r := (slotR i).toLoadRect) (S := (slotU i).view.set) (View.set_slice stM.view (slotR i)).symm.subset) $$ H
  iintro H
  have e : stM.view.readAt (Elt F) (slotR i).toLoadRect f = X := hf
  rw [e]
  iapply Hk
  iexists f; isplitr; · (ipureintro; exact hf)
  iexact H

/-- A store to a slot leaves it at what was stored. -/
theorem slot_store (c : Dev nD) (i : Fin 4) (X w : Vec F S1x4x64 .f32) {hx hm} {α : Type} {Q : α → sProp 𝕄}
    {k : PUnit → Prog (TpuEff nD τ sig (Elt F) Λ₀ .tc) α} :
    slotAt c i fullShare X ⊢ iprop((slotAt c i fullShare w -∗ wpK c (k ⟨⟩) Q) -∗ wpK c (.op (.store stM (slotR i) w Finset.univ hx hm) k) Q) := by
  unfold slotAt owns
  iintro ⟨%f, %hf, H⟩ Hk
  iapply (wp_store 𝒱₀ (c : Thread nD τ) none Set.univ (m := stM) (r := slotR i) (Mk := Finset.univ) (S := (slotU i).view.set) subset_rfl) $$ H
  iintro H
  iapply Hk
  iexists _; isplitr; swap; · iexact H
  ipureintro
  exact View.read_write_univ _ _

/-- A transfer from slot 0 to a peer's slot leaves there what slot 0 read. -/
theorem slot_landed (i : Fin 4) (f g : Vec F S4x4x64 .f32) :
    (slotU i).view.read (Elt F) ((slotM i).view.write (Elt F) g ((slotM 0).view.read (Elt F) f) Finset.univ) = (slotU 0).view.read (Elt F) f := by
  have h : (slotM i).view.read (Elt F) ((slotM i).view.write (Elt F) g ((slotM 0).view.read (Elt F) f) Finset.univ) = (slotM 0).view.read (Elt F) f :=
    View.read_write_univ _ _
  funext x
  obtain ⟨y, rfl⟩ := (Shape.reshapeEquiv (squeezes_S1x4x64_S4x64.numel_eq)).surjective x
  exact congrFun h y

/-- The transfer of the statistics to slot `i` of the peer. -/
theorem slot_step (K : Dev nD × Fin 15 → ℕ) (c : Dev nD) (j : Fin 7) (n : Dev nD) (hn : n = nb j c) (i : Fin 4) (b : ℕ)
    (hO : due c (b + 1) = due c b + tallyAt (recvCell j (nb j c)) () (cr j)) (qs qr : DmaSem sig) (hqs : qs = sendQ j) (hqr : qr = recvQ j)
    {hsc : (slotM i).view.ref.isScScratch = false} {hsrc : (slotM 0).view.WordExact} {hdst : (slotM i).view.WordExact}
    {hsem : DmaTarget.Typed .vmem (.dma qr) (.remote (Dev.tc n : Thread nD τ) (slotM i) (.dma qs) hsc)}
    (hN : (slotM i).view.dmaCredit = cr j)
    (hp1 : sendPay m ρ j c = slotAt c 0 (lend j) (stV m ρ c)) (hp2 : recvPay m ρ j (nb j c) = slotAt (nb j c) i fullShare (stV m ρ c))
    {α : Type} {Q : α → sProp 𝕄} {k : PUnit → Prog (TpuEff nD τ sig (Elt F) Λ₀ .tc) α} :
    iprop(recs m ρ K ∗ slotAt c 0 (lend j) (stV m ρ c) ∗ slotAny (nb j c) i
        ∗ owing c (b + 1) ∗ dutyTok ER (sendCell j c) 0 0 ∗ dutyTok ER (recvCell j (nb j c)) 0 0)
      ⊢ iprop(((cred (tallyAt (sendCell j c) () (cr j)) ∗ owing c b) -∗ wpK c (k ⟨⟩) Q)
          -∗ wpK c (.op (.enqueueDma (slotM 0) (.remote (Dev.tc n : Thread nD τ) (slotM i) (.dma qs) hsc) (.dma qr) hsrc hdst hsem) k) Q) := by
  iintro ⟨#HR, Hs, ⟨%X, Hd⟩, HO, Ht1, Ht2⟩ Hk
  unfold slotAt owns
  icases Hs with ⟨%f, %hf, Hs⟩
  icases Hd with ⟨%g, %hg, Hd⟩
  have es (t : Fin 4) : (slotM t).view.set = (slotU t).view.set := View.set_reshape _ _
  rw [← es 0, ← es i]
  iapply (send_step m ρ K c j n hn b hO (src := slotM 0) (dst := slotM i) qs qr hqs hqr hN (fs := f) (fd := g) (q := lend j)
    (by
      rw [hp1]; unfold slotAt owns; rw [es 0]
      iintro H; iexists f; isplitr; · (ipureintro; exact hf)
      iexact H)
    (by
      rw [hp2]; unfold slotAt owns; rw [es i]
      iintro H; iexists _; isplitr; swap; · iexact H
      ipureintro
      exact (slot_landed i f g).trans hf)) $$ [Hs Hd HO Ht1 Ht2]
  · isplitr; · iexact HR
    isplitl [Hs]; · iexact Hs
    isplitl [Hd]; · iexact Hd
    isplitl [HO]; · iexact HO
    isplitl [Ht1] <;> iassumption
  iexact Hk

/-- The transfer of a whole buffer. -/
theorem whole_step (K : Dev nD × Fin 15 → ℕ) (c : Dev nD) (j : Fin 7) (n : Dev nD) (hn : n = nb j c) (b : ℕ)
    (hO : due c (b + 1) = due c b + tallyAt (recvCell j (nb j c)) () (cr j)) (qs qr : DmaSem sig) (hqs : qs = sendQ j) (hqr : qr = recvQ j)
    {s : Shape} {src dst : Memref sig .tc .vmem s .f32}
    {hsc : dst.view.ref.isScScratch = false} {hsrc : src.view.WordExact} {hdst : dst.view.WordExact}
    {hsem : DmaTarget.Typed .vmem (.dma qr) (.remote (Dev.tc n : Thread nD τ) dst (.dma qs) hsc)}
    (hN : dst.view.amount (.dma qr) = cr j) (hs : src.view.set = Finset.univ) (hd : dst.view.set = Finset.univ)
    (fs : Buf (Elt F) (src.view.loc (c : Thread nD τ)))
    (hp1 : sendPay m ρ j c = (src.view.loc (c : Thread nD τ) ↦{fullShare} fs))
    (hp2 : ∀ fd, (dst.view.loc (nb j c : Thread nD τ) ↦{fullShare} (dst.view.write (Elt F) fd (src.view.read (Elt F) fs) Finset.univ)) = recvPay m ρ j (nb j c))
    {α : Type} {Q : α → sProp 𝕄} {k : PUnit → Prog (TpuEff nD τ sig (Elt F) Λ₀ .tc) α} :
    iprop(recs m ρ K ∗ (src.view.loc (c : Thread nD τ) ↦{fullShare} fs) ∗ (∃ fd : Buf (Elt F) (dst.view.loc (nb j c : Thread nD τ)), dst.view.loc (nb j c : Thread nD τ) ↦{fullShare} fd)
        ∗ owing c (b + 1) ∗ dutyTok ER (sendCell j c) 0 0 ∗ dutyTok ER (recvCell j (nb j c)) 0 0)
      ⊢ iprop(((cred (tallyAt (sendCell j c) () (cr j)) ∗ owing c b) -∗ wpK c (k ⟨⟩) Q)
          -∗ wpK c (.op (.enqueueDma src (.remote (Dev.tc n : Thread nD τ) dst (.dma qs) hsc) (.dma qr) hsrc hdst hsem) k) Q) := by
  iintro ⟨#HR, Hs, ⟨%fd, Hd⟩, HO, Ht1, Ht2⟩ Hk
  iapply (send_step m ρ K c j n hn b hO (src := src) (dst := dst) qs qr hqs hqr hN (fs := fs) (fd := fd) (q := fullShare)
    (by rw [hp1, hs]) (by rw [hd, hp2 fd])) $$ [Hs Hd HO Ht1 Ht2]
  · isplitr; · iexact HR
    isplitl [Hs]; · rw [hs]; iexact Hs
    isplitl [Hd]; · rw [hd]; iexact Hd
    isplitl [HO]; · iexact HO
    isplitl [Ht1] <;> iassumption
  iexact Hk

end Cert.NormConv

end
-- ==== Proof.Part1.lean ====
/-
# The kernel's parts: the barrier and the transfers

Each part run on device `c`, one rule per statement, from what it uses to what it leaves.
-/
module

public import proofs.«01_k».proof.Proof.Slots

@[expose] public section

set_option maxRecDepth 8000
set_option maxHeartbeats 1600000

noncomputable section

namespace Cert.NormConv

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Small facts -/

theorem hz4 : (![0, 0, 0, 0] : Fin 4 → ℕ) = fun _ => 0 := funext fun a => by fin_cases a <;> rfl
theorem hz3 : (![0, 0, 0] : Fin 3 → ℕ) = fun _ => 0 := funext fun a => by fin_cases a <;> rfl
theorem hz2 : (![0, 0] : Fin 2 → ℕ) = fun _ => 0 := funext fun a => by fin_cases a <;> rfl

/-- A device's own buffers, as its signals hand them over. -/
theorem barPay_x (c : Dev nD) : iprop(anyPt c cc0_scratch3 ∗ slotAny c 1) ⊢ (barPay (F := F) (xn c) 0) := by unfold barPay; rw [xn_xn]
theorem barPay_y (c : Dev nD) : iprop(anyPt c cc0_scratch5 ∗ anyPt c cc0_scratch9 ∗ slotAny c 2) ⊢ (barPay (F := F) (yn c) 1) := by unfold barPay; rw [yn_yn]
theorem barPay_d (c : Dev nD) : iprop(anyPt c cc0_scratch7 ∗ slotAny c 3) ⊢ (barPay (F := F) (dn c) 2) := by unfold barPay; rw [dn_dn]
/-- The neighbours' buffers, as its transfers write them. -/
theorem barGet_x (c : Dev nD) : (barPay (F := F) c 0) ⊢ iprop(anyPt (nb 0 c) cc0_scratch3 ∗ slotAny (nb 4 c) 1) := Entails.of_eq rfl
theorem barGet_y (c : Dev nD) : (barPay (F := F) c 1) ⊢ iprop(anyPt (nb 1 c) cc0_scratch5 ∗ anyPt (nb 3 c) cc0_scratch9 ∗ slotAny (nb 5 c) 2) := Entails.of_eq rfl
theorem barGet_d (c : Dev nD) : (barPay (F := F) c 2) ⊢ iprop(anyPt (nb 2 c) cc0_scratch7 ∗ slotAny (nb 6 c) 3) := Entails.of_eq rfl

/-- The column and corner buffers, at the device's blocks where `P`. -/
def colBufs (c : Dev nD) (P : Prop) : sProp 𝕄 :=
  iprop(∃ f4 f6 f8, ⌜P → f4 = csV m ρ c ∧ f6 = dgV m ρ c ∧ f8 = ycV m ρ c⌝ ∗ pt c cc0_scratch4 f4 ∗ pt c cc0_scratch6 f6 ∗ pt c cc0_scratch8 f8)

/-- What the four transfers of whole buffers leave at the peer. -/
theorem land_rs (c : Dev nD) (fd : Buf (Elt F) (rsR.view.loc (nb 0 c : Thread nD τ))) :
    (rsR.view.loc (nb 0 c : Thread nD τ) ↦{fullShare} (rsR.view.write (Elt F) fd (rsS.view.read (Elt F) (rsV m ρ c)) Finset.univ)) = recvPay m ρ 0 (nb 0 c) := by
  rw [View.read_whole, View.write_whole_univ]; show _ = pt (nb 0 c) cc0_scratch3 (rsV m ρ (xn (nb 0 c))); rw [show xn (nb 0 c) = c from xn_xn c]
theorem land_cs (c : Dev nD) (fd : Buf (Elt F) (csR.view.loc (nb 1 c : Thread nD τ))) :
    (csR.view.loc (nb 1 c : Thread nD τ) ↦{fullShare} (csR.view.write (Elt F) fd (csS.view.read (Elt F) (csV m ρ c)) Finset.univ)) = recvPay m ρ 1 (nb 1 c) := by
  rw [View.read_whole, View.write_whole_univ]; show _ = pt (nb 1 c) cc0_scratch5 (csV m ρ (yn (nb 1 c))); rw [show yn (nb 1 c) = c from yn_yn c]
theorem land_dg (c : Dev nD) (fd : Buf (Elt F) (dgR.view.loc (nb 2 c : Thread nD τ))) :
    (dgR.view.loc (nb 2 c : Thread nD τ) ↦{fullShare} (dgR.view.write (Elt F) fd (dgS.view.read (Elt F) (dgV m ρ c)) Finset.univ)) = recvPay m ρ 2 (nb 2 c) := by
  rw [View.read_whole, View.write_whole_univ]; show _ = pt (nb 2 c) cc0_scratch7 (dgV m ρ (dn (nb 2 c))); rw [show dn (nb 2 c) = c from dn_dn c]
theorem land_yc (c : Dev nD) (fd : Buf (Elt F) (ycR.view.loc (nb 3 c : Thread nD τ))) :
    (ycR.view.loc (nb 3 c : Thread nD τ) ↦{fullShare} (ycR.view.write (Elt F) fd (ycS.view.read (Elt F) (ycV m ρ c)) Finset.univ)) = recvPay m ρ 3 (nb 3 c) := by
  rw [View.read_whole, View.write_whole_univ]; show _ = pt (nb 3 c) cc0_scratch9 (ycV m ρ (yn (nb 3 c))); rw [show yn (nb 3 c) = c from yn_yn c]

/-! ## Steps on whole buffers -/

section Steps

variable (c : Dev nD)

theorem ret_step {α : Type} {Q : α → sProp 𝕄} (a : α) : Q a ⊢ wpK c (.ret a) Q := by
  refine BIBase.Entails.trans ?_ (Entails.of_eq (wp_ret ..).symm)
  iintro H; imodintro; iexact H

/-- A load, at what it reads. -/
theorem ld_step {α : Type} {Q : α → sProp 𝕄} {s : Shape} {e : EltTy} (b : Memref sig .tc .vmem s e) (r : LoadRect s) {hl} (f : Buf (Elt F) (b.view.loc (c : Thread nD τ)))
    (v : r.shape.Idx → Elt F e) (hv : b.view.readAt (Elt F) r f = v) {k : (r.shape.Idx → Elt F e) → Prog (TpuEff nD τ sig (Elt F) Λ₀ .tc) α} :
    (b.view.loc (c : Thread nD τ) ↦{fullShare} f)
      ⊢ iprop(((b.view.loc (c : Thread nD τ) ↦{fullShare} f) -∗ wpK c (k v) Q) -∗ wpK c (.op (.load b r hl) k) Q) := by
  subst hv
  iintro H Hk
  iapply (wp_load 𝒱₀ (c : Thread nD τ) none Set.univ (m := b) (Finset.subset_univ _)) $$ H
  iexact Hk

/-- A store, preceded by a load of what it overwrites whose value is dropped. -/
theorem set_step {α : Type} {Q : α → sProp 𝕄} {s : Shape} {e : EltTy} (b : Memref sig .tc .vmem s e) (r : Rect s) (w : r.shape.Idx → Elt F e) {hl hx hm} (f g : Buf (Elt F) (b.view.loc (c : Thread nD τ)))
    (hg : (b.access r).write (Elt F) f w Finset.univ = g) {k : PUnit → Prog (TpuEff nD τ sig (Elt F) Λ₀ .tc) α} :
    (b.view.loc (c : Thread nD τ) ↦{fullShare} f)
      ⊢ iprop(((b.view.loc (c : Thread nD τ) ↦{fullShare} g) -∗ wpK c (k ⟨⟩) Q)
          -∗ wpK c (.op (.load b r.toLoadRect hl) fun _ => .op (.store b r w Finset.univ hx hm) k) Q) := by
  subst hg
  iintro H Hk
  iapply (wp_load 𝒱₀ (c : Thread nD τ) none Set.univ (m := b) (Finset.subset_univ _)) $$ H
  iintro H
  iapply (wp_store 𝒱₀ (c : Thread nD τ) none Set.univ (m := b) (r := r) (Mk := Finset.univ) (Finset.subset_univ _)) $$ H
  iexact Hk

/-- A branch which goes on at `rest` either way, at `S` from `R`. -/
theorem if_step {α : Type} {Q : α → sProp 𝕄} {p : Prop} [Decidable p] {A : p → Prog (TpuEff nD τ sig (Elt F) Λ₀ .tc) α} {rest : Prog (TpuEff nD τ sig (Elt F) Λ₀ .tc) α}
    (R S : sProp 𝕄) (hA : ∀ h, R ⊢ iprop((S -∗ wpK c rest Q) -∗ wpK c (A h) Q)) (hB : ¬p → R ⊢ S) :
    R ⊢ iprop((S -∗ wpK c rest Q) -∗ wpK c (dite p A fun _ => rest) Q) := by
  by_cases h : p
  · rw [dif_pos h]; exact hA h
  · rw [dif_neg h]
    iintro H Hk
    iapply Hk
    iapply (hB h); iexact H

/-- The padded buffer, at the padded image's entries where `P`. -/
def padAg (P : ℕ → ℕ → Prop) : sProp 𝕄 := iprop(∃ f, ⌜Ag m ρ c f P⌝ ∗ pt c cc0_scratch0 f)

/-- A store of the padded image's entries into the padded buffer. -/
theorem pad_step {α : Type} {Q : α → sProp 𝕄} {off sz : Fin 4 → ℕ} {inb} (w : (Rect.unit (s := S2x66x66x64) off sz inb).shape.Idx → F .f32) {hl hx hm}
    {P : ℕ → ℕ → Prop} (P' : ℕ → ℕ → Prop) (R C n k : ℕ) (hoff : off = ![0, R, C, 0]) (hsz : sz = ![2, n, k, 64])
    (hw : ∀ x, w x = padV m ρ c ((Rect.unit (s := S2x66x66x64) off sz inb).emb x))
    (hQ : ∀ r q, r < 66 → q < 66 → P' r q → P r q ∨ (R ≤ r ∧ r < R + n ∧ C ≤ q ∧ q < C + k)) {kk : PUnit → Prog (TpuEff nD τ sig (Elt F) Λ₀ .tc) α} :
    padAg m ρ c P ⊢ iprop((padAg m ρ c P' -∗ wpK c (kk ⟨⟩) Q)
      -∗ wpK c (.op (.load pM (Rect.unit (s := S2x66x66x64) off sz inb).toLoadRect hl) fun _ => .op (.store pM (Rect.unit (s := S2x66x66x64) off sz inb) w Finset.univ hx hm) kk) Q) := by
  unfold padAg
  iintro ⟨%f, %hf, H⟩ Hk
  iapply (set_step c pM (Rect.unit (s := S2x66x66x64) off sz inb) w f _ rfl) $$ H
  iintro H
  iapply Hk
  iexists _; isplitr; swap; · iexact H
  ipureintro
  exact ag_write m ρ c f w hf P' R C n k hoff hsz hw hQ

/-- The load of column `C'` of the padded buffer, whose entries column `C` takes. -/
theorem pad_read {α : Type} {Q : α → sProp 𝕄} (C C' : ℕ) (hC : gcl (c.val % 2) C = gcl (c.val % 2) C') {inb} (inb') {hl} {P : ℕ → ℕ → Prop} (hP : ∀ r, P r C')
    {kk : ((Rect.unit (s := S2x66x66x64) ![0, 0, C', 0] S2x66x1x64.size inb).toLoadRect.shape.Idx → Elt F .f32) → Prog (TpuEff nD τ sig (Elt F) Λ₀ .tc) α} :
    padAg m ρ c P ⊢ iprop((∀ v : S2x66x1x64.Idx → F .f32, ⌜∀ x, v x = padV m ρ c ((Rect.unit (s := S2x66x66x64) ![0, 0, C, 0] S2x66x1x64.size inb').emb x)⌝ -∗ padAg m ρ c P -∗ wpK c (kk v) Q)
      -∗ wpK c (.op (.load pM (Rect.unit (s := S2x66x66x64) ![0, 0, C', 0] S2x66x1x64.size inb).toLoadRect hl) kk) Q) := by
  unfold padAg
  iintro ⟨%f, %hf, H⟩ Hk
  iapply (ld_step c pM (Rect.unit (s := S2x66x66x64) ![0, 0, C', 0] S2x66x1x64.size inb).toLoadRect f _ rfl) $$ H
  iintro H
  iapply Hk $$ [] [H]
  · ipureintro; exact st_col m ρ c C C' hC f hf hP
  iexists f; isplitr; · (ipureintro; exact hf)
  iexact H

/-- Less is known of them, where less is asked. -/
theorem cols_mono {P P' : Prop} (h : P' → P) : colBufs m ρ c P ⊢ colBufs m ρ c P' := by
  unfold colBufs
  iintro ⟨%f4, %f6, %f8, %hd, H⟩
  iexists f4, f6, f8
  isplitr; · (ipureintro; exact fun hp => hd (h hp))
  iexact H

end Steps

/-! ## The barrier -/

set_option backward.proofsInPublic true in
abbrev P1 : Prog (TpuEff nD τ sig (Elt F) Λ₀ .tc) (Σ' (d0 : Dev nD) (v2 : BitVec 32) (v5 : BitVec 32) (v6 : BitVec 32) (v7 : BitVec 32) (v8 : BitVec 32) (v9 : BitVec 32) (v24 : BitVec 32), BitVec 32) :=
  k0_part1 (F := F) xM (Memref.isWhole_whole _) kM (Memref.isWhole_whole _) wM (Memref.isWhole_whole _) oM (Memref.isWhole_whole _) pM (Memref.isWhole_whole _) stM (Memref.isWhole_whole _) rsS (Memref.isWhole_whole _) rsR (Memref.isWhole_whole _) csS (Memref.isWhole_whole _) csR (Memref.isWhole_whole _) dgS (Memref.isWhole_whole _) dgR (Memref.isWhole_whole _) ycS (Memref.isWhole_whole _) ycR (Memref.isWhole_whole _) cc0_scratch10 cc0_scratch11

theorem part1 (K : Dev nD × Fin 15 → ℕ) (c : Dev nD) (Kt : (Σ' (d0 : Dev nD) (v2 : BitVec 32) (v5 : BitVec 32) (v6 : BitVec 32) (v7 : BitVec 32) (v8 : BitVec 32) (v9 : BitVec 32) (v24 : BitVec 32), BitVec 32) → sProp 𝕄) :
    iprop((recs m ρ K ∗ levAts L lv ∗ owing c 10 ∗ (dutyTok ER (barCell (xn c)) 0 0 ∗ dutyTok ER (barCell (yn c)) 0 1 ∗ dutyTok ER (barCell (dn c)) 0 2)
        ∗ (anyPt c cc0_scratch3 ∗ slotAny c 1) ∗ (anyPt c cc0_scratch5 ∗ anyPt c cc0_scratch9 ∗ slotAny c 2) ∗ (anyPt c cc0_scratch7 ∗ slotAny c 3)
        ∗ cred (tallyAt (barCell c) () 3) ∗ atPos ER (barCell c) 0 ∅ 0)
      ∗ (∀ w, (owing c 7 ∗ atPos ER (barCell c) 1 ∅ 0 ∗ (anyPt (nb 0 c) cc0_scratch3 ∗ slotAny (nb 4 c) 1)
          ∗ (anyPt (nb 1 c) cc0_scratch5 ∗ anyPt (nb 3 c) cc0_scratch9 ∗ slotAny (nb 5 c) 2) ∗ (anyPt (nb 2 c) cc0_scratch7 ∗ slotAny (nb 6 c) 3)) -∗ Kt ⟨c, w⟩))
      ⊢ wpK c (P1 (F := F)) Kt := by
  unfold P1
  rw [k0_part1_eq_skeleton]; unfold k0_part1_skel
  simp only [semSignalWord, semWaitWord, Prog.lift, Prog.bind_op, Prog.bind_ret, Prog.pure_eq_ret, wp_deviceId]
  iintro ⟨⟨#HR, #Hlev, HO, ⟨Hx, Hy, Hd⟩, Hbx, Hby, Hbd, Hc, Hat⟩, Hk⟩
  iapply (signal_step m ρ K c (xn c) _ (dev1_eq c) 0 9 rfl (by decide)) $$ [HO Hx Hbx]
  · isplitr; · iexact HR
    isplitl [HO]; · iexact HO
    isplitl [Hx]; · iexact Hx
    iapply (barPay_x c); iexact Hbx
  iintro HO
  iapply (signal_step m ρ K c (yn c) _ (dev2_eq c) 1 8 rfl (by decide)) $$ [HO Hy Hby]
  · isplitr; · iexact HR
    isplitl [HO]; · iexact HO
    isplitl [Hy]; · iexact Hy
    iapply (barPay_y c); iexact Hby
  iintro HO
  iapply (signal_step m ρ K c (dn c) _ (dev3_eq c) 2 7 rfl (by decide)) $$ [HO Hd Hbd]
  · isplitr; · iexact HR
    isplitl [HO]; · iexact HO
    isplitl [Hd]; · iexact Hd
    iapply (barPay_d c); iexact Hbd
  iintro HO
  iapply (barrier_step m ρ K c (by decide)) $$ [HO Hc Hat]
  · isplitr; · iexact HR
    isplitr; · iexact Hlev
    isplitl [HO]; · iexact HO
    isplitl [Hc]; · iexact Hc
    iexact Hat
  iintro ⟨HO, Hat, Hx, Hy, Hd⟩
  iapply (ret_step c)
  iapply Hk
  isplitl [HO]; · iexact HO
  isplitl [Hat]; · iexact Hat
  isplitl [Hx]; · iapply (barGet_x c); iexact Hx
  isplitl [Hy]; · iapply (barGet_y c); iexact Hy
  iapply (barGet_d c); iexact Hd

/-! ## The row's transfer, and an even column's buffers -/

set_option backward.proofsInPublic true in
abbrev P2 (c : Dev nD) (v2 v5 v6 v24 : BitVec 32) : Prog (TpuEff nD τ sig (Elt F) Λ₀ .tc) (Σ' (v28 : BitVec 32) (v30 : BitVec 32) (v32 : BitVec 32) (v34 : BitVec 32) (v36 : BitVec 32), BitVec 32) :=
  k0_part2 (F := F) xM (Memref.isWhole_whole _) kM (Memref.isWhole_whole _) wM (Memref.isWhole_whole _) oM (Memref.isWhole_whole _) pM (Memref.isWhole_whole _) stM (Memref.isWhole_whole _) rsS (Memref.isWhole_whole _) rsR (Memref.isWhole_whole _) csS (Memref.isWhole_whole _) csR (Memref.isWhole_whole _) dgS (Memref.isWhole_whole _) dgR (Memref.isWhole_whole _) ycS (Memref.isWhole_whole _) ycR (Memref.isWhole_whole _) cc0_scratch10 cc0_scratch11 c v2 v5 v6 v24

theorem part2 (K : Dev nD × Fin 15 → ℕ) (c : Dev nD) (v2 v5 v6 v24 : BitVec 32) (Kt : (Σ' (v28 : BitVec 32) (v30 : BitVec 32) (v32 : BitVec 32) (v34 : BitVec 32) (v36 : BitVec 32), BitVec 32) → sProp 𝕄) :
    iprop((recs m ρ K ∗ pt c cc0_stg0_0 (xstg m ρ c) ∗ anyPt c cc0_scratch2 ∗ anyPt (nb 0 c) cc0_scratch3 ∗ owing c 7
        ∗ dutyTok ER (sendCell 0 c) 0 0 ∗ dutyTok ER (recvCell 0 (nb 0 c)) 0 0 ∗ colBufs m ρ c False)
      ∗ (∀ w, (pt c cc0_stg0_0 (xstg m ρ c) ∗ cred (tallyAt (sendCell 0 c) () (cr 0)) ∗ owing c 6 ∗ colBufs m ρ c (c.val % 2 = 0)) -∗ Kt w))
      ⊢ wpK c (P2 (F := F) c v2 v5 v6 v24) Kt := by
  unfold P2
  rw [k0_part2_eq_skeleton]; unfold k0_part2_skel
  simp only [Prog.lift, Prog.bind_op, Prog.bind_ret, Prog.pure_eq_ret]
  iintro ⟨⟨#HR, Hx, ⟨%f2, H2⟩, H3, HO, Hs, Hr, HB⟩, Hk⟩
  iapply (ld_step c xM _ (xstg m ρ c) _ rfl) $$ Hx; iintro Hx
  iapply (set_step c rsS _ _ f2 (rsV m ρ c) ((Memref.write_access_unit_zero_univ (Elt F) cc0_scratch2 hz4 _ f2 _).trans (load_rs m ρ c))) $$ H2; iintro H2
  iapply (whole_step m ρ K c 0 _ (dev4_eq c) 6 rfl _ _ rfl rfl (src := rsS) (dst := rsR) rfl (View.set_whole _) (View.set_whole _) (rsV m ρ c) rfl (land_rs m ρ c)) $$ [H2 H3 HO Hs Hr]
  · isplitr; · iexact HR
    isplitl [H2]; · iexact H2
    isplitl [H3]; · iexact H3
    isplitl [HO]; · iexact HO
    isplitl [Hs] <;> iassumption
  iintro ⟨Hc, HO⟩
  iapply (if_step c iprop(pt c cc0_stg0_0 (xstg m ρ c) ∗ colBufs m ρ c False) iprop(pt c cc0_stg0_0 (xstg m ρ c) ∗ colBufs m ρ c (c.val % 2 = 0))
    (fun h => by
      have hc := (cond1_iff c).mp h
      unfold colBufs
      iintro ⟨Hx, %f4, %f6, %f8, %hd, H4, H6, H8⟩ Hk
      iapply (ld_step c xM _ (xstg m ρ c) _ rfl) $$ Hx; iintro Hx
      iapply (set_step c csS _ _ f4 (csV m ρ c) ((Memref.write_access_unit_zero_univ (Elt F) cc0_scratch4 hz4 _ f4 _).trans (load_cs0 m ρ c hc))) $$ H4; iintro H4
      iapply (ld_step c xM _ (xstg m ρ c) _ rfl) $$ Hx; iintro Hx
      iapply (set_step c dgS _ _ f6 (dgV m ρ c) ((Memref.write_access_unit_zero_univ (Elt F) cc0_scratch6 hz4 _ f6 _).trans (load_dg0 m ρ c hc))) $$ H6; iintro H6
      iapply (ld_step c xM _ (xstg m ρ c) _ rfl) $$ Hx; iintro Hx
      iapply (set_step c ycS _ _ f8 (ycV m ρ c) ((Memref.write_access_unit_zero_univ (Elt F) cc0_scratch8 hz4 _ f8 _).trans (load_yc0 m ρ c hc))) $$ H8; iintro H8
      iapply Hk
      isplitl [Hx]; · iexact Hx
      iexists csV m ρ c, dgV m ρ c, ycV m ρ c
      isplitr; · (ipureintro; exact fun _ => ⟨rfl, rfl, rfl⟩)
      isplitl [H4]; · iexact H4
      isplitl [H6] <;> iassumption)
    (fun h => by
      iintro ⟨Hx, HB⟩
      isplitl [Hx]; · iexact Hx
      iapply (cols_mono m ρ c (fun hc => h ((cond1_iff c).mpr hc))); iexact HB)) $$ [Hx HB]
  · isplitl [Hx] <;> iassumption
  iintro ⟨Hx, HB⟩
  iapply (ret_step c)
  iapply Hk
  isplitl [Hx]; · iexact Hx
  isplitl [Hc]; · iexact Hc
  isplitl [HO]; · iexact HO
  iexact HB

end Cert.NormConv

end
-- ==== Proof.Part2.lean ====
/-
# The kernel's parts: the columns' and the statistics' transfers

Each part run on device `c`, one rule per statement, from what it uses to what it leaves.
-/
module

public import proofs.«01_k».proof.Proof.Part1

@[expose] public section

set_option maxRecDepth 8000
set_option maxHeartbeats 1600000

noncomputable section

namespace Cert.NormConv

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The semaphores of the transfers, as the program takes them from its two arrays. -/
abbrev sQ (off : Fin 1 → ℕ) (inb : ∀ a, off a + S1.size a ≤ S7.size a) : DmaSem sig := ((cc0_scratch10.slice (Rect.unit (s := S7) off S1.size inb)).squeeze S_ squeezes_S1_S_).sem
abbrev rQ (off : Fin 1 → ℕ) (inb : ∀ a, off a + S1.size a ≤ S7.size a) : DmaSem sig := ((cc0_scratch11.slice (Rect.unit (s := S7) off S1.size inb)).squeeze S_ squeezes_S1_S_).sem

/-! ## An odd column's buffers, and the columns' transfers -/

set_option backward.proofsInPublic true in
abbrev P3 (c : Dev nD) (v2 v5 v7 v8 v9 v30 v32 w : BitVec 32) : Prog (TpuEff nD τ sig (Elt F) Λ₀ .tc) (Σ' (v82 : FVec F S2x64x64x64 .f32) (v83 : FVec F S8192x64 .f32) (v86 : FVec F S1x8192 .f32), F .f32) :=
  k0_part3 (F := F) xM (Memref.isWhole_whole _) kM (Memref.isWhole_whole _) wM (Memref.isWhole_whole _) oM (Memref.isWhole_whole _) pM (Memref.isWhole_whole _) stM (Memref.isWhole_whole _) rsS (Memref.isWhole_whole _) rsR (Memref.isWhole_whole _) csS (Memref.isWhole_whole _) csR (Memref.isWhole_whole _) dgS (Memref.isWhole_whole _) dgR (Memref.isWhole_whole _) ycS (Memref.isWhole_whole _) ycR (Memref.isWhole_whole _) cc0_scratch10 cc0_scratch11 c v2 v5 v7 v8 v9 v30 v32 w

theorem part3 (K : Dev nD × Fin 15 → ℕ) (c : Dev nD) (v2 v5 v7 v8 v9 v30 v32 w : BitVec 32) (Kt : (Σ' (v82 : FVec F S2x64x64x64 .f32) (v83 : FVec F S8192x64 .f32) (v86 : FVec F S1x8192 .f32), F .f32) → sProp 𝕄) :
    iprop((recs m ρ K ∗ pt c cc0_stg0_0 (xstg m ρ c) ∗ colBufs m ρ c (c.val % 2 = 0)
        ∗ anyPt (nb 1 c) cc0_scratch5 ∗ anyPt (nb 2 c) cc0_scratch7 ∗ anyPt (nb 3 c) cc0_scratch9 ∗ owing c 6
        ∗ (dutyTok ER (sendCell 1 c) 0 0 ∗ dutyTok ER (recvCell 1 (nb 1 c)) 0 0) ∗ (dutyTok ER (sendCell 2 c) 0 0 ∗ dutyTok ER (recvCell 2 (nb 2 c)) 0 0)
        ∗ (dutyTok ER (sendCell 3 c) 0 0 ∗ dutyTok ER (recvCell 3 (nb 3 c)) 0 0))
      ∗ ((pt c cc0_stg0_0 (xstg m ρ c) ∗ cred (tallyAt (sendCell 1 c) () (cr 1)) ∗ cred (tallyAt (sendCell 2 c) () (cr 2)) ∗ cred (tallyAt (sendCell 3 c) () (cr 3)) ∗ owing c 3)
          -∗ Kt ⟨k0_pay9 (xstg m ρ c), k0_pay10 (xstg m ρ c), k0_pay11, Scalar.ofBits .f32 0x00000000#32⟩))
      ⊢ wpK c (P3 (F := F) c v2 v5 v7 v8 v9 v30 v32 w) Kt := by
  unfold P3
  rw [k0_part3_eq_skeleton]; unfold k0_part3_skel
  simp only [Prog.lift, Prog.bind_op, Prog.bind_ret, Prog.pure_eq_ret]
  iintro ⟨⟨#HR, Hx, HB, D1, D2, D3, HO, ⟨S1, R1⟩, ⟨S2, R2⟩, ⟨S3, R3⟩⟩, Hk⟩
  iapply (if_step c iprop(pt c cc0_stg0_0 (xstg m ρ c) ∗ colBufs m ρ c (c.val % 2 = 0)) iprop(pt c cc0_stg0_0 (xstg m ρ c) ∗ colBufs m ρ c True)
    (fun h => by
      have hc := (cond2_iff c).mp h
      unfold colBufs
      iintro ⟨Hx, %f4, %f6, %f8, %hd, H4, H6, H8⟩ Hk
      iapply (ld_step c xM _ (xstg m ρ c) _ rfl) $$ Hx; iintro Hx
      iapply (set_step c csS _ _ f4 (csV m ρ c) ((Memref.write_access_unit_zero_univ (Elt F) cc0_scratch4 hz4 _ f4 _).trans (load_cs1 m ρ c hc))) $$ H4; iintro H4
      iapply (ld_step c xM _ (xstg m ρ c) _ rfl) $$ Hx; iintro Hx
      iapply (set_step c dgS _ _ f6 (dgV m ρ c) ((Memref.write_access_unit_zero_univ (Elt F) cc0_scratch6 hz4 _ f6 _).trans (load_dg1 m ρ c hc))) $$ H6; iintro H6
      iapply (ld_step c xM _ (xstg m ρ c) _ rfl) $$ Hx; iintro Hx
      iapply (set_step c ycS _ _ f8 (ycV m ρ c) ((Memref.write_access_unit_zero_univ (Elt F) cc0_scratch8 hz4 _ f8 _).trans (load_yc1 m ρ c hc))) $$ H8; iintro H8
      iapply Hk
      isplitl [Hx]; · iexact Hx
      iexists csV m ρ c, dgV m ρ c, ycV m ρ c
      isplitr; · (ipureintro; exact fun _ => ⟨rfl, rfl, rfl⟩)
      isplitl [H4]; · iexact H4
      isplitl [H6] <;> iassumption)
    (fun h => by
      iintro ⟨Hx, HB⟩
      isplitl [Hx]; · iexact Hx
      iapply (cols_mono m ρ c (fun _ => (Nat.mod_two_eq_zero_or_one c.val).resolve_right fun hc => h ((cond2_iff c).mpr hc))); iexact HB)) $$ [Hx HB]
  · isplitl [Hx] <;> iassumption
  iintro ⟨Hx, HB⟩
  unfold colBufs
  icases HB with ⟨%f4, %f6, %f8, %hd, H1, H2, H3⟩
  obtain ⟨rfl, rfl, rfl⟩ := hd trivial
  iapply (whole_step m ρ K c 1 _ (dev5_eq c) 5 rfl _ _ rfl rfl (src := csS) (dst := csR) rfl (View.set_whole _) (View.set_whole _) (csV m ρ c) rfl (land_cs m ρ c)) $$ [H1 D1 HO S1 R1]
  · isplitr; · iexact HR
    isplitl [H1]; · iexact H1
    isplitl [D1]; · iexact D1
    isplitl [HO]; · iexact HO
    isplitl [S1] <;> iassumption
  iintro ⟨C1, HO⟩
  iapply (whole_step m ρ K c 2 _ (dev6_eq c) 4 rfl _ _ rfl rfl (src := dgS) (dst := dgR) rfl (View.set_whole _) (View.set_whole _) (dgV m ρ c) rfl (land_dg m ρ c)) $$ [H2 D2 HO S2 R2]
  · isplitr; · iexact HR
    isplitl [H2]; · iexact H2
    isplitl [D2]; · iexact D2
    isplitl [HO]; · iexact HO
    isplitl [S2] <;> iassumption
  iintro ⟨C2, HO⟩
  iapply (whole_step m ρ K c 3 _ (dev7_eq c) 3 rfl _ _ rfl rfl (src := ycS) (dst := ycR) rfl (View.set_whole _) (View.set_whole _) (ycV m ρ c) rfl (land_yc m ρ c)) $$ [H3 D3 HO S3 R3]
  · isplitr; · iexact HR
    isplitl [H3]; · iexact H3
    isplitl [D3]; · iexact D3
    isplitl [HO]; · iexact HO
    isplitl [S3] <;> iassumption
  iintro ⟨C3, HO⟩
  iapply (ld_step c xM _ (xstg m ρ c) _ (Memref.readAt_unit_zero (Elt F) cc0_stg0_0 hz4 _ _)) $$ Hx; iintro Hx
  iapply (ret_step c)
  iapply Hk
  isplitl [Hx]; · iexact Hx
  isplitl [C1]; · iexact C1
  isplitl [C2]; · iexact C2
  isplitl [C3] <;> iassumption

/-- What the transfers of the statistics leave at the peers. -/
theorem get_st4 (c : Dev nD) : recvPay m ρ 4 (nb 4 c) = slotAt (nb 4 c) 1 fullShare (stV m ρ c) := by
  show slotAt (nb 4 c) 1 fullShare (stV m ρ (xn (nb 4 c))) = _; rw [show xn (nb 4 c) = c from xn_xn c]
theorem get_st5 (c : Dev nD) : recvPay m ρ 5 (nb 5 c) = slotAt (nb 5 c) 2 fullShare (stV m ρ c) := by
  show slotAt (nb 5 c) 2 fullShare (stV m ρ (yn (nb 5 c))) = _; rw [show yn (nb 5 c) = c from yn_yn c]
theorem get_st6 (c : Dev nD) : recvPay m ρ 6 (nb 6 c) = slotAt (nb 6 c) 3 fullShare (stV m ρ c) := by
  show slotAt (nb 6 c) 3 fullShare (stV m ρ (dn (nb 6 c))) = _; rw [show dn (nb 6 c) = c from dn_dn c]

/-! ## The statistics, and their transfer along `x` -/

set_option backward.proofsInPublic true in
abbrev P4 (c : Dev nD) (v2 v5 v6 v7 : BitVec 32) (v83 : FVec F S8192x64 .f32) (v86 : FVec F S1x8192 .f32) (cst : F .f32) : Prog (TpuEff nD τ sig (Elt F) Λ₀ .tc) PUnit :=
  k0_part4 (F := F) xM (Memref.isWhole_whole _) kM (Memref.isWhole_whole _) wM (Memref.isWhole_whole _) oM (Memref.isWhole_whole _) pM (Memref.isWhole_whole _) stM (Memref.isWhole_whole _) rsS (Memref.isWhole_whole _) rsR (Memref.isWhole_whole _) csS (Memref.isWhole_whole _) csR (Memref.isWhole_whole _) dgS (Memref.isWhole_whole _) dgR (Memref.isWhole_whole _) ycS (Memref.isWhole_whole _) ycR (Memref.isWhole_whole _) cc0_scratch10 cc0_scratch11 c v2 v5 v6 v7 v83 v86 cst

theorem part4 (K : Dev nD × Fin 15 → ℕ) (c : Dev nD) (v2 v5 v6 v7 : BitVec 32) (Kt : PUnit → sProp 𝕄) :
    iprop((recs m ρ K ∗ slotAny c 0 ∗ slotAny (nb 4 c) 1 ∗ owing c 3 ∗ (dutyTok ER (sendCell 4 c) 0 0 ∗ dutyTok ER (recvCell 4 (nb 4 c)) 0 0))
      ∗ ((slotAt c 0 (lend 5) (stV m ρ c) ∗ slotAt c 0 (lend 6) (stV m ρ c) ∗ cred (tallyAt (sendCell 4 c) () (cr 4)) ∗ owing c 2) -∗ Kt ⟨⟩))
      ⊢ wpK c (P4 (F := F) c v2 v5 v6 v7 (k0_pay10 (xstg m ρ c)) k0_pay11 (Scalar.ofBits .f32 0x00000000#32)) Kt := by
  unfold P4
  rw [k0_part4_eq_skeleton]; unfold k0_part4_skel
  simp only [Prog.lift, Prog.bind_op, Prog.bind_ret, Prog.pure_eq_ret]
  iintro ⟨⟨#HR, ⟨%X, H0⟩, D4, HO, ⟨S4, R4⟩⟩, Hk⟩
  iapply (slot_load c 0 X) $$ H0; iintro H0
  iapply (slot_store c 0 X (stV m ρ c)) $$ H0; iintro H0
  ihave H := (slot_lend c (stV m ρ c)).1 $$ H0
  icases H with ⟨L4, L5, L6⟩
  iapply (slot_step m ρ K c 4 _ (dev8_eq c) 1 2 rfl _ _ rfl rfl rfl rfl (get_st4 m ρ c)) $$ [L4 D4 HO S4 R4]
  · isplitr; · iexact HR
    isplitl [L4]; · iexact L4
    isplitl [D4]; · iexact D4
    isplitl [HO]; · iexact HO
    isplitl [S4] <;> iassumption
  iintro ⟨C4, HO⟩
  iapply (ret_step c)
  iapply Hk
  isplitl [L5]; · iexact L5
  isplitl [L6]; · iexact L6
  isplitl [C4] <;> iassumption

end Cert.NormConv

end
-- ==== Proof.Part2b.lean ====
/-
# The kernel's parts: the statistics' other transfers, and the device's own entries

Each part run on device `c`, one rule per statement, from what it uses to what it leaves.
-/
module

public import proofs.«01_k».proof.Proof.Part2

@[expose] public section

set_option maxRecDepth 8000
set_option maxHeartbeats 1600000

noncomputable section

namespace Cert.NormConv

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Their transfers along `y` and the diagonal; the device's own block and far row in the padded buffer -/

/-- The own block's rows and columns, -/
def own1 (r q : ℕ) : Prop := 1 ≤ r ∧ r ≤ 64 ∧ 1 ≤ q ∧ q ≤ 64
/-- with the row past the image's edge, -/
def own2 (c : Dev nD) (r q : ℕ) : Prop := (1 ≤ r ∧ r ≤ 64 ∨ r = farP (c.val / 2)) ∧ 1 ≤ q ∧ q ≤ 64
/-- and with the row of the neighbour. -/
def own3 (r q : ℕ) : Prop := 1 ≤ q ∧ q ≤ 64

set_option backward.proofsInPublic true in
abbrev P5 (c : Dev nD) (v8 v9 v28 v30 : BitVec 32) (v82 : FVec F S2x64x64x64 .f32) : Prog (TpuEff nD τ sig (Elt F) Λ₀ .tc) PUnit :=
  k0_part5 (F := F) xM (Memref.isWhole_whole _) kM (Memref.isWhole_whole _) wM (Memref.isWhole_whole _) oM (Memref.isWhole_whole _) pM (Memref.isWhole_whole _) stM (Memref.isWhole_whole _) rsS (Memref.isWhole_whole _) rsR (Memref.isWhole_whole _) csS (Memref.isWhole_whole _) csR (Memref.isWhole_whole _) dgS (Memref.isWhole_whole _) dgR (Memref.isWhole_whole _) ycS (Memref.isWhole_whole _) ycR (Memref.isWhole_whole _) cc0_scratch10 cc0_scratch11 c v8 v9 v28 v30 v82

theorem part5 (K : Dev nD × Fin 15 → ℕ) (c : Dev nD) (v8 v9 v28 v30 : BitVec 32) (Kt : PUnit → sProp 𝕄) :
    iprop((recs m ρ K ∗ pt c cc0_stg0_0 (xstg m ρ c) ∗ anyPt c cc0_scratch0 ∗ slotAt c 0 (lend 5) (stV m ρ c) ∗ slotAt c 0 (lend 6) (stV m ρ c) ∗ slotAny (nb 5 c) 2 ∗ slotAny (nb 6 c) 3 ∗ owing c 2
        ∗ (dutyTok ER (sendCell 5 c) 0 0 ∗ dutyTok ER (recvCell 5 (nb 5 c)) 0 0) ∗ (dutyTok ER (sendCell 6 c) 0 0 ∗ dutyTok ER (recvCell 6 (nb 6 c)) 0 0)
        ∗ cred (tallyAt (sendCell 0 c) () (cr 0)) ∗ atPos ER (sendCell 0 c) 0 ∅ 0)
      ∗ ((pt c cc0_stg0_0 (xstg m ρ c) ∗ padAg m ρ c (own2 c) ∗ cred (tallyAt (sendCell 5 c) () (cr 5)) ∗ cred (tallyAt (sendCell 6 c) () (cr 6)) ∗ owing c 0
          ∗ atPos ER (sendCell 0 c) 1 ∅ 0 ∗ sendPay m ρ 0 c) -∗ Kt ⟨⟩))
      ⊢ wpK c (P5 (F := F) c v8 v9 v28 v30 (k0_pay9 (xstg m ρ c))) Kt := by
  unfold P5
  rw [k0_part5_eq_skeleton]; unfold k0_part5_skel
  simp only [Prog.lift, Prog.bind_op, Prog.bind_ret, Prog.pure_eq_ret]
  iintro ⟨⟨#HR, Hx, ⟨%f, Hp⟩, L5, L6, D5, D6, HO, ⟨S5, R5⟩, ⟨S6, R6⟩, Hc, Hat⟩, Hk⟩
  iapply (slot_step m ρ K c 5 _ (dev9_eq c) 2 1 rfl _ _ rfl rfl rfl rfl (get_st5 m ρ c)) $$ [L5 D5 HO S5 R5]
  · isplitr; · iexact HR
    isplitl [L5]; · iexact L5
    isplitl [D5]; · iexact D5
    isplitl [HO]; · iexact HO
    isplitl [S5] <;> iassumption
  iintro ⟨C5, HO⟩
  iapply (slot_step m ρ K c 6 _ (dev10_eq c) 3 0 rfl _ _ rfl rfl rfl rfl (get_st6 m ρ c)) $$ [L6 D6 HO S6 R6]
  · isplitr; · iexact HR
    isplitl [L6]; · iexact L6
    isplitl [D6]; · iexact D6
    isplitl [HO]; · iexact HO
    isplitl [S6] <;> iassumption
  iintro ⟨C6, HO⟩
  ihave Hp := (show pt c cc0_scratch0 f ⊢ padAg m ρ c (fun _ _ => False) from by
    unfold padAg; iintro H; iexists f; isplitr; · (ipureintro; exact ag_none m ρ c f)
    iexact H) $$ Hp
  iapply (pad_step m ρ c _ own1 1 1 64 64 rfl rfl (st_own m ρ c) (by unfold own1; intros; omega)) $$ Hp; iintro Hp
  iapply (ld_step c xM _ (xstg m ρ c) _ rfl) $$ Hx; iintro Hx
  iapply (pad_step m ρ c _ (own2 c) (farP (c.val / 2)) 1 1 64 (off4_far c) rfl (st_far m ρ c _ (off4_far c)) (by unfold own1 own2; intros; omega)) $$ Hp; iintro Hp
  iapply (wait_send_step m ρ K c 0 (sQ ![0] inb_S7_S1_0) rfl (src := rsR) (dst := rsS) rfl) $$ [Hc HO Hat]
  · isplitr; · iexact HR
    isplitl [Hc]; · iexact Hc
    isplitl [HO] <;> iassumption
  iintro ⟨HO, Hat, HP⟩
  iapply (ret_step c)
  iapply Hk
  isplitl [Hx]; · iexact Hx
  isplitl [Hp]; · iexact Hp
  isplitl [C5]; · iexact C5
  isplitl [C6]; · iexact C6
  isplitl [HO]; · iexact HO
  isplitl [Hat] <;> iassumption

end Cert.NormConv

end
-- ==== Proof.Part3.lean ====
/-
# The kernel's parts: the waits and the padded buffer

Each part run on device `c`, one rule per statement, from what it uses to what it leaves.
-/
module

public import proofs.«01_k».proof.Proof.Part2b

@[expose] public section

set_option maxRecDepth 8000
set_option maxHeartbeats 1600000

noncomputable section

namespace Cert.NormConv

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Every row is the own block's, the one past the image's edge or the neighbour's. -/
theorem edge_far_rows (p r : ℕ) (hp : p ≤ 1) (hr : r < 66) : 1 ≤ r ∧ r ≤ 64 ∨ r = edgeP p ∨ r = farP p := by
  unfold edgeP farP; split <;> omega

/-! ## The row received -/

set_option backward.proofsInPublic true in
abbrev P6 (c : Dev nD) (v2 v5 v6 v7 v8 v9 v26 : BitVec 32) : Prog (TpuEff nD τ sig (Elt F) Λ₀ .tc) PUnit :=
  k0_part6 (F := F) xM (Memref.isWhole_whole _) kM (Memref.isWhole_whole _) wM (Memref.isWhole_whole _) oM (Memref.isWhole_whole _) pM (Memref.isWhole_whole _) stM (Memref.isWhole_whole _) rsS (Memref.isWhole_whole _) rsR (Memref.isWhole_whole _) csS (Memref.isWhole_whole _) csR (Memref.isWhole_whole _) dgS (Memref.isWhole_whole _) dgR (Memref.isWhole_whole _) ycS (Memref.isWhole_whole _) ycR (Memref.isWhole_whole _) cc0_scratch10 cc0_scratch11 c v2 v5 v6 v7 v8 v9 v26

theorem part6 (K : Dev nD × Fin 15 → ℕ) (c : Dev nD) (v2 v5 v6 v7 v8 v9 v26 : BitVec 32) (Kt : PUnit → sProp 𝕄) :
    iprop((recs m ρ K ∗ padAg m ρ c (own2 c) ∗ owing c 0 ∗ (cred (tallyAt (recvCell 0 c) () (cr 0)) ∗ atPos ER (recvCell 0 c) 0 ∅ 0) ∗ (cred (tallyAt (sendCell 1 c) () (cr 1)) ∗ atPos ER (sendCell 1 c) 0 ∅ 0) ∗ (cred (tallyAt (recvCell 1 c) () (cr 1)) ∗ atPos ER (recvCell 1 c) 0 ∅ 0) ∗ (cred (tallyAt (sendCell 2 c) () (cr 2)) ∗ atPos ER (sendCell 2 c) 0 ∅ 0) ∗ (cred (tallyAt (recvCell 2 c) () (cr 2)) ∗ atPos ER (recvCell 2 c) 0 ∅ 0))
      ∗ ((padAg m ρ c own3 ∗ owing c 0 ∗ (atPos ER (recvCell 0 c) 1 ∅ 0 ∗ recvPay m ρ 0 c) ∗ (atPos ER (sendCell 1 c) 1 ∅ 0 ∗ sendPay m ρ 1 c) ∗ (atPos ER (recvCell 1 c) 1 ∅ 0 ∗ recvPay m ρ 1 c) ∗ (atPos ER (sendCell 2 c) 1 ∅ 0 ∗ sendPay m ρ 2 c) ∗ (atPos ER (recvCell 2 c) 1 ∅ 0 ∗ recvPay m ρ 2 c)) -∗ Kt ⟨⟩))
      ⊢ wpK c (P6 (F := F) c v2 v5 v6 v7 v8 v9 v26) Kt := by
  unfold P6
  rw [k0_part6_eq_skeleton]; unfold k0_part6_skel
  simp only [Prog.lift, Prog.bind_op, Prog.bind_ret, Prog.pure_eq_ret]
  iintro ⟨⟨#HR, Hp, HO, ⟨Cr0, Ar0⟩, ⟨Cs1, As1⟩, ⟨Cr1, Ar1⟩, ⟨Cs2, As2⟩, ⟨Cr2, Ar2⟩⟩, Hk⟩
  iapply (wait_recv_step m ρ K c 0 (rQ ![0] inb_S7_S1_0) rfl (src := rsS) (dst := rsR) rfl) $$ [Cr0 HO Ar0]
  · isplitr; · iexact HR
    isplitl [Cr0]; · iexact Cr0
    isplitl [HO] <;> iassumption
  iintro ⟨HO, Ar0, Pr0⟩
  ihave Pr0 := (Entails.of_eq (show recvPay m ρ 0 c = pt c cc0_scratch3 (rsV m ρ (xn c)) from rfl)) $$ Pr0
  iapply (ld_step c rsR _ (rsV m ρ (xn c)) _ (Memref.readAt_unit_zero (Elt F) cc0_scratch3 hz4 _ _)) $$ Pr0; iintro Pr0
  iapply (pad_step m ρ c _ own3 (edgeP (c.val / 2)) 1 1 64 (off4_edge c) rfl (st_rs m ρ c _ (off4_edge c)) (by
    intro r q hr hq h; have := edge_far_rows (c.val / 2) r (row_le c).1 hr; unfold own3 at h; unfold own2; omega)) $$ Hp; iintro Hp
  iapply (wait_send_step m ρ K c 1 (sQ ![1] inb_S7_S1_1) rfl (src := csR) (dst := csS) rfl) $$ [Cs1 HO As1]
  · isplitr; · iexact HR
    isplitl [Cs1]; · iexact Cs1
    isplitl [HO] <;> iassumption
  iintro ⟨HO, As1, Ps1⟩
  iapply (wait_recv_step m ρ K c 1 (rQ ![1] inb_S7_S1_1) rfl (src := csS) (dst := csR) rfl) $$ [Cr1 HO Ar1]
  · isplitr; · iexact HR
    isplitl [Cr1]; · iexact Cr1
    isplitl [HO] <;> iassumption
  iintro ⟨HO, Ar1, Pr1⟩
  iapply (wait_send_step m ρ K c 2 (sQ ![2] inb_S7_S1_2) rfl (src := dgR) (dst := dgS) rfl) $$ [Cs2 HO As2]
  · isplitr; · iexact HR
    isplitl [Cs2]; · iexact Cs2
    isplitl [HO] <;> iassumption
  iintro ⟨HO, As2, Ps2⟩
  iapply (wait_recv_step m ρ K c 2 (rQ ![2] inb_S7_S1_2) rfl (src := dgS) (dst := dgR) rfl) $$ [Cr2 HO Ar2]
  · isplitr; · iexact HR
    isplitl [Cr2]; · iexact Cr2
    isplitl [HO] <;> iassumption
  iintro ⟨HO, Ar2, Pr2⟩
  iapply (ret_step c)
  iapply Hk
  isplitl [Hp]; · iexact Hp
  isplitl [HO]; · iexact HO
  isplitl [Ar0 Pr0]
  · isplitl [Ar0]; · iexact Ar0
    iapply (Entails.of_eq (show pt c cc0_scratch3 (rsV m ρ (xn c)) = recvPay m ρ 0 c from rfl)); iexact Pr0
  isplitl [As1 Ps1]; · isplitl [As1] <;> iassumption
  isplitl [Ar1 Pr1]; · isplitl [Ar1] <;> iassumption
  isplitl [As2 Ps2]; · isplitl [As2] <;> iassumption
  isplitl [Ar2] <;> iassumption

/-! ## The columns received -/

/-- The buffers received, with the padded one. -/
def gotten (c : Dev nD) (P : ℕ → ℕ → Prop) : sProp 𝕄 :=
  iprop(padAg m ρ c P ∗ pt c cc0_scratch5 (csV m ρ (yn c)) ∗ pt c cc0_scratch7 (dgV m ρ (dn c)) ∗ pt c cc0_scratch9 (ycV m ρ (yn c)))

theorem padAg_mono (c : Dev nD) {P P' : ℕ → ℕ → Prop} (h : ∀ r q, P' r q → P r q) : padAg m ρ c P ⊢ padAg m ρ c P' := by
  unfold padAg
  iintro ⟨%f, %hf, H⟩
  iexists f; isplitr; · (ipureintro; exact fun i hi => hf i (h _ _ hi))
  iexact H

theorem gotten_mono (c : Dev nD) {P P' : ℕ → ℕ → Prop} (h : ∀ r q, P' r q → P r q) : gotten m ρ c P ⊢ gotten m ρ c P' := by
  unfold gotten
  iintro ⟨H, HB⟩
  isplitl [H]; · iapply (padAg_mono m ρ c h); iexact H
  iexact HB

set_option backward.proofsInPublic true in
abbrev P7 (c : Dev nD) (v2 v5 v6 v7 v34 v36 : BitVec 32) : Prog (TpuEff nD τ sig (Elt F) Λ₀ .tc) PUnit :=
  k0_part7 (F := F) xM (Memref.isWhole_whole _) kM (Memref.isWhole_whole _) wM (Memref.isWhole_whole _) oM (Memref.isWhole_whole _) pM (Memref.isWhole_whole _) stM (Memref.isWhole_whole _) rsS (Memref.isWhole_whole _) rsR (Memref.isWhole_whole _) csS (Memref.isWhole_whole _) csR (Memref.isWhole_whole _) dgS (Memref.isWhole_whole _) dgR (Memref.isWhole_whole _) ycS (Memref.isWhole_whole _) ycR (Memref.isWhole_whole _) cc0_scratch10 cc0_scratch11 c v2 v5 v6 v7 v34 v36

theorem part7 (K : Dev nD × Fin 15 → ℕ) (c : Dev nD) (v2 v5 v6 v7 v34 v36 : BitVec 32) (Kt : PUnit → sProp 𝕄) :
    iprop((recs m ρ K ∗ padAg m ρ c own3 ∗ recvPay m ρ 1 c ∗ recvPay m ρ 2 c ∗ owing c 0 ∗ (cred (tallyAt (sendCell 3 c) () (cr 3)) ∗ atPos ER (sendCell 3 c) 0 ∅ 0) ∗ (cred (tallyAt (recvCell 3 c) () (cr 3)) ∗ atPos ER (recvCell 3 c) 0 ∅ 0) ∗ (cred (tallyAt (sendCell 4 c) () (cr 4)) ∗ atPos ER (sendCell 4 c) 0 ∅ 0))
      ∗ ((gotten m ρ c (fun _ _ => True) ∗ owing c 0 ∗ (atPos ER (sendCell 3 c) 1 ∅ 0 ∗ sendPay m ρ 3 c) ∗ atPos ER (recvCell 3 c) 1 ∅ 0 ∗ (atPos ER (sendCell 4 c) 1 ∅ 0 ∗ sendPay m ρ 4 c)) -∗ Kt ⟨⟩))
      ⊢ wpK c (P7 (F := F) c v2 v5 v6 v7 v34 v36) Kt := by
  unfold P7
  rw [k0_part7_eq_skeleton]; unfold k0_part7_skel
  simp only [Prog.lift, Prog.bind_op, Prog.bind_ret, Prog.pure_eq_ret]
  iintro ⟨⟨#HR, Hp, P9, P11, HO, ⟨Cs3, As3⟩, ⟨Cr3, Ar3⟩, ⟨Cs4, As4⟩⟩, Hk⟩
  iapply (wait_send_step m ρ K c 3 (sQ ![3] inb_S7_S1_3) rfl (src := ycR) (dst := ycS) rfl) $$ [Cs3 HO As3]
  · isplitr; · iexact HR
    isplitl [Cs3]; · iexact Cs3
    isplitl [HO] <;> iassumption
  iintro ⟨HO, As3, Ps3⟩
  iapply (wait_recv_step m ρ K c 3 (rQ ![3] inb_S7_S1_3) rfl (src := ycS) (dst := ycR) rfl) $$ [Cr3 HO Ar3]
  · isplitr; · iexact HR
    isplitl [Cr3]; · iexact Cr3
    isplitl [HO] <;> iassumption
  iintro ⟨HO, Ar3, Pr3⟩
  ihave Hg := (show iprop(padAg m ρ c own3 ∗ recvPay m ρ 1 c ∗ recvPay m ρ 2 c ∗ recvPay m ρ 3 c) ⊢ gotten m ρ c own3 from Entails.of_eq rfl) $$ [Hp P9 P11 Pr3]
  · isplitl [Hp]; · iexact Hp
    isplitl [P9]; · iexact P9
    isplitl [P11] <;> iassumption
  iapply (if_step c (gotten m ρ c own3) (gotten m ρ c fun r q => own3 r q ∨ c.val % 2 = 0)
    (fun h => by
      unfold gotten
      have hc := (cond3_iff c).mp h
      have he : 65 = edgeP (c.val % 2) := by rw [hc]; rfl
      have hg : gcl (c.val % 2) 0 = gcl (c.val % 2) 1 := by rw [hc]; rfl
      iintro ⟨Hp, P9, P11, P13⟩ Hk
      iapply (pad_read m ρ c 0 1 hg inb_S2x66x66x64_S2x66x1x64_0_0_0_0 (fun r => by unfold own3; omega)) $$ Hp
      iintro %v %hv Hp
      iapply (pad_step m ρ c _ (fun r q => q ≤ 64) 0 0 66 1 rfl rfl (fun x => (congrFun (pay16_id _) x).trans (hv x)) (by unfold own3; intros; omega)) $$ Hp; iintro Hp
      iapply (ld_step c csR _ (csV m ρ (yn c)) _ (Memref.readAt_unit_zero (Elt F) cc0_scratch5 hz4 _ _)) $$ P9; iintro P9
      iapply (pad_step m ρ c _ (fun r q => q ≤ 64 ∨ 1 ≤ r ∧ r ≤ 64) 1 65 64 1 rfl rfl (fun x => (congrFun (pay17_id _) x).trans (st_cs m ρ c 65 he x)) (by intros; omega)) $$ Hp; iintro Hp
      iapply (ld_step c dgR _ (dgV m ρ (dn c)) _ (Memref.readAt_unit_zero (Elt F) cc0_scratch7 hz4 _ _)) $$ P11; iintro P11
      iapply (pad_step m ρ c _ (fun r q => q ≤ 64 ∨ (1 ≤ r ∧ r ≤ 64) ∨ r = edgeP (c.val / 2)) (edgeP (c.val / 2)) 65 1 1 (off5_edge c) rfl
        (fun x => (congrFun (pay18_id _) x).trans (st_dg m ρ c _ ((off5_edge c).trans (by rw [← he])) x)) (by intros; omega)) $$ Hp; iintro Hp
      iapply (ld_step c ycR _ (ycV m ρ (yn c)) _ (Memref.readAt_unit_zero (Elt F) cc0_scratch9 hz4 _ _)) $$ P13; iintro P13
      iapply (pad_step m ρ c _ (fun r q => True) (farP (c.val / 2)) 65 1 1 (off5_far c) rfl
        (fun x => (congrFun (pay19_id _) x).trans (st_yc m ρ c _ ((off5_far c).trans (by rw [← he])) x)) (by intro r q hr hq _; have := edge_far_rows (c.val / 2) r (row_le c).1 hr; omega)) $$ Hp; iintro Hp
      iapply Hk
      isplitl [Hp]
      · iapply (padAg_mono m ρ c (fun _ _ _ => trivial)); iexact Hp
      isplitl [P9]; · iexact P9
      isplitl [P11] <;> iassumption)
    (fun h => gotten_mono m ρ c fun r q hq => hq.resolve_right fun hc => h ((cond3_iff c).mpr hc))) $$ Hg
  iintro Hg
  iapply (if_step c (gotten m ρ c fun r q => own3 r q ∨ c.val % 2 = 0) (gotten m ρ c fun _ _ => True)
    (fun h => by
      unfold gotten
      have hc := (cond4_iff c).mp h
      have he : 0 = edgeP (c.val % 2) := by rw [hc]; rfl
      have hg : gcl (c.val % 2) 65 = gcl (c.val % 2) 64 := by rw [hc]; rfl
      iintro ⟨Hp, P9, P11, P13⟩ Hk
      iapply (pad_read m ρ c 65 64 hg inb_S2x66x66x64_S2x66x1x64_0_0_65_0 (fun r => by unfold own3; omega)) $$ Hp
      iintro %v %hv Hp
      iapply (pad_step m ρ c _ (fun r q => 1 ≤ q) 0 65 66 1 rfl rfl (fun x => (congrFun (pay20_id _) x).trans (hv x)) (by unfold own3; intros; omega)) $$ Hp; iintro Hp
      iapply (ld_step c csR _ (csV m ρ (yn c)) _ (Memref.readAt_unit_zero (Elt F) cc0_scratch5 hz4 _ _)) $$ P9; iintro P9
      iapply (pad_step m ρ c _ (fun r q => 1 ≤ q ∨ 1 ≤ r ∧ r ≤ 64) 1 0 64 1 rfl rfl (fun x => (congrFun (pay21_id _) x).trans (st_cs m ρ c 0 he x)) (by intros; omega)) $$ Hp; iintro Hp
      iapply (ld_step c dgR _ (dgV m ρ (dn c)) _ (Memref.readAt_unit_zero (Elt F) cc0_scratch7 hz4 _ _)) $$ P11; iintro P11
      iapply (pad_step m ρ c _ (fun r q => 1 ≤ q ∨ (1 ≤ r ∧ r ≤ 64) ∨ r = edgeP (c.val / 2)) (edgeP (c.val / 2)) 0 1 1 (off6_edge c) rfl
        (fun x => (congrFun (pay22_id _) x).trans (st_dg m ρ c _ ((off6_edge c).trans (by rw [← he])) x)) (by intros; omega)) $$ Hp; iintro Hp
      iapply (ld_step c ycR _ (ycV m ρ (yn c)) _ (Memref.readAt_unit_zero (Elt F) cc0_scratch9 hz4 _ _)) $$ P13; iintro P13
      iapply (pad_step m ρ c _ (fun r q => True) (farP (c.val / 2)) 0 1 1 (off6_far c) rfl
        (fun x => (congrFun (pay23_id _) x).trans (st_yc m ρ c _ ((off6_far c).trans (by rw [← he])) x)) (by intro r q hr hq _; have := edge_far_rows (c.val / 2) r (row_le c).1 hr; omega)) $$ Hp; iintro Hp
      iapply Hk
      isplitl [Hp]; · iexact Hp
      isplitl [P9]; · iexact P9
      isplitl [P11] <;> iassumption)
    (fun h => gotten_mono m ρ c fun r q _ => Or.inr ((Nat.mod_two_eq_zero_or_one c.val).resolve_right fun hc => h ((cond4_iff c).mpr hc)))) $$ Hg
  iintro Hg
  iapply (wait_send_step m ρ K c 4 (sQ ![4] inb_S7_S1_4) rfl (src := slotM 1) (dst := slotM 0) rfl) $$ [Cs4 HO As4]
  · isplitr; · iexact HR
    isplitl [Cs4]; · iexact Cs4
    isplitl [HO] <;> iassumption
  iintro ⟨HO, As4, Ps4⟩
  iapply (ret_step c)
  iapply Hk
  isplitl [Hg]; · iexact Hg
  isplitl [HO]; · iexact HO
  isplitl [As3 Ps3]; · isplitl [As3] <;> iassumption
  isplitl [Ar3]; · iexact Ar3
  isplitl [As4] <;> iassumption

end Cert.NormConv

end
-- ==== Proof.Part4.lean ====
/-
# The kernel's parts: the statistics received, and the loads of the computation

Each part run on device `c`, one rule per statement, from what it uses to what it leaves.
-/
module

public import proofs.«01_k».proof.Proof.Part3

@[expose] public section

set_option maxRecDepth 8000
set_option maxHeartbeats 1600000

noncomputable section

namespace Cert.NormConv

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The statistics received -/

set_option backward.proofsInPublic true in
abbrev P8 (v2 v7 : BitVec 32) : Prog (TpuEff nD τ sig (Elt F) Λ₀ .tc) PUnit :=
  k0_part8 (F := F) xM (Memref.isWhole_whole _) kM (Memref.isWhole_whole _) wM (Memref.isWhole_whole _) oM (Memref.isWhole_whole _) pM (Memref.isWhole_whole _) stM (Memref.isWhole_whole _) rsS (Memref.isWhole_whole _) rsR (Memref.isWhole_whole _) csS (Memref.isWhole_whole _) csR (Memref.isWhole_whole _) dgS (Memref.isWhole_whole _) dgR (Memref.isWhole_whole _) ycS (Memref.isWhole_whole _) ycR (Memref.isWhole_whole _) cc0_scratch10 cc0_scratch11 v2 v7

theorem part8 (K : Dev nD × Fin 15 → ℕ) (c : Dev nD) (v2 v7 : BitVec 32) (Kt : PUnit → sProp 𝕄) :
    iprop((recs m ρ K ∗ owing c 0 ∗ (cred (tallyAt (recvCell 4 c) () (cr 4)) ∗ atPos ER (recvCell 4 c) 0 ∅ 0) ∗ (cred (tallyAt (sendCell 5 c) () (cr 5)) ∗ atPos ER (sendCell 5 c) 0 ∅ 0) ∗ (cred (tallyAt (recvCell 5 c) () (cr 5)) ∗ atPos ER (recvCell 5 c) 0 ∅ 0))
      ∗ ((owing c 0 ∗ (atPos ER (recvCell 4 c) 1 ∅ 0 ∗ recvPay m ρ 4 c) ∗ (atPos ER (sendCell 5 c) 1 ∅ 0 ∗ sendPay m ρ 5 c) ∗ (atPos ER (recvCell 5 c) 1 ∅ 0 ∗ recvPay m ρ 5 c)) -∗ Kt ⟨⟩))
      ⊢ wpK c (P8 (F := F) v2 v7) Kt := by
  unfold P8
  rw [k0_part8_eq_skeleton]; unfold k0_part8_skel
  simp only [Prog.lift, Prog.bind_op, Prog.bind_ret, Prog.pure_eq_ret]
  iintro ⟨⟨#HR, HO, ⟨Cr4, Ar4⟩, ⟨Cs5, As5⟩, ⟨Cr5, Ar5⟩⟩, Hk⟩
  iapply (wait_recv_step m ρ K c 4 (rQ ![4] inb_S7_S1_4) rfl (src := slotM 0) (dst := slotM 1) rfl) $$ [Cr4 HO Ar4]
  · isplitr; · iexact HR
    isplitl [Cr4]; · iexact Cr4
    isplitl [HO] <;> iassumption
  iintro ⟨HO, Ar4, Pr4⟩
  iapply (wait_send_step m ρ K c 5 (sQ ![5] inb_S7_S1_5) rfl (src := slotM 2) (dst := slotM 0) rfl) $$ [Cs5 HO As5]
  · isplitr; · iexact HR
    isplitl [Cs5]; · iexact Cs5
    isplitl [HO] <;> iassumption
  iintro ⟨HO, As5, Ps5⟩
  iapply (wait_recv_step m ρ K c 5 (rQ ![5] inb_S7_S1_5) rfl (src := slotM 0) (dst := slotM 2) rfl) $$ [Cr5 HO Ar5]
  · isplitr; · iexact HR
    isplitl [Cr5]; · iexact Cr5
    isplitl [HO] <;> iassumption
  iintro ⟨HO, Ar5, Pr5⟩
  iapply (ret_step c)
  iapply Hk
  isplitl [HO]; · iexact HO
  isplitl [Ar4 Pr4]; · isplitl [Ar4] <;> iassumption
  isplitl [As5 Ps5]; · isplitl [As5] <;> iassumption
  isplitl [Ar5] <;> iassumption

/-- The four slots, each at the statistics of its device. -/
def slots (c : Dev nD) : sProp 𝕄 :=
  iprop(slotAt c 0 fullShare (stV m ρ c) ∗ slotAt c 1 fullShare (stV m ρ (xn c)) ∗ slotAt c 2 fullShare (stV m ρ (yn c)) ∗ slotAt c 3 fullShare (stV m ρ (dn c)))

theorem slots_of (c : Dev nD) :
    iprop(sendPay m ρ 4 c ∗ sendPay m ρ 5 c ∗ sendPay m ρ 6 c ∗ recvPay m ρ 4 c ∗ recvPay m ρ 5 c ∗ recvPay m ρ 6 c) ⊢ slots m ρ c := by
  show iprop(slotAt c 0 (lend 4) (stV m ρ c) ∗ slotAt c 0 (lend 5) (stV m ρ c) ∗ slotAt c 0 (lend 6) (stV m ρ c)
    ∗ slotAt c 1 fullShare (stV m ρ (xn c)) ∗ slotAt c 2 fullShare (stV m ρ (yn c)) ∗ slotAt c 3 fullShare (stV m ρ (dn c))) ⊢ _
  unfold slots
  iintro ⟨A, B, C, H⟩
  isplitl [A B C]
  · iapply (slot_lend c (stV m ρ c)).2
    isplitl [A]; · iexact A
    isplitl [B] <;> iassumption
  iexact H

theorem slots_any (c : Dev nD) : slots m ρ c ⊢ anyPt c cc0_scratch1 := by
  unfold slots
  exact slots_join c ![stV m ρ c, stV m ρ (xn c), stV m ρ (yn c), stV m ρ (dn c)]

set_option backward.proofsInPublic true in
abbrev P9 (v8 v9 : BitVec 32) : Prog (TpuEff nD τ sig (Elt F) Λ₀ .tc) (Σ' (v248 : FVec F S2x64 .f32), FVec F S2x64 .f32) :=
  k0_part9 (F := F) xM (Memref.isWhole_whole _) kM (Memref.isWhole_whole _) wM (Memref.isWhole_whole _) oM (Memref.isWhole_whole _) pM (Memref.isWhole_whole _) stM (Memref.isWhole_whole _) rsS (Memref.isWhole_whole _) rsR (Memref.isWhole_whole _) csS (Memref.isWhole_whole _) csR (Memref.isWhole_whole _) dgS (Memref.isWhole_whole _) dgR (Memref.isWhole_whole _) ycS (Memref.isWhole_whole _) ycR (Memref.isWhole_whole _) cc0_scratch10 cc0_scratch11 v8 v9

theorem part9 (K : Dev nD × Fin 15 → ℕ) (c : Dev nD) (v8 v9 : BitVec 32) (Kt : (Σ' (v248 : FVec F S2x64 .f32), FVec F S2x64 .f32) → sProp 𝕄) :
    iprop((recs m ρ K ∗ owing c 0 ∗ (cred (tallyAt (sendCell 6 c) () (cr 6)) ∗ atPos ER (sendCell 6 c) 0 ∅ 0) ∗ (cred (tallyAt (recvCell 6 c) () (cr 6)) ∗ atPos ER (recvCell 6 c) 0 ∅ 0) ∗ sendPay m ρ 4 c ∗ sendPay m ρ 5 c ∗ recvPay m ρ 4 c ∗ recvPay m ρ 5 c)
      ∗ ((owing c 0 ∗ atPos ER (sendCell 6 c) 1 ∅ 0 ∗ atPos ER (recvCell 6 c) 1 ∅ 0 ∗ slots m ρ c) -∗ Kt ⟨k0_pay25 (stV m ρ c) (stV m ρ (xn c)) (stV m ρ (yn c)) (stV m ρ (dn c)), k0_pay26 (stV m ρ c) (stV m ρ (xn c)) (stV m ρ (yn c)) (stV m ρ (dn c))⟩))
      ⊢ wpK c (P9 (F := F) v8 v9) Kt := by
  unfold P9
  rw [k0_part9_eq_skeleton]; unfold k0_part9_skel
  simp only [Prog.lift, Prog.bind_op, Prog.bind_ret, Prog.pure_eq_ret]
  iintro ⟨⟨#HR, HO, ⟨Cs6, As6⟩, ⟨Cr6, Ar6⟩, Ps4, Ps5, Pr4, Pr5⟩, Hk⟩
  iapply (wait_send_step m ρ K c 6 (sQ ![6] inb_S7_S1_6) rfl (src := slotM 3) (dst := slotM 0) rfl) $$ [Cs6 HO As6]
  · isplitr; · iexact HR
    isplitl [Cs6]; · iexact Cs6
    isplitl [HO] <;> iassumption
  iintro ⟨HO, As6, Ps6⟩
  iapply (wait_recv_step m ρ K c 6 (rQ ![6] inb_S7_S1_6) rfl (src := slotM 0) (dst := slotM 3) rfl) $$ [Cr6 HO Ar6]
  · isplitr; · iexact HR
    isplitl [Cr6]; · iexact Cr6
    isplitl [HO] <;> iassumption
  iintro ⟨HO, Ar6, Pr6⟩
  ihave Hs := (slots_of m ρ c) $$ [Ps4 Ps5 Ps6 Pr4 Pr5 Pr6]
  · isplitl [Ps4]; · iexact Ps4
    isplitl [Ps5]; · iexact Ps5
    isplitl [Ps6]; · iexact Ps6
    isplitl [Pr4]; · iexact Pr4
    isplitl [Pr5] <;> iassumption
  unfold slots
  icases Hs with ⟨H0, H1, H2, H3⟩
  iapply (slot_load c 0 (stV m ρ c)) $$ H0; iintro H0
  iapply (slot_load c 1 (stV m ρ (xn c))) $$ H1; iintro H1
  iapply (slot_load c 2 (stV m ρ (yn c))) $$ H2; iintro H2
  iapply (slot_load c 3 (stV m ρ (dn c))) $$ H3; iintro H3
  iapply (ret_step c)
  iapply Hk
  isplitl [HO]; · iexact HO
  isplitl [As6]; · iexact As6
  isplitl [Ar6]; · iexact Ar6
  isplitl [H0]; · iexact H0
  isplitl [H1]; · iexact H1
  isplitl [H2] <;> iassumption

/-! ## The computation's loads -/

set_option backward.proofsInPublic true in
abbrev P10 (v248 v256 : FVec F S2x64 .f32) : Prog (TpuEff nD τ sig (Elt F) Λ₀ .tc) (Σ' (v257 : Vec F S2x66x66x64 .f32) (v259 : FVec F S3x3x64 .f32) (v299 : FVec F S2x64x64x64 .f32) (v305 : FVec F S2x64x64x64 .f32), FVec F S2x64x64x64 .f32) :=
  k0_part10 (F := F) xM (Memref.isWhole_whole _) kM (Memref.isWhole_whole _) wM (Memref.isWhole_whole _) oM (Memref.isWhole_whole _) pM (Memref.isWhole_whole _) stM (Memref.isWhole_whole _) rsS (Memref.isWhole_whole _) rsR (Memref.isWhole_whole _) csS (Memref.isWhole_whole _) csR (Memref.isWhole_whole _) dgS (Memref.isWhole_whole _) dgR (Memref.isWhole_whole _) ycS (Memref.isWhole_whole _) ycR (Memref.isWhole_whole _) cc0_scratch10 cc0_scratch11 v248 v256

theorem part10 (c : Dev nD) (v248 v256 : FVec F S2x64 .f32) (Kt : (Σ' (v257 : Vec F S2x66x66x64 .f32) (v259 : FVec F S3x3x64 .f32) (v299 : FVec F S2x64x64x64 .f32) (v305 : FVec F S2x64x64x64 .f32), FVec F S2x64x64x64 .f32) → sProp 𝕄) :
    iprop((padAg m ρ c (fun _ _ => True) ∗ pt c cc0_stg1_0 (kstg m ρ c))
      ∗ ((pt c cc0_scratch0 (padV m ρ c) ∗ pt c cc0_stg1_0 (kstg m ρ c))
        -∗ Kt ⟨padV m ρ c, k0_pay27 (kstg m ρ c), k0_pay28 v248 v256 (padV m ρ c) (kstg m ρ c), k0_pay29 (padV m ρ c), k0_pay30 v256 (kstg m ρ c)⟩))
      ⊢ wpK c (P10 (F := F) v248 v256) Kt := by
  unfold P10
  rw [k0_part10_eq_skeleton]; unfold k0_part10_skel
  simp only [Prog.lift, Prog.bind_op, Prog.bind_ret, Prog.pure_eq_ret]
  unfold padAg
  iintro ⟨⟨⟨%f, %hf, Hp⟩, H1⟩, Hk⟩
  obtain rfl := ag_all m ρ c f _ hf (fun _ _ _ _ => trivial)
  iapply (ld_step c pM _ (padV m ρ c) _ (Memref.readAt_unit_zero (Elt F) cc0_scratch0 hz4 _ _)) $$ Hp; iintro Hp
  iapply (ld_step c kM _ (kstg m ρ c) _ (Memref.readAt_unit_zero (Elt F) cc0_stg1_0 hz3 _ _)) $$ H1; iintro H1
  iapply (ret_step c)
  iapply Hk
  isplitl [Hp] <;> iassumption

set_option backward.proofsInPublic true in
abbrev P11 (v256 : FVec F S2x64 .f32) (v257 : Vec F S2x66x66x64 .f32) (v259 : FVec F S3x3x64 .f32) (v299 v305 v307 : FVec F S2x64x64x64 .f32) : Prog (TpuEff nD τ sig (Elt F) Λ₀ .tc) (Σ' (v362 : FVec F S8192x64 .f32) (v364 : FVec F S64x64 .f32), FVec F S8192x64 .f32) :=
  k0_part11 (F := F) xM (Memref.isWhole_whole _) kM (Memref.isWhole_whole _) wM (Memref.isWhole_whole _) oM (Memref.isWhole_whole _) pM (Memref.isWhole_whole _) stM (Memref.isWhole_whole _) rsS (Memref.isWhole_whole _) rsR (Memref.isWhole_whole _) csS (Memref.isWhole_whole _) csR (Memref.isWhole_whole _) dgS (Memref.isWhole_whole _) dgR (Memref.isWhole_whole _) ycS (Memref.isWhole_whole _) ycR (Memref.isWhole_whole _) cc0_scratch10 cc0_scratch11 v256 v257 v259 v299 v305 v307

theorem part11 (c : Dev nD) (v256 : FVec F S2x64 .f32) (v257 : Vec F S2x66x66x64 .f32) (v259 : FVec F S3x3x64 .f32) (v299 v305 v307 : FVec F S2x64x64x64 .f32) (Kt : (Σ' (v362 : FVec F S8192x64 .f32) (v364 : FVec F S64x64 .f32), FVec F S8192x64 .f32) → sProp 𝕄) :
    iprop(pt c cc0_stg2_0 (wstg m ρ c)
      ∗ (pt c cc0_stg2_0 (wstg m ρ c) -∗ Kt ⟨k0_pay31 v256 v257 v259 v299 v305 v307, k0_pay32 (wstg m ρ c), constant S8192x64 .f32 0x00000000#32⟩))
      ⊢ wpK c (P11 (F := F) v256 v257 v259 v299 v305 v307) Kt := by
  unfold P11
  rw [k0_part11_eq_skeleton]; unfold k0_part11_skel
  simp only [Prog.lift, Prog.bind_op, Prog.bind_ret, Prog.pure_eq_ret]
  iintro ⟨H, Hk⟩
  iapply (ld_step c wM _ (wstg m ρ c) _ (Memref.readAt_unit_zero (Elt F) cc0_stg2_0 hz2 _ _)) $$ H; iintro H
  iapply (ret_step c)
  iapply Hk; iexact H

end Cert.NormConv

end
-- ==== Proof.Body.lean ====
/-
# The kernel's body

The parts run one after another, from what the launch deals a device to what it hands back.
-/
module

public import proofs.«01_k».proof.Proof.Part4

@[expose] public section

set_option maxRecDepth 8000
set_option maxHeartbeats 1600000

noncomputable section

namespace Cert.NormConv

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device starts from and what it leaves -/

/-- The duties: three of each barrier, one of each send cell, one of each receive cell; -/
def tokCell : Fin 17 → Dev nD → GSem nD τ sig := ![barCell, barCell, barCell,
  sendCell 0, sendCell 1, sendCell 2, sendCell 3, sendCell 4, sendCell 5, sendCell 6, recvCell 0, recvCell 1, recvCell 2, recvCell 3, recvCell 4, recvCell 5, recvCell 6]
def tokDuty : Fin 17 → Fin 3 := ![0, 1, 2, 0, 0, 0, 0, 0, 0, 0, 0, 0, 0, 0, 0, 0, 0]
/-- and who pays each. -/
def payer : Fin 17 → Dev nD → Dev nD := ![xn, yn, dn, id, id, id, id, id, id, id, nb 0, nb 1, nb 2, nb 3, nb 4, nb 5, nb 6]
theorem payer_payer (j : Fin 17) (c : Dev nD) : payer j (payer j c) = c := by revert j c; decide

/-- A device's positions at round `r` of its cells. -/
def positions (c : Dev nD) (r : ℕ) : sProp 𝕄 := bigSep Finset.univ fun k : Fin 15 => atPos ER (kcell (c, k)) r ∅ 0
/-- The tokens of the duties it pays. -/
def payToks (c : Dev nD) : sProp 𝕄 := bigSep Finset.univ fun j : Fin 17 => dutyTok ER (tokCell j (payer j c)) 0 (tokDuty j)
/-- The credits of what its neighbours owe it. -/
def credits (c : Dev nD) : sProp 𝕄 :=
  iprop(cred (tallyAt (barCell c) () 3) ∗ bigSep Finset.univ fun j : Fin 7 => cred (tallyAt (recvCell j c) () (cr j)))
/-- Its ten scratch buffers. -/
def scratch (c : Dev nD) : sProp 𝕄 :=
  iprop(anyPt c cc0_scratch0 ∗ anyPt c cc0_scratch1 ∗ anyPt c cc0_scratch2 ∗ anyPt c cc0_scratch3 ∗ anyPt c cc0_scratch4 ∗ anyPt c cc0_scratch5 ∗ anyPt c cc0_scratch6 ∗ anyPt c cc0_scratch7 ∗ anyPt c cc0_scratch8 ∗ anyPt c cc0_scratch9)

theorem positions_eq (c : Dev nD) (r : ℕ) : (positions (F := F) c r) = iprop(atPos ER (barCell c) r ∅ 0
    ∗ atPos ER (sendCell 0 c) r ∅ 0 ∗ atPos ER (sendCell 1 c) r ∅ 0 ∗ atPos ER (sendCell 2 c) r ∅ 0 ∗ atPos ER (sendCell 3 c) r ∅ 0 ∗ atPos ER (sendCell 4 c) r ∅ 0 ∗ atPos ER (sendCell 5 c) r ∅ 0 ∗ atPos ER (sendCell 6 c) r ∅ 0
    ∗ atPos ER (recvCell 0 c) r ∅ 0 ∗ atPos ER (recvCell 1 c) r ∅ 0 ∗ atPos ER (recvCell 2 c) r ∅ 0 ∗ atPos ER (recvCell 3 c) r ∅ 0 ∗ atPos ER (recvCell 4 c) r ∅ 0 ∗ atPos ER (recvCell 5 c) r ∅ 0 ∗ atPos ER (recvCell 6 c) r ∅ 0) :=
  bigSep_univ_eq_bigSepL [0, 1, 2, 3, 4, 5, 6, 7, 8, 9, 10, 11, 12, 13, 14] (by decide) (by decide) _
theorem payToks_eq (c : Dev nD) : (payToks (F := F) c) = iprop(dutyTok ER (barCell (xn c)) 0 0 ∗ dutyTok ER (barCell (yn c)) 0 1 ∗ dutyTok ER (barCell (dn c)) 0 2
    ∗ dutyTok ER (sendCell 0 c) 0 0 ∗ dutyTok ER (sendCell 1 c) 0 0 ∗ dutyTok ER (sendCell 2 c) 0 0 ∗ dutyTok ER (sendCell 3 c) 0 0 ∗ dutyTok ER (sendCell 4 c) 0 0 ∗ dutyTok ER (sendCell 5 c) 0 0 ∗ dutyTok ER (sendCell 6 c) 0 0
    ∗ dutyTok ER (recvCell 0 (nb 0 c)) 0 0 ∗ dutyTok ER (recvCell 1 (nb 1 c)) 0 0 ∗ dutyTok ER (recvCell 2 (nb 2 c)) 0 0 ∗ dutyTok ER (recvCell 3 (nb 3 c)) 0 0 ∗ dutyTok ER (recvCell 4 (nb 4 c)) 0 0 ∗ dutyTok ER (recvCell 5 (nb 5 c)) 0 0 ∗ dutyTok ER (recvCell 6 (nb 6 c)) 0 0) :=
  bigSep_univ_eq_bigSepL [0, 1, 2, 3, 4, 5, 6, 7, 8, 9, 10, 11, 12, 13, 14, 15, 16] (by decide) (by decide) _
theorem credits_eq (c : Dev nD) : (credits (F := F) c) = iprop(cred (tallyAt (barCell c) () 3)
    ∗ cred (tallyAt (recvCell 0 c) () (cr 0)) ∗ cred (tallyAt (recvCell 1 c) () (cr 1)) ∗ cred (tallyAt (recvCell 2 c) () (cr 2)) ∗ cred (tallyAt (recvCell 3 c) () (cr 3)) ∗ cred (tallyAt (recvCell 4 c) () (cr 4)) ∗ cred (tallyAt (recvCell 5 c) () (cr 5)) ∗ cred (tallyAt (recvCell 6 c) () (cr 6))) :=
  congrArg _ (bigSep_univ_eq_bigSepL [0, 1, 2, 3, 4, 5, 6] (by decide) (by decide) _)

def ghost (K : Dev nD × Fin 15 → ℕ) (c : Dev nD) : sProp 𝕄 := iprop(recs m ρ K ∗ positions c 0 ∗ payToks c)
/-- What the launch deals device `c`. -/
def start (c : Dev nD) : sProp 𝕄 := iprop((∃ K, ghost m ρ K c) ∗ credits c ∗ levAts L lv)

def Φ₀ (c : Dev nD) : sProp 𝕄 := iprop(start m ρ c ∗ scratch c)
/-- After the point: the scratch buffers, and the cells closed at zero. -/
def Φ₁ (c : Dev nD) : sProp 𝕄 := iprop(scratch c ∗ bigSep Finset.univ fun k : Fin 15 => semVal (kcell (c, k)) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => kstg m ρ c
    | ⟨2, _⟩ => wstg m ρ c
    | ⟨3, _⟩ => outAt m ρ c
  Φ t := match t with
    | ⟨0, _⟩ => Φ₀ m ρ c
    | ⟨_ + 1, _⟩ => Φ₁ c
  q _ := fullShare
  owed t := match t with
    | ⟨0, _⟩ => due c 10
    | ⟨_ + 1, _⟩ => due c 0

/-- All of a device's cells close: their counters at zero are the device's again. -/
theorem close_all (K : Dev nD × Fin 15 → ℕ) (c : Dev nD) :
    iprop(recs m ρ K ∗ positions c 1) ⊢ (|={Set.univ}=> bigSep Finset.univ fun k : Fin 15 => semVal (kcell (c, k)) 0 : sProp 𝕄) := by
  have h (k : Fin 15) : iprop(recs m ρ K ∗ atPos ER (kcell (c, k)) 1 ∅ 0) ⊢ (|={Set.univ}=> semVal (kcell (c, k)) 0 : sProp 𝕄) := by
    iintro ⟨#HR, Hat⟩
    iapply (Rounds.cell_close ER (rd m ρ) (Set.mem_univ (K (c, k))) (fun h => h) (R := 0 + 1) (duties_later m ρ (kcell (c, k))))
    isplitr; · iapply (inv_of m ρ K (c, k) _ rfl); iexact HR
    iexact Hat
  unfold positions
  refine (sep_mono_left (BI.bigSep_of_persistent (Finset.univ : Finset (Fin 15)) (recs m ρ K))).trans ?_
  rw [← bigSep_sep']
  exact (bigSep_mono fun k _ => h k).trans (bigSep_fupd _ _)

/-! ## The body -/

/-- The staging buffer `b` reads `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPost (c : Dev nD) : sProp 𝕄 :=
  iprop(Φ₁ c ∗ (dats m ρ 0 c).owesAt () t0_0.succ ∗ stg c cc0_stg0_0 (xstg m ρ c) ∗ stg c cc0_stg1_0 (kstg m ρ c)
    ∗ stg c cc0_stg2_0 (wstg m ρ c) ∗ stg c cc0_stg3_0 (outAt m ρ c))

set_option backward.proofsInPublic true in
abbrev body : Prog (TpuEff nD τ sig (Elt F) Λ₀ .tc) PUnit := cc0_body (F := F) xM (Memref.isWhole_whole _) kM (Memref.isWhole_whole _) wM (Memref.isWhole_whole _) oM (Memref.isWhole_whole _) pM (Memref.isWhole_whole _) stM (Memref.isWhole_whole _) rsS (Memref.isWhole_whole _) rsR (Memref.isWhole_whole _) csS (Memref.isWhole_whole _) csR (Memref.isWhole_whole _) dgS (Memref.isWhole_whole _) dgR (Memref.isWhole_whole _) ycS (Memref.isWhole_whole _) ycR (Memref.isWhole_whole _) cc0_scratch10 cc0_scratch11

/-- A store preceded by a dropped load, the two run one after the other. -/
theorem put_step (c : Dev nD) {Q : PUnit → sProp 𝕄} {s : Shape} {e : EltTy} (b : Memref sig .tc .vmem s e) (r : Rect s) (w : r.shape.Idx → Elt F e) {hl hx hm} (f g : Buf (Elt F) (b.view.loc (c : Thread nD τ)))
    (hg : (b.access r).write (Elt F) f w Finset.univ = g) :
    (b.view.loc (c : Thread nD τ) ↦{fullShare} f)
      ⊢ iprop(((b.view.loc (c : Thread nD τ) ↦{fullShare} g) -∗ Q ⟨⟩)
          -∗ wpK c (.op (.load b r.toLoadRect hl) .ret) fun _ => wpK c (.op (.store b r w Finset.univ hx hm) .ret) Q) := by
  subst hg
  iintro H Hk
  iapply (wp_load 𝒱₀ (c : Thread nD τ) none Set.univ (m := b) (Finset.subset_univ _)) $$ H
  iintro H
  iapply (ret_step c)
  iapply (wp_store 𝒱₀ (c : Thread nD τ) none Set.univ (m := b) (r := r) (Mk := Finset.univ) (Finset.subset_univ _)) $$ H
  iintro H
  iapply (ret_step c)
  iapply Hk; iexact H

theorem outAt_eq (c : Dev nD) : k0_pay1 (k0_pay9 (xstg m ρ c))
    (k0_pay31 (k0_pay26 (stV m ρ c) (stV m ρ (xn c)) (stV m ρ (yn c)) (stV m ρ (dn c))) (padV m ρ c) (k0_pay27 (kstg m ρ c))
      (k0_pay28 (k0_pay25 (stV m ρ c) (stV m ρ (xn c)) (stV m ρ (yn c)) (stV m ρ (dn c))) (k0_pay26 (stV m ρ c) (stV m ρ (xn c)) (stV m ρ (yn c)) (stV m ρ (dn c))) (padV m ρ c) (kstg m ρ c))
      (k0_pay29 (padV m ρ c)) (k0_pay30 (k0_pay26 (stV m ρ c) (stV m ρ (xn c)) (stV m ρ (yn c)) (stV m ρ (dn c))) (kstg m ρ c)))
    (k0_pay32 (wstg m ρ c)) (constant S8192x64 .f32 0x00000000#32) = outAt m ρ c := rfl

theorem sound_body (K : Dev nD × Fin 15 → ℕ) (c : Dev nD) :
    iprop((ghost m ρ K c ∗ credits c ∗ levAts L lv ∗ scratch c) ∗ owing c 10
        ∗ pt c cc0_stg0_0 (xstg m ρ c) ∗ pt c cc0_stg1_0 (kstg m ρ c) ∗ pt c cc0_stg2_0 (wstg m ρ c) ∗ anyPt c cc0_stg3_0)
      ⊢ wpK c (body (F := F)) fun _ => iprop(Φ₁ c ∗ owing c 0
        ∗ pt c cc0_stg0_0 (xstg m ρ c) ∗ pt c cc0_stg1_0 (kstg m ρ c) ∗ pt c cc0_stg2_0 (wstg m ρ c) ∗ pt c cc0_stg3_0 (outAt m ρ c)) := by
  unfold body
  simp only [cc0_body_eq_skeleton]; unfold cc0_body_skel
  simp only [wp_bind]
  unfold ghost
  rw [positions_eq, payToks_eq, credits_eq]
  unfold scratch
  iintro ⟨⟨⟨#HR, ⟨HaB, HaS0, HaS1, HaS2, HaS3, HaS4, HaS5, HaS6, HaR0, HaR1, HaR2, HaR3, HaR4, HaR5, HaR6⟩, HtX, HtY, HtD, HtS0, HtS1, HtS2, HtS3, HtS4, HtS5, HtS6, HtR0, HtR1, HtR2, HtR3, HtR4, HtR5, HtR6⟩,
    ⟨HcB, HcR0, HcR1, HcR2, HcR3, HcR4, HcR5, HcR6⟩, #Hlev, Hp, Hst, H2, H3, ⟨%f4, H4⟩, H5, ⟨%f6, H6⟩, H7, ⟨%f8, H8⟩, H9⟩, HO, Hx, Hk, Hw, ⟨%g, Hout⟩⟩
  ihave Hslots := (slots_split c) $$ Hst
  icases Hslots with ⟨Hs0, Hs1, Hs2, Hs3⟩
  ihave HB := (show iprop(pt c cc0_scratch4 f4 ∗ pt c cc0_scratch6 f6 ∗ pt c cc0_scratch8 f8) ⊢ colBufs m ρ c False from by
    unfold colBufs
    iintro H; iexists f4, f6, f8
    isplitr; · (ipureintro; exact False.elim)
    iexact H) $$ [H4 H6 H8]
  · isplitl [H4]; · iexact H4
    isplitl [H6] <;> iassumption
  iapply (part1 m ρ K c _)
  isplitl [HO HtX HtY HtD H3 Hs1 H5 H9 Hs2 H7 Hs3 HcB HaB]
  · isplitr; · iexact HR
    isplitr; · iexact Hlev
    isplitl [HO]; · iexact HO
    isplitl [HtX HtY HtD]
    · isplitl [HtX]; · iexact HtX
      isplitl [HtY]; · iexact HtY
      iexact HtD
    isplitl [H3 Hs1]
    · isplitl [H3]; · iexact H3
      iexact Hs1
    isplitl [H5 H9 Hs2]
    · isplitl [H5]; · iexact H5
      isplitl [H9]; · iexact H9
      iexact Hs2
    isplitl [H7 Hs3]
    · isplitl [H7]; · iexact H7
      iexact Hs3
    isplitl [HcB]; · iexact HcB
    iexact HaB
  iintro %w ⟨HO, HaB, ⟨H3, Hs1⟩, ⟨H5, H9, Hs2⟩, H7, Hs3⟩
  obtain ⟨v2, v5, v6, v7, v8, v9, v24, v26⟩ := w
  dsimp only
  iapply (part2 m ρ K c v2 v5 v6 v24 _)
  isplitl [Hx H2 H3 HO HtS0 HtR0 HB]
  · isplitr; · iexact HR
    isplitl [Hx]; · iexact Hx
    isplitl [H2]; · iexact H2
    isplitl [H3]; · iexact H3
    isplitl [HO]; · iexact HO
    isplitl [HtS0]; · iexact HtS0
    isplitl [HtR0]; · iexact HtR0
    iexact HB
  iintro %w ⟨Hx, HcS0, HO, HB⟩
  obtain ⟨v28, v30, v32, v34, v36, w⟩ := w
  dsimp only
  iapply (part3 m ρ K c v2 v5 v7 v8 v9 v30 v32 w _)
  isplitl [Hx HB H5 H7 H9 HO HtS1 HtR1 HtS2 HtR2 HtS3 HtR3]
  · isplitr; · iexact HR
    isplitl [Hx]; · iexact Hx
    isplitl [HB]; · iexact HB
    isplitl [H5]; · iexact H5
    isplitl [H7]; · iexact H7
    isplitl [H9]; · iexact H9
    isplitl [HO]; · iexact HO
    isplitl [HtS1 HtR1]
    · isplitl [HtS1]; · iexact HtS1
      iexact HtR1
    isplitl [HtS2 HtR2]
    · isplitl [HtS2]; · iexact HtS2
      iexact HtR2
    isplitl [HtS3]; · iexact HtS3
    iexact HtR3
  iintro ⟨Hx, HcS1, HcS2, HcS3, HO⟩
  dsimp only
  iapply (part4 m ρ K c v2 v5 v6 v7 _)
  isplitl [Hs0 Hs1 HO HtS4 HtR4]
  · isplitr; · iexact HR
    isplitl [Hs0]; · iexact Hs0
    isplitl [Hs1]; · iexact Hs1
    isplitl [HO]; · iexact HO
    isplitl [HtS4]; · iexact HtS4
    iexact HtR4
  iintro ⟨Hl5, Hl6, HcS4, HO⟩
  iapply (part5 m ρ K c v8 v9 v28 v30 _)
  isplitl [Hx Hp Hl5 Hl6 Hs2 Hs3 HO HtS5 HtR5 HtS6 HtR6 HcS0 HaS0]
  · isplitr; · iexact HR
    isplitl [Hx]; · iexact Hx
    isplitl [Hp]; · iexact Hp
    isplitl [Hl5]; · iexact Hl5
    isplitl [Hl6]; · iexact Hl6
    isplitl [Hs2]; · iexact Hs2
    isplitl [Hs3]; · iexact Hs3
    isplitl [HO]; · iexact HO
    isplitl [HtS5 HtR5]
    · isplitl [HtS5]; · iexact HtS5
      iexact HtR5
    isplitl [HtS6 HtR6]
    · isplitl [HtS6]; · iexact HtS6
      iexact HtR6
    isplitl [HcS0]; · iexact HcS0
    iexact HaS0
  iintro ⟨Hx, Hp, HcS5, HcS6, HO, HaS0, HyS0⟩
  iapply (part6 m ρ K c v2 v5 v6 v7 v8 v9 v26 _)
  isplitl [Hp HO HcR0 HaR0 HcS1 HaS1 HcR1 HaR1 HcS2 HaS2 HcR2 HaR2]
  · isplitr; · iexact HR
    isplitl [Hp]; · iexact Hp
    isplitl [HO]; · iexact HO
    isplitl [HcR0 HaR0]
    · isplitl [HcR0]; · iexact HcR0
      iexact HaR0
    isplitl [HcS1 HaS1]
    · isplitl [HcS1]; · iexact HcS1
      iexact HaS1
    isplitl [HcR1 HaR1]
    · isplitl [HcR1]; · iexact HcR1
      iexact HaR1
    isplitl [HcS2 HaS2]
    · isplitl [HcS2]; · iexact HcS2
      iexact HaS2
    isplitl [HcR2]; · iexact HcR2
    iexact HaR2
  iintro ⟨Hp, HO, ⟨HaR0, HyR0⟩, ⟨HaS1, HyS1⟩, ⟨HaR1, HyR1⟩, ⟨HaS2, HyS2⟩, ⟨HaR2, HyR2⟩⟩
  iapply (part7 m ρ K c v2 v5 v6 v7 v34 v36 _)
  isplitl [Hp HyR1 HyR2 HO HcS3 HaS3 HcR3 HaR3 HcS4 HaS4]
  · isplitr; · iexact HR
    isplitl [Hp]; · iexact Hp
    isplitl [HyR1]; · iexact HyR1
    isplitl [HyR2]; · iexact HyR2
    isplitl [HO]; · iexact HO
    isplitl [HcS3 HaS3]
    · isplitl [HcS3]; · iexact HcS3
      iexact HaS3
    isplitl [HcR3 HaR3]
    · isplitl [HcR3]; · iexact HcR3
      iexact HaR3
    isplitl [HcS4]; · iexact HcS4
    iexact HaS4
  iintro ⟨Hg, HO, ⟨HaS3, HyS3⟩, HaR3, HaS4, HyS4⟩
  iapply (part8 m ρ K c v2 v7 _)
  isplitl [HO HcR4 HaR4 HcS5 HaS5 HcR5 HaR5]
  · isplitr; · iexact HR
    isplitl [HO]; · iexact HO
    isplitl [HcR4 HaR4]
    · isplitl [HcR4]; · iexact HcR4
      iexact HaR4
    isplitl [HcS5 HaS5]
    · isplitl [HcS5]; · iexact HcS5
      iexact HaS5
    isplitl [HcR5]; · iexact HcR5
    iexact HaR5
  iintro ⟨HO, ⟨HaR4, HyR4⟩, ⟨HaS5, HyS5⟩, HaR5, HyR5⟩
  iapply (part9 m ρ K c v8 v9 _)
  isplitl [HO HcS6 HaS6 HcR6 HaR6 HyS4 HyS5 HyR4 HyR5]
  · isplitr; · iexact HR
    isplitl [HO]; · iexact HO
    isplitl [HcS6 HaS6]
    · isplitl [HcS6]; · iexact HcS6
      iexact HaS6
    isplitl [HcR6 HaR6]
    · isplitl [HcR6]; · iexact HcR6
      iexact HaR6
    isplitl [HyS4]; · iexact HyS4
    isplitl [HyS5]; · iexact HyS5
    isplitl [HyR4]; · iexact HyR4
    iexact HyR5
  iintro ⟨HO, HaS6, HaR6, Hslots⟩
  dsimp only
  unfold gotten
  icases Hg with ⟨Hp, H5, H7, H9⟩
  iapply (part10 m ρ c _ _ _)
  isplitl [Hp Hk]
  · isplitl [Hp] <;> iassumption
  iintro ⟨Hp, Hk⟩
  dsimp only
  iapply (part11 m ρ c _ _ _ _ _ _ _)
  isplitl [Hw]
  · iexact Hw
  iintro Hw
  dsimp only
  simp only [Prog.lift, Prog.bind_op, Prog.bind_ret, Prog.pure_eq_ret]
  iapply (put_step c oM _ _ g (outAt m ρ c) ((Memref.write_access_unit_zero_univ (Elt F) cc0_stg3_0 hz4 _ g _).trans (outAt_eq m ρ c))) $$ Hout; iintro Hout
  ihave Hpos := (Entails.of_eq (positions_eq (F := F) c 1).symm) $$ [HaB HaS0 HaS1 HaS2 HaS3 HaS4 HaS5 HaS6 HaR0 HaR1 HaR2 HaR3 HaR4 HaR5 HaR6]
  · isplitl [HaB]; · iexact HaB
    isplitl [HaS0]; · iexact HaS0
    isplitl [HaS1]; · iexact HaS1
    isplitl [HaS2]; · iexact HaS2
    isplitl [HaS3]; · iexact HaS3
    isplitl [HaS4]; · iexact HaS4
    isplitl [HaS5]; · iexact HaS5
    isplitl [HaS6]; · iexact HaS6
    isplitl [HaR0]; · iexact HaR0
    isplitl [HaR1]; · iexact HaR1
    isplitl [HaR2]; · iexact HaR2
    isplitl [HaR3]; · iexact HaR3
    isplitl [HaR4]; · iexact HaR4
    isplitl [HaR5]; · iexact HaR5
    iexact HaR6
  imod (close_all m ρ K c) $$ [Hpos] with Hz
  · isplitr; · iexact HR
    iexact Hpos
  ihave Hst := (slots_any m ρ c) $$ Hslots
  ihave H2 := (Entails.of_eq (show sendPay m ρ 0 c = pt c cc0_scratch2 (rsV m ρ c) from rfl)) $$ HyS0
  ihave H4 := (Entails.of_eq (show sendPay m ρ 1 c = pt c cc0_scratch4 (csV m ρ c) from rfl)) $$ HyS1
  ihave H6 := (Entails.of_eq (show sendPay m ρ 2 c = pt c cc0_scratch6 (dgV m ρ c) from rfl)) $$ HyS2
  ihave H8 := (Entails.of_eq (show sendPay m ρ 3 c = pt c cc0_scratch8 (ycV m ρ c) from rfl)) $$ HyS3
  ihave H3 := (Entails.of_eq (show recvPay m ρ 0 c = pt c cc0_scratch3 (rsV m ρ (xn c)) from rfl)) $$ HyR0
  iapply (ret_step c)
  unfold Φ₁ scratch
  isplitr [HO Hx Hk Hw Hout]; swap
  · isplitl [HO]; · iexact HO
    isplitl [Hx]; · iexact Hx
    isplitl [Hk]; · iexact Hk
    isplitl [Hw] <;> iassumption
  isplitr [Hz]; swap; · iexact Hz
  isplitl [Hp]; · iexists _; iexact Hp
  isplitl [Hst]; · iexact Hst
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  iexists _; iexact H9

end Cert.NormConv

end
-- ==== Proof.Launch.lean ====
/-
# The launch: every execution of the program ends with each device's result computed

The body as the pipeline asks for it, the ghost state dealt to the devices, the credits of what they owe, and the run.
-/
module

public import proofs.«01_k».proof.Proof.Body
public import Idealize.ShloMosaic.Lib.Pipeline.CollectiveSegs

@[expose] public section

set_option maxRecDepth 8000
set_option maxHeartbeats 1600000

noncomputable section

namespace Cert.NormConv

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body's obligation -/

theorem owns_stg (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

theorem stg_eq (c : Dev nD) (b : Ref sig .tc) (X : b.ty.Contents (Elt F)) : (stg c b X : sProp 𝕄) ⊢ pt c b X := by
  iintro ⟨%f, %hf, H⟩
  subst hf; iexact H
theorem eq_stg (c : Dev nD) (b : Ref sig .tc) (X : b.ty.Contents (Elt F)) : (pt c b X : sProp 𝕄) ⊢ stg c b X := by
  iintro H
  iexists X; isplitr; · (ipureintro; rfl)
  iexact H

def bodyPre (c : Dev nD) : sProp 𝕄 :=
  iprop(Φ₀ m ρ c ∗ (dats m ρ 0 c).owesAt () t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))

theorem before_x (c : Dev nD) (d) : (dats m ρ 0 c).before (0 : Fin 4) t0_0 d = xstg m ρ c := by unfold Dat.before; rw [if_pos (fetch0_0 t0_0)]; rfl
theorem before_k (c : Dev nD) (d) : (dats m ρ 0 c).before (1 : Fin 4) t0_0 d = kstg m ρ c := by unfold Dat.before; rw [if_pos (fetch0_1 t0_0)]; rfl
theorem before_w (c : Dev nD) (d) : (dats m ρ 0 c).before (2 : Fin 4) t0_0 d = wstg m ρ c := by unfold Dat.before; rw [if_pos (fetch0_2 t0_0)]; rfl

theorem body_run (c : Dev nD) : bodyPre m ρ c ⊢ wpK c (body (F := F)) fun _ => bodyPost m ρ c := by
  have hpost : iprop(Φ₁ c ∗ owing c 0 ∗ pt c cc0_stg0_0 (xstg m ρ c) ∗ pt c cc0_stg1_0 (kstg m ρ c) ∗ pt c cc0_stg2_0 (wstg m ρ c) ∗ pt c cc0_stg3_0 (outAt m ρ c))
      ⊢ bodyPost m ρ c := by
    unfold bodyPost Dat.owesAt Pipeline.owesWithin owing
    rw [show (dats m ρ 0 c).owed t0_0.succ = due c 0 from rfl]
    iintro ⟨HΦ, ⟨%W', HO⟩, Hx, Hk, Hw, Ho⟩
    isplitl [HΦ]; · iexact HΦ
    isplitl [HO]
    · iexists W'; isplitr; · (ipureintro; exact fun _ _ => Or.inl trivial)
      iexact HO
    isplitl [Hx]; · iapply (eq_stg c cc0_stg0_0 _); iexact Hx
    isplitl [Hk]; · iapply (eq_stg c cc0_stg1_0 _); iexact Hk
    isplitl [Hw]; · iapply (eq_stg c cc0_stg2_0 _); iexact Hw
    iapply (eq_stg c cc0_stg3_0 _); iexact Ho
  refine BIBase.Entails.trans ?_ (wp_mono _ _ _ fun _ => hpost)
  unfold bodyPre Φ₀ start Dat.owesAt Pipeline.owesWithin
  rw [show (dats m ρ 0 c).owed t0_0.castSucc = due c 10 from rfl]
  simp only [before_x, before_k, before_w]
  iintro ⟨⟨⟨⟨%K, Hg⟩, Hc, Hl⟩, Hs⟩, ⟨%W, %hW, HO⟩, ⟨%d0, Hx⟩, ⟨%d1, Hk⟩, ⟨%d2, Hw⟩, ⟨%d3, %g, %hg, Ho⟩⟩
  ihave Hx := (stg_eq c cc0_stg0_0 _) $$ Hx
  ihave Hk := (stg_eq c cc0_stg1_0 _) $$ Hk
  ihave Hw := (stg_eq c cc0_stg2_0 _) $$ Hw
  iapply (sound_body m ρ K c)
  isplitl [Hg Hc Hl Hs]
  · isplitl [Hg]; · iexact Hg
    isplitl [Hc]; · iexact Hc
    isplitl [Hl] <;> iassumption
  isplitl [HO]; · unfold owing; iexists W; iexact HO
  isplitl [Hx]; · iexact Hx
  isplitl [Hk]; · iexact Hk
  isplitl [Hw]; · iexact Hw
  iexists g; iexact Ho

/-- What the pipeline asks of the body on device `c`. -/
theorem body_obligation (c : Dev nD) : BodyObligation (dats (F := F) m ρ 0 c) (defs₀ (F := F)) 𝒱₀ () Set.univ := fun t => by
  rw [show t = t0_0 from fin_N0 t]
  rw [show (Finset.univ : Finset (Fin cfg0.W)) = (Finset.univ : Finset (Fin 4)) from rfl, bigSep_W0, bigSep_W0]
  simp only [owns_stg]
  exact body_run m ρ c

/-! ## The launch -/

theorem ownSemFacts : Pipeline.OwnSemFacts cfg0.spec osem := by decide

theorem share_eq (c : Dev nD) (w : Fin cfg0.W) : (dats m ρ 0 c).share w = fullShare := by unfold Dat.share; split <;> rfl

theorem csem_injective : Function.Injective csem := by decide
theorem kcell_injective : Function.Injective (kcell : Dev nD × Fin 15 → GSem nD τ sig) := fun a b h =>
  Prod.ext (show a.1 = b.1 from congrArg (fun g : GSem nD τ sig => g.1.1) h) (csem_injective (congrArg Prod.snd h))
def protoCells : Finset (GSem nD τ sig) := Finset.univ.map ⟨kcell, kcell_injective⟩

/-- A device's duties: which cell, which round, which name. -/
abbrev tokOf (cj : Dev nD × Fin 17) : GSem nD τ sig × ℕ × Fin 3 := (tokCell cj.2 cj.1, 0, tokDuty cj.2)
/-- The place of a duty's cell among the fifteen. -/
def tokIx (j : Fin 17) : Fin 15 := ⟨j.val - 2, by omega⟩
theorem tokCell_eq (j : Fin 17) (c : Dev nD) : tokCell j c = kcell (c, tokIx j) := by
  fin_cases j <;> rfl
theorem tokIx_injective : Function.Injective fun j : Fin 17 => (tokIx j, tokDuty j) := by decide
theorem tokOf_injective : Function.Injective (tokOf : Dev nD × Fin 17 → GSem nD τ sig × ℕ × Fin 3) := fun a b h => by
  have h1 : kcell (a.1, tokIx a.2) = kcell (b.1, tokIx b.2) := (tokCell_eq _ _).symm.trans ((congrArg Prod.fst h).trans (tokCell_eq _ _))
  have h2 := kcell_injective h1
  have h3 : tokDuty a.2 = tokDuty b.2 := congrArg (fun x : GSem nD τ sig × ℕ × Fin 3 => x.2.2) h
  exact Prod.ext (show a.1 = b.1 from congrArg (fun x : Dev nD × Fin 15 => x.1) h2) (tokIx_injective (Prod.ext (congrArg (fun x : Dev nD × Fin 15 => x.2) h2) h3))
def protoToks : Finset (GSem nD τ sig × ℕ × Fin 3) := Finset.univ.map ⟨tokOf, tokOf_injective⟩

def u₀ : UU := (initOf (Pipeline.cells cfgs cellOf_inj) (Pipeline.launchToks cfgs cellOf_inj), initOf protoCells protoToks)

/-- The tokens of the duties of device `c`'s own cells. -/
def ownToks (c : Dev nD) : sProp 𝕄 := bigSep Finset.univ fun j : Fin 17 => dutyTok ER (tokCell j c) 0 (tokDuty j)

/-- What the launch element deals device `c`, -/
def G (c : Dev nD) : sProp 𝕄 :=
  iprop((bigSep Finset.univ fun k : Fin 15 => roundState ER (rd m ρ) (kcell (c, k)) 0)
    ∗ (bigSep Finset.univ fun k : Fin 15 => iprop(atPos ER (kcell (c, k)) 0 ∅ 0 ∗ reached ER (kcell (c, k)) 0)) ∗ ownToks c)
/-- and what the devices make of it together. -/
def G' (c : Dev nD) : sProp 𝕄 := iprop(∃ K, ghost m ρ K c)

theorem fund_proto : BI.own (ER (initOf protoCells protoToks)) ⊢ (|==> bigSep Finset.univ (G m ρ) : sProp 𝕄) := by
  have hX (Φ : GSem nD τ sig → sProp 𝕄) : bigSep protoCells Φ = bigSep Finset.univ fun c : Dev nD => bigSep Finset.univ fun k : Fin 15 => Φ (kcell (c, k)) := by
    unfold protoCells; rw [bigSep_map, bigSep_univ_prod]; rfl
  have hT : bigSep protoToks (fun x => (dutyTok ER x.1 x.2.1 x.2.2 : sProp 𝕄)) = bigSep Finset.univ fun c : Dev nD => ownToks c := by
    unfold protoToks ownToks; rw [bigSep_map, bigSep_univ_prod]; rfl
  iintro H
  imod (Rounds.fund ER (rd m ρ) protoCells protoToks) $$ H with ⟨Hst, Hr, Hat, Htok⟩
  imodintro
  unfold G; simp only [bigSep_sep']
  isplitl [Hst]; · iapply (Entails.of_eq (hX fun g => roundState ER (rd m ρ) g 0)); iexact Hst
  isplitl [Hat Hr]
  · isplitl [Hat]
    · iapply (Entails.of_eq (hX fun g => atPos ER g 0 ∅ 0)); iexact Hat
    · iapply (Entails.of_eq (hX fun g => reached ER g 0)); iexact Hr
  iapply (Entails.of_eq hT); iexact Htok

theorem fin15_succ (Φ : Fin 15 → sProp 𝕄) : bigSep Finset.univ Φ = iprop(Φ 0 ∗ bigSep Finset.univ fun k : Fin 14 => Φ k.succ) := by
  rw [bigSep_univ_eq_bigSepL [0, 1, 2, 3, 4, 5, 6, 7, 8, 9, 10, 11, 12, 13, 14] (by decide) (by decide), bigSep_univ_eq_bigSepL [0, 1, 2, 3, 4, 5, 6, 7, 8, 9, 10, 11, 12, 13] (by decide) (by decide)]; rfl

/-- The launch's own semaphores and its one unscoped one are the protocol's. -/
theorem unscopedSems0_eq (c : Dev nD) : (unscopedSems0 c : sProp 𝕄) = semVal (barCell c) 0 := by
  unfold unscopedSems0; rw [bigSep_eq_bigSepL_of_eq [SemLoc.reg barS] (by decide) (by decide)]; rfl
theorem sems_eq (c : Dev nD) : iprop(unscopedSems0 c ∗ Pipeline.ownSems0 (Ix := Unit) (Name := ℕ) (U := UU) (Lvl := ℕ) (Val := Elt F) (τ := τ) osem c)
    = (bigSep Finset.univ fun k : Fin 15 => semVal (kcell (c, k)) 0 : sProp 𝕄) := by
  rw [Pipeline.ownSems0_eq_of_list c osem [0, 1, 2, 3, 4, 5, 6, 7, 8, 9, 10, 11, 12, 13] (by decide) (by decide), unscopedSems0_eq, fin15_succ, bigSep_univ_eq_bigSepL [0, 1, 2, 3, 4, 5, 6, 7, 8, 9, 10, 11, 12, 13] (by decide) (by decide)]; rfl

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ ownToks c) := by
  unfold G
  iintro ⟨Hos, Hus, Hst, Hat, Htok⟩
  ihave Hv := (Entails.of_eq (sems_eq (F := F) c)) $$ [Hos Hus]
  · isplitl [Hus] <;> iassumption
  imod (show iprop((bigSep Finset.univ fun k : Fin 15 => semVal (kcell (c, k)) 0) ∗ bigSep Finset.univ fun k : Fin 15 => roundState ER (rd m ρ) (kcell (c, k)) 0)
      ⊢ (|={Set.univ}=> bigSep Finset.univ fun k => iprop(∃ κ : ℕ, cellInv ER (rd m ρ) κ (kcell (c, k))) : sProp 𝕄) from by
        rw [← bigSep_sep']
        exact (bigSep_mono fun k _ => (Rounds.body_intro ER (rd m ρ) (kcell (c, k))).trans inv_alloc).trans (bigSep_fupd _ _)) $$ [Hv Hst] with Hinv
  · isplitl [Hv] <;> iassumption
  imodintro
  isplitl [Hinv]; · iexact Hinv
  isplitl [Hat] <;> iassumption

/-- The tokens go to who pays: each duty's along its involution. -/
theorem deal : (bigSep Finset.univ fun c : Dev nD => (ownToks c : sProp 𝕄)) = bigSep Finset.univ fun c : Dev nD => payToks c := by
  unfold ownToks payToks
  rw [BI.bigSep_univ_comm, BI.bigSep_univ_comm (fun (c : Dev nD) (j : Fin 17) => (dutyTok ER (tokCell j (payer j c)) 0 (tokDuty j) : sProp 𝕄))]
  exact bigSep_congr fun j _ => BI.bigSep_univ_equiv ⟨payer j, payer j, payer_payer j, payer_payer j⟩ (fun c : Dev nD => (dutyTok ER (tokCell j c) 0 (tokDuty j) : sProp 𝕄))

theorem regroup :
    (bigSep Finset.univ fun c : Dev nD => iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ ownToks c) : sProp 𝕄)
      ⊢ bigSep Finset.univ (G' m ρ) := by
  have hpos : (bigSep Finset.univ fun c : Dev nD => bigSep Finset.univ fun k : Fin 15 => iprop(atPos ER (kcell (c, k)) 0 ∅ 0 ∗ reached ER (kcell (c, k)) 0) : sProp 𝕄)
      = iprop((bigSep Finset.univ fun c : Dev nD => positions c 0) ∗ bigSep Finset.univ fun ck : Dev nD × Fin 15 => reached ER (kcell ck) 0) := by
    rw [bigSep_univ_prod (fun ck : Dev nD × Fin 15 => (reached ER (kcell ck) 0 : sProp 𝕄)), ← bigSep_sep']
    exact bigSep_congr fun c _ => by unfold positions; rw [bigSep_sep']
  rw [bigSep_sep', bigSep_sep', ← bigSep_univ_prod (fun ck : Dev nD × Fin 15 => iprop(∃ κ : ℕ, cellInv ER (rd m ρ) κ (kcell ck))), hpos, deal]
  iintro ⟨HI, ⟨Hat, #HR⟩, Htok⟩
  ihave HK := (BI.bigSep_exists_pi Finset.univ (fun (ck : Dev nD × Fin 15) (κ : ℕ) => (cellInv ER (rd m ρ) κ (kcell ck) : sProp 𝕄))) $$ HI
  icases HK with ⟨%K, #HI⟩
  iapply (show iprop(recs m ρ K ∗ (bigSep Finset.univ fun c : Dev nD => (positions c 0 : sProp 𝕄)) ∗ bigSep Finset.univ fun c : Dev nD => payToks c) ⊢ bigSep Finset.univ (G' m ρ) from by
    refine (sep_mono_left (BI.bigSep_of_persistent (Finset.univ : Finset (Dev nD)) (recs m ρ K))).trans ?_
    rw [← bigSep_sep', ← bigSep_sep']
    refine bigSep_mono fun c _ => ?_
    unfold G' ghost
    show _ ⊢ (_ : sProp 𝕄)
    iintro H; iexists K; iexact H)
  isplitr
  · unfold recs; isplitl; · iexact HI
    iexact HR
  isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credits -/

theorem cred_step (n : ℕ) (c : Dev nD) : (Pipeline.launchCred (fun d => due d (n + 1)) c : sProp 𝕄)
    ⊢ iprop(Pipeline.launchCred (fun d => due d n) c ∗ cred (tallyAt ((c : Thread nD τ), dueSem n) () (dueAmt n))) := by
  rw [show (fun d => due d (n + 1)) = fun d => due d n + tallyAt (dueCell n d) () (dueAmt n) from rfl, Pipeline.launchCred_add]
  exact sep_mono_right (Pipeline.launchCred_tallyAt (dueSem n) (dueTo n) (dueTo n) (dueTo_dueTo n) (dueTo_dueTo n) () (dueAmt n) c)

theorem cred_three (g : GSem nD τ sig) : iprop(cred (tallyAt g () 1) ∗ cred (tallyAt g () 1) ∗ cred (tallyAt g () 1)) ⊢ (cred (tallyAt g () 3) : sProp 𝕄) := by
  rw [show (tallyAt g () 3 : CellTallies nD τ sig Unit) = tallyAt g () 1 + (tallyAt g () 1 + tallyAt g () 1) from by rw [tallyAt_add, tallyAt_add]]
  iintro ⟨H1, H2, H3⟩
  iapply (cred_add _ _).2
  isplitl [H1]; · iexact H1
  iapply (cred_add _ _).2
  isplitl [H2] <;> iassumption

/-- The credit of the `n`-th debt, on the device it is owed to. -/
def owed (c : Dev nD) (n : ℕ) : sProp 𝕄 := cred (tallyAt ((c : Thread nD τ), dueSem n) () (dueAmt n))

theorem owed_all (c : Dev nD) : (Pipeline.launchCred (fun d => due d 10) c : sProp 𝕄)
    ⊢ iprop((owed c 7 ∗ owed c 8 ∗ owed c 9) ∗ owed c 6 ∗ owed c 5 ∗ owed c 4 ∗ owed c 3 ∗ owed c 2 ∗ owed c 1 ∗ owed c 0) := by
  iintro H
  icases (cred_step 9 c) $$ H with ⟨H, H9⟩
  icases (cred_step 8 c) $$ H with ⟨H, H8⟩
  icases (cred_step 7 c) $$ H with ⟨H, H7⟩
  icases (cred_step 6 c) $$ H with ⟨H, H6⟩
  icases (cred_step 5 c) $$ H with ⟨H, H5⟩
  icases (cred_step 4 c) $$ H with ⟨H, H4⟩
  icases (cred_step 3 c) $$ H with ⟨H, H3⟩
  icases (cred_step 2 c) $$ H with ⟨H, H2⟩
  icases (cred_step 1 c) $$ H with ⟨H, H1⟩
  icases (cred_step 0 c) $$ H with ⟨H, H0⟩
  unfold owed
  isplitl [H7 H8 H9]
  · isplitl [H7]; · iexact H7
    isplitl [H8] <;> iassumption
  isplitl [H6]; · iexact H6
  isplitl [H5]; · iexact H5
  isplitl [H4]; · iexact H4
  isplitl [H3]; · iexact H3
  isplitl [H2]; · iexact H2
  isplitl [H1]; · iexact H1
  iexact H0

theorem creds (c : Dev nD) : (Pipeline.launchCred (fun d => due d 10) c : sProp 𝕄) ⊢ credits c := by
  rw [credits_eq]
  refine (owed_all c).trans (sep_mono_left ?_)
  exact cred_three (barCell c)

/-! ## The launch's side conditions -/

theorem start_intro (c : Dev nD) :
    iprop(Pipeline.unscopedRestP Pipeline.Prefetch.none cfg0.spec c (fun b => m ((c : Thread nD τ).loc b)) ∗ levAts L lv
        ∗ Pipeline.launchCred (fun d => due d 10) c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ scratch
  rw [← sems_eq]
  iintro ⟨Hr, Hu, Ho⟩
  isplitl [Hu]; · iexact Hu
  isplitl [Ho] <;> iassumption

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩ <;> exact mayWait_stage c _ (by fin_cases w <;> fin_cases s <;> decide) _

/-! ## The run -/

def finalA (c : Dev nD) (w : Fin cfg0.W) : Buf (Elt F) ((cfg0.win w).arr.view.loc (c : Thread nD τ)) := (dats m ρ 0 c).arrAt w cfg0.N

/-- From any memory with zero counters, every weakly fair execution on the four devices ends, each device's arrays at
    `finalA` and every counter at zero. -/
theorem run_main : θ_run defs (onTc (τ := τ) (main (F := F))) (s₀ m ρ) (fun r =>
    (∀ (c : Dev nD) (w : Fin cfg0.W), r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun c => due c 10) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_proto m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.NormConv

end
-- ==== Proof.RefRun.lean ====
/-
# The reference's run

The reference is one straight line of operations on one device. It is cut in four stretches, and each stretch's result
is named as a function of what the stretch reads: the normalised image (`normR`), the widened image (`padR`), the nine
taps added in order (`convR`) and the result (`tailR`). The run leaves the result at `outR` of the three arguments.
-/
module

public import proofs.«01_k».proof.Proof.Gen.ReferenceIdeal
public import Idealize.ShloMosaic.Lib.StableHlo.Run
public import Idealize.ShloMosaic.Lib.Pipeline.Frame

@[expose] public section

set_option maxRecDepth 8000
set_option maxHeartbeats 1600000

noncomputable section

namespace Cert.RefRun

open Cert.ReferenceIdeal Cert.ReferenceIdeal.Gen
open Idealize.ShloMosaic Idealize.ShloMosaic.TcCoe Idealize.ShloMosaic.StableHlo Idealize.SL.Sem

variable {F : FTy → Type} [FloatOps F]

/-! ## The stretches' values -/

/-- The image's sum over rows and columns. -/
def sumR (x : Vec F S2x128x128x64 .f32) : Vec F S2x1x1x64 .f32 :=
  broadcastInDim S2x1x1x64 ![0, 3] bcast_S2x64_S2x1x1x64_0_3
    (Host.reduceAdd x (constant S_ .f32 0x00000000#32) reducesTo_S2x128x128x64_S2x64_d1_2 h_S_)

/-- The mean over rows and columns. -/
def meanR (x : Vec F S2x128x128x64 .f32) : Vec F S2x1x1x64 .f32 :=
  Host.divf (sumR x) (broadcastInDim S2x1x1x64 ![] bcast_S_S2x1x1x64 (constant S_ .f32 0x46800000#32))

/-- A value per sample and channel, at every pixel. -/
def spreadR (v : Vec F S2x1x1x64 .f32) : Vec F S2x128x128x64 .f32 :=
  broadcastInDim S2x128x128x64 ![0, 1, 2, 3] bcast_S2x1x1x64_S2x128x128x64_0_1_2_3 v

/-- The image less its mean. -/
def devR (x : Vec F S2x128x128x64 .f32) : Vec F S2x128x128x64 .f32 := subf x (spreadR (meanR x))

/-- How many pixels the variance divides by. -/
def countR : Vec F S_ .f32 := subf (constant S_ .f32 0x46800000#32) (sitofp .f32 (constantI S_ 32 0#32))

/-- The variance over rows and columns. -/
def varR (x : Vec F S2x128x128x64 .f32) : Vec F S2x1x1x64 .f32 :=
  select (broadcastInDim S2x1x1x64 ![] bcast_S_S2x1x1x64 (cmpf .ogt (countR (F := F)) (constant S_ .f32 0x00000000#32)))
    (Host.divf (sumR (mulf (devR x) (devR x))) (broadcastInDim S2x1x1x64 ![] bcast_S_S2x1x1x64 (countR (F := F))))
    (broadcastInDim S2x1x1x64 ![] bcast_S_S2x1x1x64 (constant S_ .f32 0x7FC00000#32))

/-- The normalised image. -/
def normR (x : Vec F S2x128x128x64 .f32) : Vec F S2x128x128x64 .f32 :=
  Host.divf (devR x) (spreadR (Host.sqrt (addf (varR x)
    (broadcastInDim S2x1x1x64 ![] bcast_S_S2x1x1x64 (constant S_ .f32 0x3727C5AC#32)))))

/-- No sample added before or after. -/
def pad0 (h : Vec F S2x128x128x64 .f32) : Vec F S2x128x128x64 .f32 :=
  concatenate S2x128x128x64 0
    [⟨S0x128x128x64, shapeCast S0x128x128x64 (broadcastInDim S1x0x128x128x64 ![0, 2, 3, 4] bcast_S1x128x128x64_S1x0x128x128x64_0_2_3_4
        (extractStridedSlice S1x128x128x64 ![0, 0, 0, 0] h slices_S2x128x128x64_S1x128x128x64_0_0_0_0)) shapeCasts_S1x0x128x128x64_S0x128x128x64⟩,
     ⟨S2x128x128x64, h⟩,
     ⟨S0x128x128x64, shapeCast S0x128x128x64 (broadcastInDim S1x0x128x128x64 ![0, 2, 3, 4] bcast_S1x128x128x64_S1x0x128x128x64_0_2_3_4
        (extractStridedSlice S1x128x128x64 ![1, 0, 0, 0] h slices_S2x128x128x64_S1x128x128x64_1_0_0_0)) shapeCasts_S1x0x128x128x64_S0x128x128x64⟩]
    concatenates_S0x128x128x64_S2x128x128x64_S0x128x128x64_S2x128x128x64_d0

/-- The first row again before the rows and the last row again after them. -/
def pad1 (h : Vec F S2x128x128x64 .f32) : Vec F S2x130x128x64 .f32 :=
  concatenate S2x130x128x64 1
    [⟨S2x1x128x64, shapeCast S2x1x128x64 (broadcastInDim S2x1x1x128x64 ![0, 1, 3, 4] bcast_S2x1x128x64_S2x1x1x128x64_0_1_3_4
        (extractStridedSlice S2x1x128x64 ![0, 0, 0, 0] h slices_S2x128x128x64_S2x1x128x64_0_0_0_0)) shapeCasts_S2x1x1x128x64_S2x1x128x64⟩,
     ⟨S2x128x128x64, h⟩,
     ⟨S2x1x128x64, shapeCast S2x1x128x64 (broadcastInDim S2x1x1x128x64 ![0, 1, 3, 4] bcast_S2x1x128x64_S2x1x1x128x64_0_1_3_4
        (extractStridedSlice S2x1x128x64 ![0, 127, 0, 0] h slices_S2x128x128x64_S2x1x128x64_0_127_0_0)) shapeCasts_S2x1x1x128x64_S2x1x128x64⟩]
    concatenates_S2x1x128x64_S2x128x128x64_S2x1x128x64_S2x130x128x64_d1

/-- The first column again before the columns and the last column again after them. -/
def pad2 (h : Vec F S2x130x128x64 .f32) : Vec F S2x130x130x64 .f32 :=
  concatenate S2x130x130x64 2
    [⟨S2x130x1x64, shapeCast S2x130x1x64 (broadcastInDim S2x130x1x1x64 ![0, 1, 2, 4] bcast_S2x130x1x64_S2x130x1x1x64_0_1_2_4
        (extractStridedSlice S2x130x1x64 ![0, 0, 0, 0] h slices_S2x130x128x64_S2x130x1x64_0_0_0_0)) shapeCasts_S2x130x1x1x64_S2x130x1x64⟩,
     ⟨S2x130x128x64, h⟩,
     ⟨S2x130x1x64, shapeCast S2x130x1x64 (broadcastInDim S2x130x1x1x64 ![0, 1, 2, 4] bcast_S2x130x1x64_S2x130x1x1x64_0_1_2_4
        (extractStridedSlice S2x130x1x64 ![0, 0, 127, 0] h slices_S2x130x128x64_S2x130x1x64_0_0_127_0)) shapeCasts_S2x130x1x1x64_S2x130x1x64⟩]
    concatenates_S2x130x1x64_S2x130x128x64_S2x130x1x64_S2x130x130x64_d2

/-- No channel added before or after. -/
def pad3 (h : Vec F S2x130x130x64 .f32) : Vec F S2x130x130x64 .f32 :=
  concatenate S2x130x130x64 3
    [⟨S2x130x130x0, shapeCast S2x130x130x0 (broadcastInDim S2x130x130x1x0 ![0, 1, 2, 3] bcast_S2x130x130x1_S2x130x130x1x0_0_1_2_3
        (extractStridedSlice S2x130x130x1 ![0, 0, 0, 0] h slices_S2x130x130x64_S2x130x130x1_0_0_0_0)) shapeCasts_S2x130x130x1x0_S2x130x130x0⟩,
     ⟨S2x130x130x64, h⟩,
     ⟨S2x130x130x0, shapeCast S2x130x130x0 (broadcastInDim S2x130x130x1x0 ![0, 1, 2, 3] bcast_S2x130x130x1_S2x130x130x1x0_0_1_2_3
        (extractStridedSlice S2x130x130x1 ![0, 0, 0, 63] h slices_S2x130x130x64_S2x130x130x1_0_0_0_63)) shapeCasts_S2x130x130x1x0_S2x130x130x0⟩]
    concatenates_S2x130x130x0_S2x130x130x64_S2x130x130x0_S2x130x130x64_d3

/-- The image widened by one row and one column on each side. -/
def padR (h : Vec F S2x128x128x64 .f32) : Vec F S2x130x130x64 .f32 := pad3 (pad2 (pad1 (pad0 h)))

/-- One tap: the widened image from offset `o`, times the filter's row at `q`, added to what is there. -/
def tapR (o : Fin 4 → Nat) (ho : S2x130x130x64.Slices o S2x128x128x64) (q : Fin 3 → Nat) (hq : S3x3x64.Slices q S1x1x64)
    (p : Vec F S2x130x130x64 .f32) (k : Vec F S3x3x64 .f32) (a : Vec F S2x128x128x64 .f32) : Vec F S2x128x128x64 .f32 :=
  addf a (mulf (extractStridedSlice S2x128x128x64 o p ho)
    (broadcastInDim S2x128x128x64 ![0, 1, 2, 3] bcast_S1x1x1x64_S2x128x128x64_0_1_2_3
      (broadcastInDim S1x1x1x64 ![3] bcast_S64_S1x1x1x64_3 (shapeCast S64 (extractStridedSlice S1x1x64 q k hq) shapeCasts_S1x1x64_S64))))

/-- The nine taps, added in order from zero. -/
def convR (p : Vec F S2x130x130x64 .f32) (k : Vec F S3x3x64 .f32) : Vec F S2x128x128x64 .f32 :=
  tapR ![0, 2, 2, 0] slices_S2x130x130x64_S2x128x128x64_0_2_2_0 ![2, 2, 0] slices_S3x3x64_S1x1x64_2_2_0 p k
    (tapR ![0, 2, 1, 0] slices_S2x130x130x64_S2x128x128x64_0_2_1_0 ![2, 1, 0] slices_S3x3x64_S1x1x64_2_1_0 p k
    (tapR ![0, 2, 0, 0] slices_S2x130x130x64_S2x128x128x64_0_2_0_0 ![2, 0, 0] slices_S3x3x64_S1x1x64_2_0_0 p k
    (tapR ![0, 1, 2, 0] slices_S2x130x130x64_S2x128x128x64_0_1_2_0 ![1, 2, 0] slices_S3x3x64_S1x1x64_1_2_0 p k
    (tapR ![0, 1, 1, 0] slices_S2x130x130x64_S2x128x128x64_0_1_1_0 ![1, 1, 0] slices_S3x3x64_S1x1x64_1_1_0 p k
    (tapR ![0, 1, 0, 0] slices_S2x130x130x64_S2x128x128x64_0_1_0_0 ![1, 0, 0] slices_S3x3x64_S1x1x64_1_0_0 p k
    (tapR ![0, 0, 2, 0] slices_S2x130x130x64_S2x128x128x64_0_0_2_0 ![0, 2, 0] slices_S3x3x64_S1x1x64_0_2_0 p k
    (tapR ![0, 0, 1, 0] slices_S2x130x130x64_S2x128x128x64_0_0_1_0 ![0, 1, 0] slices_S3x3x64_S1x1x64_0_1_0 p k
    (tapR ![0, 0, 0, 0] slices_S2x130x130x64_S2x128x128x64_0_0_0_0 ![0, 0, 0] slices_S3x3x64_S1x1x64_0_0_0 p k
    (broadcastInDim S2x128x128x64 ![] bcast_S_S2x128x128x64 (constant S_ .f32 0x00000000#32))))))))))

/-- The activation: each element over one plus the exponential of its negative. -/
def actR (u : Vec F S2x128x128x64 .f32) : Vec F S2x128x128x64 .f32 :=
  Host.divf u (addf (broadcastInDim S2x128x128x64 ![] bcast_S_S2x128x128x64 (constant S_ .f32 0x3F800000#32)) (Host.exp (Host.negf u)))

/-- The result: the image plus each pixel's activations times the matrix. -/
def tailR (u x : Vec F S2x128x128x64 .f32) (W : Vec F S64x64 .f32) : Vec F S2x128x128x64 .f32 :=
  addf x (shapeCast S2x128x128x64 (Host.dotGeneral dot_S32768x64_S64x64_S32768x64_1_0_0_1_n_n none
    (shapeCast S32768x64 (actR u) shapeCasts_S2x128x128x64_S32768x64) W) shapeCasts_S32768x64_S2x128x128x64)

/-- The reference's result from its three arguments. -/
def outR (x : Vec F S2x128x128x64 .f32) (k : Vec F S3x3x64 .f32) (W : Vec F S64x64 .f32) : Vec F S2x128x128x64 .f32 :=
  tailR (convR (padR (normR x)) k) x W

/-! ## The line of operations -/

/-- The operations of the mean, the variance and the normalised image. -/
abbrev statOps : List (HloOp τ sig (Elt F)) :=
  [ nullary main_cst (constant S_ .f32 0x00000000#32),
    binary main_arg0 main_cst main_v0 (fun x v => Host.reduceAdd x v reducesTo_S2x128x128x64_S2x64_d1_2 h_S_),
    unary main_v0 main_v1 (broadcastInDim S2x1x1x64 ![0, 3] bcast_S2x64_S2x1x1x64_0_3),
    nullary main_cst_0 (constant S_ .f32 0x46800000#32),
    unary main_cst_0 main_v2 (broadcastInDim S2x1x1x64 ![] bcast_S_S2x1x1x64),
    binary main_v1 main_v2 main_v3 Host.divf,
    nullary main_c (constantI S_ 32 0#32),
    nullary main_call0_cst (constant S_ .f32 0x00000000#32),
    binary main_arg0 main_call0_cst main_call0_v0 (fun x v => Host.reduceAdd x v reducesTo_S2x128x128x64_S2x64_d1_2 h_S_),
    unary main_call0_v0 main_call0_v1 (broadcastInDim S2x1x1x64 ![0, 3] bcast_S2x64_S2x1x1x64_0_3),
    nullary main_call0_cst_0 (constant S_ .f32 0x46800000#32),
    unary main_call0_cst_0 main_call0_v2 (broadcastInDim S2x1x1x64 ![] bcast_S_S2x1x1x64),
    binary main_call0_v1 main_call0_v2 main_call0_v3 Host.divf,
    unary main_call0_v3 main_call0_v4 (broadcastInDim S2x128x128x64 ![0, 1, 2, 3] bcast_S2x1x1x64_S2x128x128x64_0_1_2_3),
    binary main_arg0 main_call0_v4 main_call0_v5 subf,
    binary main_call0_v5 main_call0_v5 main_call0_v6 mulf,
    unary main_c main_call0_v7 (sitofp .f32),
    nullary main_call0_cst_1 (constant S_ .f32 0x46800000#32),
    binary main_call0_cst_1 main_call0_v7 main_call0_v8 subf,
    nullary main_call0_cst_2 (constant S_ .f32 0x00000000#32),
    binary main_call0_v6 main_call0_cst_2 main_call0_v9 (fun x v => Host.reduceAdd x v reducesTo_S2x128x128x64_S2x64_d1_2 h_S_),
    unary main_call0_v9 main_call0_v10 (broadcastInDim S2x1x1x64 ![0, 3] bcast_S2x64_S2x1x1x64_0_3),
    unary main_call0_v8 main_call0_v11 (broadcastInDim S2x1x1x64 ![] bcast_S_S2x1x1x64),
    binary main_call0_v10 main_call0_v11 main_call0_v12 Host.divf,
    nullary main_call0_cst_3 (constant S_ .f32 0x00000000#32),
    binary main_call0_v8 main_call0_cst_3 main_call0_v13 (cmpf .ogt),
    nullary main_call0_cst_4 (constant S_ .f32 0x7FC00000#32),
    unary main_call0_cst_4 main_call0_call0_v0 id,
    unary main_call0_call0_v0 main_call0_call0_v1 (broadcastInDim S2x1x1x64 ![] bcast_S_S2x1x1x64),
    ternary main_call0_v13 main_call0_v12 main_call0_call0_v1 main_v4 (fun p a b => select (broadcastInDim S2x1x1x64 ![] bcast_S_S2x1x1x64 p) a b),
    unary main_v3 main_v5 (broadcastInDim S2x128x128x64 ![0, 1, 2, 3] bcast_S2x1x1x64_S2x128x128x64_0_1_2_3),
    binary main_arg0 main_v5 main_v6 subf,
    nullary main_cst_1 (constant S_ .f32 0x3727C5AC#32),
    unary main_cst_1 main_v7 (broadcastInDim S2x1x1x64 ![] bcast_S_S2x1x1x64),
    binary main_v4 main_v7 main_v8 addf,
    unary main_v8 main_v9 Host.sqrt,
    unary main_v9 main_v10 (broadcastInDim S2x128x128x64 ![0, 1, 2, 3] bcast_S2x1x1x64_S2x128x128x64_0_1_2_3),
    binary main_v6 main_v10 main_v11 Host.divf,
    nullary main_c_2 (constantI S_ 32 0#32) ]

/-- The operations that widen the image along the samples. -/
abbrev pad0Ops : List (HloOp τ sig (Elt F)) :=
  [ unary main_v11 main_call1_v0 (extractStridedSlice S1x128x128x64 ![0, 0, 0, 0] · slices_S2x128x128x64_S1x128x128x64_0_0_0_0),
    unary main_call1_v0 main_call1_v1 (broadcastInDim S1x0x128x128x64 ![0, 2, 3, 4] bcast_S1x128x128x64_S1x0x128x128x64_0_2_3_4),
    reshape main_call1_v1 main_call1_v2 rfl shapeCasts_S1x0x128x128x64_S0x128x128x64,
    unary main_v11 main_call1_v3 (extractStridedSlice S1x128x128x64 ![1, 0, 0, 0] · slices_S2x128x128x64_S1x128x128x64_1_0_0_0),
    unary main_call1_v3 main_call1_v4 (broadcastInDim S1x0x128x128x64 ![0, 2, 3, 4] bcast_S1x128x128x64_S1x0x128x128x64_0_2_3_4),
    reshape main_call1_v4 main_call1_v5 rfl shapeCasts_S1x0x128x128x64_S0x128x128x64,
    TRef.nary (Ts := ![⟨S0x128x128x64, .f32⟩, ⟨S2x128x128x64, .f32⟩, ⟨S0x128x128x64, .f32⟩]) (Fin.cons (.of main_call1_v2) (Fin.cons (.of main_v11) (Fin.cons (.of main_call1_v5) (fun k => k.elim0)))) (.of main_call1_v6) (fun u => (concatenate S2x128x128x64 0 [⟨S0x128x128x64, (u 0 : (⟨S0x128x128x64, .f32⟩ : BufTy).Contents (Elt F))⟩, ⟨S2x128x128x64, (u 1 : (⟨S2x128x128x64, .f32⟩ : BufTy).Contents (Elt F))⟩, ⟨S0x128x128x64, (u 2 : (⟨S0x128x128x64, .f32⟩ : BufTy).Contents (Elt F))⟩] concatenates_S0x128x128x64_S2x128x128x64_S0x128x128x64_S2x128x128x64_d0 : (⟨S2x128x128x64, .f32⟩ : BufTy).Contents (Elt F))) ]

/-- The operations that widen the image along the rows. -/
abbrev pad1Ops : List (HloOp τ sig (Elt F)) :=
  [ unary main_call1_v6 main_call1_v7 (extractStridedSlice S2x1x128x64 ![0, 0, 0, 0] · slices_S2x128x128x64_S2x1x128x64_0_0_0_0),
    unary main_call1_v7 main_call1_v8 (broadcastInDim S2x1x1x128x64 ![0, 1, 3, 4] bcast_S2x1x128x64_S2x1x1x128x64_0_1_3_4),
    reshape main_call1_v8 main_call1_v9 rfl shapeCasts_S2x1x1x128x64_S2x1x128x64,
    unary main_call1_v6 main_call1_v10 (extractStridedSlice S2x1x128x64 ![0, 127, 0, 0] · slices_S2x128x128x64_S2x1x128x64_0_127_0_0),
    unary main_call1_v10 main_call1_v11 (broadcastInDim S2x1x1x128x64 ![0, 1, 3, 4] bcast_S2x1x128x64_S2x1x1x128x64_0_1_3_4),
    reshape main_call1_v11 main_call1_v12 rfl shapeCasts_S2x1x1x128x64_S2x1x128x64,
    TRef.nary (Ts := ![⟨S2x1x128x64, .f32⟩, ⟨S2x128x128x64, .f32⟩, ⟨S2x1x128x64, .f32⟩]) (Fin.cons (.of main_call1_v9) (Fin.cons (.of main_call1_v6) (Fin.cons (.of main_call1_v12) (fun k => k.elim0)))) (.of main_call1_v13) (fun u => (concatenate S2x130x128x64 1 [⟨S2x1x128x64, (u 0 : (⟨S2x1x128x64, .f32⟩ : BufTy).Contents (Elt F))⟩, ⟨S2x128x128x64, (u 1 : (⟨S2x128x128x64, .f32⟩ : BufTy).Contents (Elt F))⟩, ⟨S2x1x128x64, (u 2 : (⟨S2x1x128x64, .f32⟩ : BufTy).Contents (Elt F))⟩] concatenates_S2x1x128x64_S2x128x128x64_S2x1x128x64_S2x130x128x64_d1 : (⟨S2x130x128x64, .f32⟩ : BufTy).Contents (Elt F))) ]

/-- The operations that widen the image along the columns. -/
abbrev pad2Ops : List (HloOp τ sig (Elt F)) :=
  [ unary main_call1_v13 main_call1_v14 (extractStridedSlice S2x130x1x64 ![0, 0, 0, 0] · slices_S2x130x128x64_S2x130x1x64_0_0_0_0),
    unary main_call1_v14 main_call1_v15 (broadcastInDim S2x130x1x1x64 ![0, 1, 2, 4] bcast_S2x130x1x64_S2x130x1x1x64_0_1_2_4),
    reshape main_call1_v15 main_call1_v16 rfl shapeCasts_S2x130x1x1x64_S2x130x1x64,
    unary main_call1_v13 main_call1_v17 (extractStridedSlice S2x130x1x64 ![0, 0, 127, 0] · slices_S2x130x128x64_S2x130x1x64_0_0_127_0),
    unary main_call1_v17 main_call1_v18 (broadcastInDim S2x130x1x1x64 ![0, 1, 2, 4] bcast_S2x130x1x64_S2x130x1x1x64_0_1_2_4),
    reshape main_call1_v18 main_call1_v19 rfl shapeCasts_S2x130x1x1x64_S2x130x1x64,
    TRef.nary (Ts := ![⟨S2x130x1x64, .f32⟩, ⟨S2x130x128x64, .f32⟩, ⟨S2x130x1x64, .f32⟩]) (Fin.cons (.of main_call1_v16) (Fin.cons (.of main_call1_v13) (Fin.cons (.of main_call1_v19) (fun k => k.elim0)))) (.of main_call1_v20) (fun u => (concatenate S2x130x130x64 2 [⟨S2x130x1x64, (u 0 : (⟨S2x130x1x64, .f32⟩ : BufTy).Contents (Elt F))⟩, ⟨S2x130x128x64, (u 1 : (⟨S2x130x128x64, .f32⟩ : BufTy).Contents (Elt F))⟩, ⟨S2x130x1x64, (u 2 : (⟨S2x130x1x64, .f32⟩ : BufTy).Contents (Elt F))⟩] concatenates_S2x130x1x64_S2x130x128x64_S2x130x1x64_S2x130x130x64_d2 : (⟨S2x130x130x64, .f32⟩ : BufTy).Contents (Elt F))) ]

/-- The operations that widen the image along the channels. -/
abbrev pad3Ops : List (HloOp τ sig (Elt F)) :=
  [ unary main_call1_v20 main_call1_v21 (extractStridedSlice S2x130x130x1 ![0, 0, 0, 0] · slices_S2x130x130x64_S2x130x130x1_0_0_0_0),
    unary main_call1_v21 main_call1_v22 (broadcastInDim S2x130x130x1x0 ![0, 1, 2, 3] bcast_S2x130x130x1_S2x130x130x1x0_0_1_2_3),
    reshape main_call1_v22 main_call1_v23 rfl shapeCasts_S2x130x130x1x0_S2x130x130x0,
    unary main_call1_v20 main_call1_v24 (extractStridedSlice S2x130x130x1 ![0, 0, 0, 63] · slices_S2x130x130x64_S2x130x130x1_0_0_0_63),
    unary main_call1_v24 main_call1_v25 (broadcastInDim S2x130x130x1x0 ![0, 1, 2, 3] bcast_S2x130x130x1_S2x130x130x1x0_0_1_2_3),
    reshape main_call1_v25 main_call1_v26 rfl shapeCasts_S2x130x130x1x0_S2x130x130x0,
    TRef.nary (Ts := ![⟨S2x130x130x0, .f32⟩, ⟨S2x130x130x64, .f32⟩, ⟨S2x130x130x0, .f32⟩]) (Fin.cons (.of main_call1_v23) (Fin.cons (.of main_call1_v20) (Fin.cons (.of main_call1_v26) (fun k => k.elim0)))) (.of main_v12) (fun u => (concatenate S2x130x130x64 3 [⟨S2x130x130x0, (u 0 : (⟨S2x130x130x0, .f32⟩ : BufTy).Contents (Elt F))⟩, ⟨S2x130x130x64, (u 1 : (⟨S2x130x130x64, .f32⟩ : BufTy).Contents (Elt F))⟩, ⟨S2x130x130x0, (u 2 : (⟨S2x130x130x0, .f32⟩ : BufTy).Contents (Elt F))⟩] concatenates_S2x130x130x0_S2x130x130x64_S2x130x130x0_S2x130x130x64_d3 : (⟨S2x130x130x64, .f32⟩ : BufTy).Contents (Elt F))) ]

/-- The operations of the image widened by one on each side. -/
abbrev padOps : List (HloOp τ sig (Elt F)) := pad0Ops ++ (pad1Ops ++ (pad2Ops ++ pad3Ops))

/-- The operations of the nine taps, added in order. -/
abbrev tapOps : List (HloOp τ sig (Elt F)) :=
  [ nullary main_cst_3 (constant S_ .f32 0x00000000#32),
    unary main_cst_3 main_v13 (broadcastInDim S2x128x128x64 ![] bcast_S_S2x128x128x64),
    unary main_v12 main_v14 (extractStridedSlice S2x128x128x64 ![0, 0, 0, 0] · slices_S2x130x130x64_S2x128x128x64_0_0_0_0),
    unary main_arg1 main_v15 (extractStridedSlice S1x1x64 ![0, 0, 0] · slices_S3x3x64_S1x1x64_0_0_0),
    reshape main_v15 main_v16 rfl shapeCasts_S1x1x64_S64,
    unary main_v16 main_v17 (broadcastInDim S1x1x1x64 ![3] bcast_S64_S1x1x1x64_3),
    unary main_v17 main_v18 (broadcastInDim S2x128x128x64 ![0, 1, 2, 3] bcast_S1x1x1x64_S2x128x128x64_0_1_2_3),
    binary main_v14 main_v18 main_v19 mulf,
    binary main_v13 main_v19 main_v20 addf,
    unary main_v12 main_v21 (extractStridedSlice S2x128x128x64 ![0, 0, 1, 0] · slices_S2x130x130x64_S2x128x128x64_0_0_1_0),
    unary main_arg1 main_v22 (extractStridedSlice S1x1x64 ![0, 1, 0] · slices_S3x3x64_S1x1x64_0_1_0),
    reshape main_v22 main_v23 rfl shapeCasts_S1x1x64_S64,
    unary main_v23 main_v24 (broadcastInDim S1x1x1x64 ![3] bcast_S64_S1x1x1x64_3),
    unary main_v24 main_v25 (broadcastInDim S2x128x128x64 ![0, 1, 2, 3] bcast_S1x1x1x64_S2x128x128x64_0_1_2_3),
    binary main_v21 main_v25 main_v26 mulf,
    binary main_v20 main_v26 main_v27 addf,
    unary main_v12 main_v28 (extractStridedSlice S2x128x128x64 ![0, 0, 2, 0] · slices_S2x130x130x64_S2x128x128x64_0_0_2_0),
    unary main_arg1 main_v29 (extractStridedSlice S1x1x64 ![0, 2, 0] · slices_S3x3x64_S1x1x64_0_2_0),
    reshape main_v29 main_v30 rfl shapeCasts_S1x1x64_S64,
    unary main_v30 main_v31 (broadcastInDim S1x1x1x64 ![3] bcast_S64_S1x1x1x64_3),
    unary main_v31 main_v32 (broadcastInDim S2x128x128x64 ![0, 1, 2, 3] bcast_S1x1x1x64_S2x128x128x64_0_1_2_3),
    binary main_v28 main_v32 main_v33 mulf,
    binary main_v27 main_v33 main_v34 addf,
    unary main_v12 main_v35 (extractStridedSlice S2x128x128x64 ![0, 1, 0, 0] · slices_S2x130x130x64_S2x128x128x64_0_1_0_0),
    unary main_arg1 main_v36 (extractStridedSlice S1x1x64 ![1, 0, 0] · slices_S3x3x64_S1x1x64_1_0_0),
    reshape main_v36 main_v37 rfl shapeCasts_S1x1x64_S64,
    unary main_v37 main_v38 (broadcastInDim S1x1x1x64 ![3] bcast_S64_S1x1x1x64_3),
    unary main_v38 main_v39 (broadcastInDim S2x128x128x64 ![0, 1, 2, 3] bcast_S1x1x1x64_S2x128x128x64_0_1_2_3),
    binary main_v35 main_v39 main_v40 mulf,
    binary main_v34 main_v40 main_v41 addf,
    unary main_v12 main_v42 (extractStridedSlice S2x128x128x64 ![0, 1, 1, 0] · slices_S2x130x130x64_S2x128x128x64_0_1_1_0),
    unary main_arg1 main_v43 (extractStridedSlice S1x1x64 ![1, 1, 0] · slices_S3x3x64_S1x1x64_1_1_0),
    reshape main_v43 main_v44 rfl shapeCasts_S1x1x64_S64,
    unary main_v44 main_v45 (broadcastInDim S1x1x1x64 ![3] bcast_S64_S1x1x1x64_3),
    unary main_v45 main_v46 (broadcastInDim S2x128x128x64 ![0, 1, 2, 3] bcast_S1x1x1x64_S2x128x128x64_0_1_2_3),
    binary main_v42 main_v46 main_v47 mulf,
    binary main_v41 main_v47 main_v48 addf,
    unary main_v12 main_v49 (extractStridedSlice S2x128x128x64 ![0, 1, 2, 0] · slices_S2x130x130x64_S2x128x128x64_0_1_2_0),
    unary main_arg1 main_v50 (extractStridedSlice S1x1x64 ![1, 2, 0] · slices_S3x3x64_S1x1x64_1_2_0),
    reshape main_v50 main_v51 rfl shapeCasts_S1x1x64_S64,
    unary main_v51 main_v52 (broadcastInDim S1x1x1x64 ![3] bcast_S64_S1x1x1x64_3),
    unary main_v52 main_v53 (broadcastInDim S2x128x128x64 ![0, 1, 2, 3] bcast_S1x1x1x64_S2x128x128x64_0_1_2_3),
    binary main_v49 main_v53 main_v54 mulf,
    binary main_v48 main_v54 main_v55 addf,
    unary main_v12 main_v56 (extractStridedSlice S2x128x128x64 ![0, 2, 0, 0] · slices_S2x130x130x64_S2x128x128x64_0_2_0_0),
    unary main_arg1 main_v57 (extractStridedSlice S1x1x64 ![2, 0, 0] · slices_S3x3x64_S1x1x64_2_0_0),
    reshape main_v57 main_v58 rfl shapeCasts_S1x1x64_S64,
    unary main_v58 main_v59 (broadcastInDim S1x1x1x64 ![3] bcast_S64_S1x1x1x64_3),
    unary main_v59 main_v60 (broadcastInDim S2x128x128x64 ![0, 1, 2, 3] bcast_S1x1x1x64_S2x128x128x64_0_1_2_3),
    binary main_v56 main_v60 main_v61 mulf,
    binary main_v55 main_v61 main_v62 addf,
    unary main_v12 main_v63 (extractStridedSlice S2x128x128x64 ![0, 2, 1, 0] · slices_S2x130x130x64_S2x128x128x64_0_2_1_0),
    unary main_arg1 main_v64 (extractStridedSlice S1x1x64 ![2, 1, 0] · slices_S3x3x64_S1x1x64_2_1_0),
    reshape main_v64 main_v65 rfl shapeCasts_S1x1x64_S64,
    unary main_v65 main_v66 (broadcastInDim S1x1x1x64 ![3] bcast_S64_S1x1x1x64_3),
    unary main_v66 main_v67 (broadcastInDim S2x128x128x64 ![0, 1, 2, 3] bcast_S1x1x1x64_S2x128x128x64_0_1_2_3),
    binary main_v63 main_v67 main_v68 mulf,
    binary main_v62 main_v68 main_v69 addf,
    unary main_v12 main_v70 (extractStridedSlice S2x128x128x64 ![0, 2, 2, 0] · slices_S2x130x130x64_S2x128x128x64_0_2_2_0),
    unary main_arg1 main_v71 (extractStridedSlice S1x1x64 ![2, 2, 0] · slices_S3x3x64_S1x1x64_2_2_0),
    reshape main_v71 main_v72 rfl shapeCasts_S1x1x64_S64,
    unary main_v72 main_v73 (broadcastInDim S1x1x1x64 ![3] bcast_S64_S1x1x1x64_3),
    unary main_v73 main_v74 (broadcastInDim S2x128x128x64 ![0, 1, 2, 3] bcast_S1x1x1x64_S2x128x128x64_0_1_2_3),
    binary main_v70 main_v74 main_v75 mulf,
    binary main_v69 main_v75 main_v76 addf ]

/-- The operations of the activation, the product and the sum. -/
abbrev tailOps : List (HloOp τ sig (Elt F)) :=
  [ unary main_v76 main_v77 Host.negf,
    unary main_v77 main_v78 Host.exp,
    nullary main_cst_4 (constant S_ .f32 0x3F800000#32),
    unary main_cst_4 main_v79 (broadcastInDim S2x128x128x64 ![] bcast_S_S2x128x128x64),
    binary main_v79 main_v78 main_v80 addf,
    binary main_v76 main_v80 main_v81 Host.divf,
    reshape main_v81 main_v82 rfl shapeCasts_S2x128x128x64_S32768x64,
    binary main_v82 main_arg2 main_v83 (fun l r => Host.dotGeneral dot_S32768x64_S64x64_S32768x64_1_0_0_1_n_n none l r),
    reshape main_v83 main_v84 rfl shapeCasts_S32768x64_S2x128x128x64,
    binary main_arg0 main_v84 main_v85 addf ]

/-- What the operations of the mean, the variance and the normalised image write. -/
abbrev statRefs : List (Ref sig .tc) :=
  [main_cst, main_v0, main_v1, main_cst_0, main_v2, main_v3, main_c, main_call0_cst,
    main_call0_v0, main_call0_v1, main_call0_cst_0, main_call0_v2, main_call0_v3, main_call0_v4, main_call0_v5, main_call0_v6,
    main_call0_v7, main_call0_cst_1, main_call0_v8, main_call0_cst_2, main_call0_v9, main_call0_v10, main_call0_v11, main_call0_v12,
    main_call0_cst_3, main_call0_v13, main_call0_cst_4, main_call0_call0_v0, main_call0_call0_v1, main_v4, main_v5, main_v6,
    main_cst_1, main_v7, main_v8, main_v9, main_v10, main_v11, main_c_2]

/-- What the operations of the image widened by one on each side write. -/
abbrev padRefs : List (Ref sig .tc) :=
  [main_call1_v0, main_call1_v1, main_call1_v2, main_call1_v3, main_call1_v4, main_call1_v5, main_call1_v6, main_call1_v7,
    main_call1_v8, main_call1_v9, main_call1_v10, main_call1_v11, main_call1_v12, main_call1_v13, main_call1_v14, main_call1_v15,
    main_call1_v16, main_call1_v17, main_call1_v18, main_call1_v19, main_call1_v20, main_call1_v21, main_call1_v22, main_call1_v23,
    main_call1_v24, main_call1_v25, main_call1_v26, main_v12]

/-- What the operations of the nine taps, added in order write. -/
abbrev tapRefs : List (Ref sig .tc) :=
  [main_cst_3, main_v13, main_v14, main_v15, main_v16, main_v17, main_v18, main_v19,
    main_v20, main_v21, main_v22, main_v23, main_v24, main_v25, main_v26, main_v27,
    main_v28, main_v29, main_v30, main_v31, main_v32, main_v33, main_v34, main_v35,
    main_v36, main_v37, main_v38, main_v39, main_v40, main_v41, main_v42, main_v43,
    main_v44, main_v45, main_v46, main_v47, main_v48, main_v49, main_v50, main_v51,
    main_v52, main_v53, main_v54, main_v55, main_v56, main_v57, main_v58, main_v59,
    main_v60, main_v61, main_v62, main_v63, main_v64, main_v65, main_v66, main_v67,
    main_v68, main_v69, main_v70, main_v71, main_v72, main_v73, main_v74, main_v75,
    main_v76]

/-- What the operations of the activation, the product and the sum write. -/
abbrev tailRefs : List (Ref sig .tc) :=
  [main_v77, main_v78, main_cst_4, main_v79, main_v80, main_v81, main_v82, main_v83,
    main_v84, main_v85]

/-- The whole line. -/
abbrev ops : List (HloOp τ sig (Elt F)) := statOps ++ (padOps ++ (tapOps ++ tailOps))

theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  simp only [ops, statOps, padOps, pad0Ops, pad1Ops, pad2Ops, pad3Ops, tapOps, tailOps, List.cons_append, List.nil_append, List.forall_cons, List.Forall, and_self,
    nullary_bufs_sub, unary_bufs_sub, binary_bufs_sub, ternary_bufs_sub, reshape_bufs_sub, nary_bufs_sub]

/-! ## What the stretches leave -/

/-- A buffer that no operation of the first stretch writes keeps its contents. -/
theorem stat_kept (V : Valuation τ sig (Elt F)) {r : Ref sig .tc} (hr : r ∉ statRefs) :
    after statOps V (Proc.devRef .tc r) = V (Proc.devRef .tc r) :=
  after_of_writes_sub (W := statRefs) _ V (forall_writes_sub_of_map rfl) hr

/-- The same of the second, -/
theorem pad_kept (V : Valuation τ sig (Elt F)) {r : Ref sig .tc} (hr : r ∉ padRefs) :
    after padOps V (Proc.devRef .tc r) = V (Proc.devRef .tc r) :=
  after_of_writes_sub (W := padRefs) _ V (forall_writes_sub_of_map rfl) hr

/-- of the third, -/
theorem tap_kept (V : Valuation τ sig (Elt F)) {r : Ref sig .tc} (hr : r ∉ tapRefs) :
    after tapOps V (Proc.devRef .tc r) = V (Proc.devRef .tc r) :=
  after_of_writes_sub (W := tapRefs) _ V (forall_writes_sub_of_map rfl) hr

/-- and of the last. -/
theorem tail_kept (V : Valuation τ sig (Elt F)) {r : Ref sig .tc} (hr : r ∉ tailRefs) :
    after tailOps V (Proc.devRef .tc r) = V (Proc.devRef .tc r) :=
  after_of_writes_sub (W := tailRefs) _ V (forall_writes_sub_of_map rfl) hr

theorem stat_eq (V : Valuation τ sig (Elt F)) :
    after statOps V (main_v11 : DevRef τ sig) = normR (V (main_arg0 : DevRef τ sig)) := by
  after_results_simp
  rfl

theorem pad0_eq (V : Valuation τ sig (Elt F)) :
    after pad0Ops V (main_call1_v6 : DevRef τ sig) = pad0 (V (main_v11 : DevRef τ sig)) := by
  after_results
  rfl

theorem pad1_eq (V : Valuation τ sig (Elt F)) :
    after pad1Ops V (main_call1_v13 : DevRef τ sig) = pad1 (V (main_call1_v6 : DevRef τ sig)) := by
  after_results
  rfl

theorem pad2_eq (V : Valuation τ sig (Elt F)) :
    after pad2Ops V (main_call1_v20 : DevRef τ sig) = pad2 (V (main_call1_v13 : DevRef τ sig)) := by
  after_results
  rfl

theorem pad3_eq (V : Valuation τ sig (Elt F)) :
    after pad3Ops V (main_v12 : DevRef τ sig) = pad3 (V (main_call1_v20 : DevRef τ sig)) := by
  after_results
  rfl

theorem pad_eq (V : Valuation τ sig (Elt F)) :
    after padOps V (main_v12 : DevRef τ sig) = padR (V (main_v11 : DevRef τ sig)) := by
  rw [after_append, after_append, after_append, pad3_eq, pad2_eq, pad1_eq, pad0_eq]
  rfl

theorem tap_eq (V : Valuation τ sig (Elt F)) :
    after tapOps V (main_v76 : DevRef τ sig) = convR (V (main_v12 : DevRef τ sig)) (V (main_arg1 : DevRef τ sig)) := by
  after_results_simp
  rfl

theorem tail_eq (V : Valuation τ sig (Elt F)) :
    after tailOps V (main_v85 : DevRef τ sig)
      = tailR (V (main_v76 : DevRef τ sig)) (V (main_arg0 : DevRef τ sig)) (V (main_arg2 : DevRef τ sig)) := by
  after_results
  rfl

/-- An argument keeps its contents over the whole line. -/
theorem arg_kept (V : Valuation τ sig (Elt F)) {r : Ref sig .tc} (h0 : r ∉ statRefs) (h1 : r ∉ padRefs) (h2 : r ∉ tapRefs)
    (h3 : r ∉ tailRefs) : after ops V (Proc.devRef .tc r) = V (Proc.devRef .tc r) := by
  rw [after_append, after_append, after_append, tail_kept _ h3, tap_kept _ h2, pad_kept _ h1, stat_kept _ h0]

/-- The line leaves the result at `outR` of the arguments. -/
theorem ops_eq (V : Valuation τ sig (Elt F)) :
    after ops V (main_v85 : DevRef τ sig)
      = outR (V (main_arg0 : DevRef τ sig)) (V (main_arg1 : DevRef τ sig)) (V (main_arg2 : DevRef τ sig)) := by
  rw [after_append, after_append, after_append, tail_eq, tap_eq, pad_eq, stat_eq, tap_kept _ (r := main_arg0) (by decide),
    pad_kept _ (r := main_arg0) (by decide), stat_kept _ (r := main_arg0) (by decide), tap_kept _ (r := main_arg2) (by decide),
    pad_kept _ (r := main_arg2) (by decide), stat_kept _ (r := main_arg2) (by decide), pad_kept _ (r := main_arg1) (by decide),
    stat_kept _ (r := main_arg1) (by decide)]
  rfl

/-- From any memory with every counter zero, the reference ends with the result at `outR` of the arguments, the
arguments as they were and every counter zero. -/
theorem run_main (m : (ℓ : Loc nD τ sig) → Buf (Elt F) ℓ) (ρ : Dev nD → PrngReg) :
    θ_run defs (onTc (τ := τ) (main (F := F))) ⟨m, fun _ => 0, ρ⟩ fun r =>
      ∀ c : Dev nD, r.2.mem ((c.tc : Thread nD τ).loc main_v85)
          = outR (m ((c.tc : Thread nD τ).loc main_arg0)) (m ((c.tc : Thread nD τ).loc main_arg1)) (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2) :=
  (θ_run defs _ _).mono (fun _ h c => ⟨(h c main_v85).trans (ops_eq _),
      (h c main_arg0).trans (arg_kept _ (by decide) (by decide) (by decide) (by decide)),
      (h c main_arg1).trans (arg_kept _ (by decide) (by decide) (by decide) (by decide)),
      (h c main_arg2).trans (arg_kept _ (by decide) (by decide) (by decide) (by decide))⟩)
    (run_seq scopedRefs_eq scopedSems_eq defs main (fun _ => ops) main_eq (fun _ => ops_sub) m ρ)

end Cert.RefRun

end
-- ==== Proof.RefValue.lean ====
/-
# The reference's result, entry by entry

Every stretch of the reference is read at an index over the extended reals. Where the image and the filter hold real
numbers, the mean, the variance, the normalised image and the nine taps are the coercions of real numbers, named here
(`mu`, `vr`, `nr`, `taps`).
-/
module

public import proofs.«01_k».proof.Proof.RefRun
public import Idealize.ShloMosaic.Lib.Pipeline.Value
public import Idealize.ShloMosaic.Lib.ValueIdx
public import Idealize.ShloMosaic.Lib.IdealHost
public import Idealize.ShloMosaic.Lib.MatmulPlain
public import Idealize.ShloMosaic.Lib.StackMember
public import Idealize.ShloMosaic.PureOps.Ideal.Laws

@[expose] public section

set_option maxRecDepth 8000

noncomputable section

namespace Cert.RefRun

open Cert.ReferenceIdeal Cert.ReferenceIdeal.Gen
open Idealize.ShloMosaic Idealize.ShloMosaic.ValueIdx
open scoped BigOperators

/-! ## Constants -/

/-- The number added to the variance. -/
def eps : ℝ := 10995116 / 2 ^ 40

theorem eps_pos : 0 < eps := by unfold eps; norm_num

theorem ofBits_eps : Ideal.ofBits .f32 0x3727C5AC#32 = (eps : EReal) := by
  unfold eps
  simp [Ideal.ofBits, Ideal.ieee, -EReal.coe_mul]; norm_num

theorem ofBits_count : Ideal.ofBits .f32 0x46800000#32 = ((16384 : ℝ) : EReal) := by
  simp [Ideal.ofBits, Ideal.ieee, -EReal.coe_mul]; norm_num

/-! ## Sums over the pixels -/

/-- A sum over the entries that reduce to one sample and channel is the sum over rows and columns. -/
theorem sum_pixels {A B C D : ℕ} {M : Type} [AddCommMonoid M] (f : (⟨4, ![A, B, C, D]⟩ : Shape).Idx → M)
    (P : (⟨4, ![A, B, C, D]⟩ : Shape).Idx → Prop) {_ : DecidablePred P} (b : Fin A) (ch : Fin D) (hP : ∀ i, P i ↔ (i 0 : Fin A) = b ∧ (i 3 : Fin D) = ch) :
    ∑ i ∈ Finset.univ.filter P, f i = ∑ r : Fin B, ∑ q : Fin C, f (ix4 b r q ch) := by
  rw [← Finset.sum_product']
  refine Finset.sum_nbij' (fun i => ((i 1 : Fin B), (i 2 : Fin C))) (fun p => ix4 b p.1 p.2 ch) ?_ ?_ ?_ ?_ ?_
  · intro i _; simp
  · intro p _; rw [Finset.mem_filter]; exact ⟨Finset.mem_univ _, (hP _).2 ⟨rfl, rfl⟩⟩
  · intro i hi
    obtain ⟨h0, h3⟩ := (hP i).1 (Finset.mem_filter.1 hi).2
    rw [← h0, ← h3]; exact (eq_ix4 i).symm
  · intro p _; rfl
  · intro i hi
    obtain ⟨h0, h3⟩ := (hP i).1 (Finset.mem_filter.1 hi).2
    rw [← h0, ← h3]; exact congrArg f (eq_ix4 i)

/-- The image's sum at a sample and channel. -/
theorem sumR_apply (x : Vec Ideal S2x128x128x64 .f32) (j : S2x1x1x64.Idx) :
    sumR x j = ∑ r : Fin 128, ∑ q : Fin 128, x (ix4 (j 0) r q (j 3)) := by
  refine (broadcastInDim_apply (s := S2x64) (t := S2x1x1x64) ![0, 3] bcast_S2x64_S2x1x1x64_0_3 _ j (ix2 (j 0) (j 3)) (by
    intro a
    match a with
    | ⟨0, _⟩ => rfl
    | ⟨1, _⟩ => rfl)).trans ?_
  rw [hostReduceAdd_apply]
  unfold Ideal.hostReduceAdd
  have e0 : (constant S_ .f32 0x00000000#32 : FVec Ideal S_ .f32) (Shape.Idx.first h_S_) = 0 := Ideal.ofBits_zero_f32
  refine (congrArg (· + _) e0).trans ((zero_add _).trans ?_)
  refine sum_pixels _ _ (j 0) (j 3) fun i => ?_
  have d0 := reducesTo_S2x128x128x64_S2x64_d1_2.drop_apply_val_of_eq i 0 0
  have d1 := reducesTo_S2x128x128x64_S2x64_d1_2.drop_apply_val_of_eq i 1 3
  constructor
  · intro h
    rw [h] at d0 d1
    exact ⟨Fin.ext d0.symm, Fin.ext d1.symm⟩
  · rintro ⟨h0, h3⟩
    funext a
    apply Fin.ext
    match a with
    | ⟨0, _⟩ => exact d0.trans (congrArg Fin.val h0)
    | ⟨1, _⟩ => exact d1.trans (congrArg Fin.val h3)

/-- A double sum of coercions is the coercion of the double sum. -/
theorem coe_sum2 {A B : ℕ} (f : Fin A → Fin B → ℝ) : ∑ r, ∑ q, (f r q : EReal) = ((∑ r, ∑ q, f r q : ℝ) : EReal) := by
  have h {n : ℕ} (g : Fin n → ℝ) : ((∑ q, g q : ℝ) : EReal) = ∑ q, (g q : EReal) :=
    map_sum (⟨⟨fun x : ℝ => (x : EReal), EReal.coe_zero⟩, EReal.coe_add⟩ : ℝ →+ EReal) g Finset.univ
  rw [h]
  exact Finset.sum_congr rfl fun r _ => (h _).symm

theorem div_count (s : ℝ) : Ideal.div (s : EReal) ((16384 : ℝ) : EReal) = ((s / 16384 : ℝ) : EReal) := by
  rw [Ideal.div_coe (by norm_num), ← EReal.coe_mul, mul_one_div]

/-! ## The statistics -/

/-- The sum of a real image over rows and columns. -/
def tot (x : S2x128x128x64.Idx → ℝ) (b : Fin 2) (ch : Fin 64) : ℝ := ∑ r : Fin 128, ∑ q : Fin 128, x (ix4 b r q ch)

/-- The mean of a real image. -/
def mu (x : S2x128x128x64.Idx → ℝ) (b : Fin 2) (ch : Fin 64) : ℝ := tot x b ch / 16384

/-- The variance of a real image. -/
def vr (x : S2x128x128x64.Idx → ℝ) (b : Fin 2) (ch : Fin 64) : ℝ :=
  tot (fun i => (x i - mu x (i 0) (i 3)) * (x i - mu x (i 0) (i 3))) b ch / 16384

/-- The normalised real image. -/
def nr (x : S2x128x128x64.Idx → ℝ) (i : S2x128x128x64.Idx) : ℝ :=
  (x i - mu x (i 0) (i 3)) / Real.sqrt (vr x (i 0) (i 3) + eps)

theorem vr_nonneg (x : S2x128x128x64.Idx → ℝ) (b : Fin 2) (ch : Fin 64) : 0 ≤ vr x b ch :=
  div_nonneg (Finset.sum_nonneg fun r _ => Finset.sum_nonneg fun q _ => mul_self_nonneg _) (by norm_num)

/-- A real image as extended reals. -/
abbrev up (x : S2x128x128x64.Idx → ℝ) : Vec Ideal S2x128x128x64 .f32 := fun i => (x i : EReal)

theorem sumR_up (x : S2x128x128x64.Idx → ℝ) (j : S2x1x1x64.Idx) : sumR (up x) j = (tot x (j 0) (j 3) : EReal) :=
  (sumR_apply _ j).trans (coe_sum2 _)

theorem meanR_up (x : S2x128x128x64.Idx → ℝ) (j : S2x1x1x64.Idx) : meanR (up x) j = (mu x (j 0) (j 3) : EReal) := by
  unfold meanR
  rw [hostDivf_apply, sumR_up, broadcastInDim_scalar_apply]
  refine (congrArg _ ofBits_count).trans ?_
  exact div_count _

theorem spreadR_apply (v : Vec Ideal S2x1x1x64 .f32) (i : S2x128x128x64.Idx) : spreadR v i = v (ix4 (i 0) 0 0 (i 3)) :=
  broadcastInDim_apply (s := S2x1x1x64) (t := S2x128x128x64) _ _ v i (ix4 (i 0) 0 0 (i 3)) (by
    intro a
    match a with
    | ⟨0, _⟩ => rfl
    | ⟨1, _⟩ => rfl
    | ⟨2, _⟩ => rfl
    | ⟨3, _⟩ => rfl)

theorem devR_up (x : S2x128x128x64.Idx → ℝ) : devR (up x) = up fun i => x i - mu x (i 0) (i 3) := by
  funext i
  unfold devR
  rw [subf_apply, spreadR_apply, meanR_up]
  exact (EReal.coe_sub _ _).symm

theorem countR_eq : countR (F := Ideal) ix0 = ((16384 : ℝ) : EReal) := by
  unfold countR
  rw [subf_apply]
  have h : (sitofp .f32 (constantI S_ 32 0#32) : FVec Ideal S_ .f32) ix0 = ((0 : ℝ) : EReal) := by
    rw [sitofp_apply]
    show ((((0#32 : BitVec 32).toInt : ℤ) : ℝ) : EReal) = _
    norm_num
  rw [h]
  show Ideal.ofBits .f32 0x46800000#32 - _ = _
  rw [ofBits_count, ← EReal.coe_sub, sub_zero]

theorem varR_up (x : S2x128x128x64.Idx → ℝ) (j : S2x1x1x64.Idx) : varR (up x) j = (vr x (j 0) (j 3) : EReal) := by
  unfold varR
  rw [select_apply, broadcastInDim_scalar_apply, cmpf_apply, countR_eq]
  have hc : FloatOps.cmpf (F := Ideal) (φ := .f32) .ogt ((16384 : ℝ) : EReal) ((constant S_ .f32 0x00000000#32 : FVec Ideal S_ .f32) ix0) = 1#1 := by
    have e0 : (constant S_ .f32 0x00000000#32 : FVec Ideal S_ .f32) ix0 = 0 := Ideal.ofBits_zero_f32
    rw [e0, Ideal.cmpf_def]
    have : (0 : EReal) < ((16384 : ℝ) : EReal) := by exact_mod_cast (by norm_num : (0:ℝ) < 16384)
    simp [Ideal.cmp, this]
  rw [hc, select_one, hostDivf_apply, broadcastInDim_scalar_apply, countR_eq, devR_up]
  have hm : mulf (F := Ideal) (s := S2x128x128x64) (φ := .f32) (up fun i => x i - mu x (i 0) (i 3)) (up fun i => x i - mu x (i 0) (i 3))
      = up fun i => (x i - mu x (i 0) (i 3)) * (x i - mu x (i 0) (i 3)) := funext fun i => (EReal.coe_mul _ _).symm
  rw [hm, sumR_up]
  exact div_count _

theorem normR_up (x : S2x128x128x64.Idx → ℝ) : normR (up x) = up (nr x) := by
  funext i
  unfold normR
  rw [hostDivf_apply, spreadR_apply, devR_up]
  have hs : (Host.sqrt (addf (varR (up x)) (broadcastInDim S2x1x1x64 ![] bcast_S_S2x1x1x64 (constant S_ .f32 0x3727C5AC#32))) : Vec Ideal S2x1x1x64 .f32)
      (ix4 (i 0) 0 0 (i 3)) = ((Real.sqrt (vr x (i 0) (i 3) + eps) : ℝ) : EReal) := by
    show Ideal.sqrt (addf (varR (up x)) _ (ix4 (i 0) 0 0 (i 3))) = _
    rw [addf_apply, varR_up, broadcastInDim_scalar_apply]
    refine (congrArg (fun e => Ideal.sqrt (_ + e)) ofBits_eps).trans ?_
    rw [← EReal.coe_add, Ideal.sqrt_coe, if_neg]
    · exact not_lt.2 (add_nonneg (vr_nonneg x _ _) eps_pos.le)
  rw [hs, Ideal.div_coe, ← EReal.coe_mul, mul_one_div]
  · rfl
  · exact (Real.sqrt_pos.2 (add_pos_of_nonneg_of_pos (vr_nonneg x _ _) eps_pos)).ne'

/-! ## The widened image -/

/-- The image's row or column that the widened one holds at `n`. -/
def cl (n : ℕ) : Fin 128 := ⟨min 127 (n - 1), by omega⟩

theorem pad0_apply (h : Vec Ideal S2x128x128x64 .f32) (i : S2x128x128x64.Idx) : pad0 h i = h i := by
  unfold pad0
  exact concatenate_apply_piece (t := S2x128x128x64) (0 : Fin 4) _ _ i 1 (by show 1 < 3; decide) S2x128x128x64 h rfl rfl 0 rfl i (fun b _ => rfl) (Nat.zero_add _)

theorem pad3_apply (h : Vec Ideal S2x130x130x64 .f32) (i : S2x130x130x64.Idx) : pad3 h i = h i := by
  unfold pad3
  exact concatenate_apply_piece (t := S2x130x130x64) (3 : Fin 4) _ _ i 1 (by show 1 < 3; decide) S2x130x130x64 h rfl rfl 0 rfl i (fun b _ => rfl) (Nat.zero_add _)

theorem row_piece (h : Vec Ideal S2x128x128x64 .f32) (o : ℕ) (r : Fin 128) (ho : r.val = o) (hs : S2x128x128x64.Slices ![0, o, 0, 0] S2x1x128x64)
    (j : S2x1x128x64.Idx) :
    shapeCast S2x1x128x64 (broadcastInDim S2x1x1x128x64 ![0, 1, 3, 4] bcast_S2x1x128x64_S2x1x1x128x64_0_1_3_4
      (extractStridedSlice S2x1x128x64 ![0, o, 0, 0] h hs)) shapeCasts_S2x1x1x128x64_S2x1x128x64 j = h (ix4 (j 0) r (j 2) (j 3)) := by
  have j1 : (j 1).val < 1 := (j 1).isLt
  refine (shapeCast_apply (s := S2x1x1x128x64) (t := S2x1x128x64) _ _ j (ix5 (j 0) 0 0 (j 2) (j 3)) (by
    rw [Shape.rowMajor_val_five, Shape.rowMajor_val_four]
    show ((((j 0).val * 1 + 0) * 1 + 0) * 128 + (j 2).val) * 64 + (j 3).val = (((j 0).val * 1 + (j 1).val) * 128 + (j 2).val) * 64 + (j 3).val
    omega)).trans ?_
  refine (broadcastInDim_apply (s := S2x1x128x64) (t := S2x1x1x128x64) _ _ _ _ (ix4 (j 0) 0 (j 2) (j 3)) (by
    intro a
    match a with
    | ⟨0, _⟩ => rfl
    | ⟨1, _⟩ => rfl
    | ⟨2, _⟩ => rfl
    | ⟨3, _⟩ => rfl)).trans ?_
  exact extractStridedSlice_apply (s := S2x128x128x64) (t := S2x1x128x64) _ h hs _ (ix4 (j 0) r (j 2) (j 3)) (by
    intro a
    match a with
    | ⟨0, _⟩ => exact (Nat.zero_add _).symm
    | ⟨1, _⟩ => exact ho
    | ⟨2, _⟩ => exact (Nat.zero_add _).symm
    | ⟨3, _⟩ => exact (Nat.zero_add _).symm)

theorem pad1_apply (h : Vec Ideal S2x128x128x64 .f32) (i : S2x130x128x64.Idx) : pad1 h i = h (ix4 (i 0) (cl (i 1).val) (i 2) (i 3)) := by
  have l1 : (i 1).val < 130 := (i 1).isLt
  unfold pad1
  by_cases h0 : (i 1).val < 1
  · refine (concatenate_apply_piece (t := S2x130x128x64) (1 : Fin 4) _ _ i 0 (by show 0 < 3; decide) S2x1x128x64 _ rfl rfl 0 rfl (ix4 (i 0) 0 (i 2) (i 3)) (by
      intro b hb
      match b with
      | ⟨0, _⟩ => rfl
      | ⟨1, _⟩ => exact absurd rfl hb
      | ⟨2, _⟩ => rfl
      | ⟨3, _⟩ => rfl) (by show 0 + 0 = (i 1).val; omega)).trans ?_
    exact row_piece h 0 _ (by show min 127 ((i 1).val - 1) = 0; omega) _ _
  · by_cases h1 : (i 1).val < 129
    · refine (concatenate_apply_piece (t := S2x130x128x64) (1 : Fin 4) _ _ i 1 (by show 1 < 3; decide) S2x128x128x64 h rfl rfl 1 rfl (ix4 (i 0) (cl (i 1).val) (i 2) (i 3)) (by
        intro b hb
        match b with
        | ⟨0, _⟩ => rfl
        | ⟨1, _⟩ => exact absurd rfl hb
        | ⟨2, _⟩ => rfl
        | ⟨3, _⟩ => rfl) (by show 1 + min 127 ((i 1).val - 1) = (i 1).val; omega))
    · refine (concatenate_apply_piece (t := S2x130x128x64) (1 : Fin 4) _ _ i 2 (by show 2 < 3; decide) S2x1x128x64 _ rfl rfl 129 rfl (ix4 (i 0) 0 (i 2) (i 3)) (by
        intro b hb
        match b with
        | ⟨0, _⟩ => rfl
        | ⟨1, _⟩ => exact absurd rfl hb
        | ⟨2, _⟩ => rfl
        | ⟨3, _⟩ => rfl) (by show 129 + 0 = (i 1).val; omega)).trans ?_
      exact row_piece h 127 _ (by show min 127 ((i 1).val - 1) = 127; omega) _ _

theorem col_piece (h : Vec Ideal S2x130x128x64 .f32) (o : ℕ) (q : Fin 128) (ho : q.val = o) (hs : S2x130x128x64.Slices ![0, 0, o, 0] S2x130x1x64)
    (j : S2x130x1x64.Idx) :
    shapeCast S2x130x1x64 (broadcastInDim S2x130x1x1x64 ![0, 1, 2, 4] bcast_S2x130x1x64_S2x130x1x1x64_0_1_2_4
      (extractStridedSlice S2x130x1x64 ![0, 0, o, 0] h hs)) shapeCasts_S2x130x1x1x64_S2x130x1x64 j = h (ix4 (j 0) (j 1) q (j 3)) := by
  have j2 : (j 2).val < 1 := (j 2).isLt
  refine (shapeCast_apply (s := S2x130x1x1x64) (t := S2x130x1x64) _ _ j (ix5 (j 0) (j 1) 0 0 (j 3)) (by
    rw [Shape.rowMajor_val_five, Shape.rowMajor_val_four]
    show ((((j 0).val * 130 + (j 1).val) * 1 + 0) * 1 + 0) * 64 + (j 3).val = (((j 0).val * 130 + (j 1).val) * 1 + (j 2).val) * 64 + (j 3).val
    omega)).trans ?_
  refine (broadcastInDim_apply (s := S2x130x1x64) (t := S2x130x1x1x64) _ _ _ _ (ix4 (j 0) (j 1) 0 (j 3)) (by
    intro a
    match a with
    | ⟨0, _⟩ => rfl
    | ⟨1, _⟩ => rfl
    | ⟨2, _⟩ => rfl
    | ⟨3, _⟩ => rfl)).trans ?_
  exact extractStridedSlice_apply (s := S2x130x128x64) (t := S2x130x1x64) _ h hs _ (ix4 (j 0) (j 1) q (j 3)) (by
    intro a
    match a with
    | ⟨0, _⟩ => exact (Nat.zero_add _).symm
    | ⟨1, _⟩ => exact (Nat.zero_add _).symm
    | ⟨2, _⟩ => exact ho
    | ⟨3, _⟩ => exact (Nat.zero_add _).symm)

theorem pad2_apply (h : Vec Ideal S2x130x128x64 .f32) (i : S2x130x130x64.Idx) : pad2 h i = h (ix4 (i 0) (i 1) (cl (i 2).val) (i 3)) := by
  have l1 : (i 2).val < 130 := (i 2).isLt
  unfold pad2
  by_cases h0 : (i 2).val < 1
  · refine (concatenate_apply_piece (t := S2x130x130x64) (2 : Fin 4) _ _ i 0 (by show 0 < 3; decide) S2x130x1x64 _ rfl rfl 0 rfl (ix4 (i 0) (i 1) 0 (i 3)) (by
      intro b hb
      match b with
      | ⟨0, _⟩ => rfl
      | ⟨1, _⟩ => rfl
      | ⟨2, _⟩ => exact absurd rfl hb
      | ⟨3, _⟩ => rfl) (by show 0 + 0 = (i 2).val; omega)).trans ?_
    exact col_piece h 0 _ (by show min 127 ((i 2).val - 1) = 0; omega) _ _
  · by_cases h1 : (i 2).val < 129
    · refine (concatenate_apply_piece (t := S2x130x130x64) (2 : Fin 4) _ _ i 1 (by show 1 < 3; decide) S2x130x128x64 h rfl rfl 1 rfl (ix4 (i 0) (i 1) (cl (i 2).val) (i 3)) (by
        intro b hb
        match b with
        | ⟨0, _⟩ => rfl
        | ⟨1, _⟩ => rfl
        | ⟨2, _⟩ => exact absurd rfl hb
        | ⟨3, _⟩ => rfl) (by show 1 + min 127 ((i 2).val - 1) = (i 2).val; omega))
    · refine (concatenate_apply_piece (t := S2x130x130x64) (2 : Fin 4) _ _ i 2 (by show 2 < 3; decide) S2x130x1x64 _ rfl rfl 129 rfl (ix4 (i 0) (i 1) 0 (i 3)) (by
        intro b hb
        match b with
        | ⟨0, _⟩ => rfl
        | ⟨1, _⟩ => rfl
        | ⟨2, _⟩ => exact absurd rfl hb
        | ⟨3, _⟩ => rfl) (by show 129 + 0 = (i 2).val; omega)).trans ?_
      exact col_piece h 127 _ (by show min 127 ((i 2).val - 1) = 127; omega) _ _

theorem padR_apply (h : Vec Ideal S2x128x128x64 .f32) (i : S2x130x130x64.Idx) :
    padR h i = h (ix4 (i 0) (cl (i 1).val) (cl (i 2).val) (i 3)) := by
  unfold padR
  rw [pad3_apply, pad2_apply, pad1_apply, pad0_apply]

/-! ## The nine taps -/

/-- One tap at a pixel. -/
theorem tapR_apply (di dj : Fin 3) (ho : S2x130x130x64.Slices ![0, di.val, dj.val, 0] S2x128x128x64) (hq : S3x3x64.Slices ![di.val, dj.val, 0] S1x1x64)
    (h : Vec Ideal S2x128x128x64 .f32) (k : Vec Ideal S3x3x64 .f32) (a : Vec Ideal S2x128x128x64 .f32) (i : S2x128x128x64.Idx) :
    tapR ![0, di.val, dj.val, 0] ho ![di.val, dj.val, 0] hq (padR h) k a i
      = a i + h (ix4 (i 0) (cl (di.val + (i 1).val)) (cl (dj.val + (i 2).val)) (i 3)) * k (ix3 di dj (i 3)) := by
  have l1 : (i 1).val < 128 := (i 1).isLt
  have l2 : (i 2).val < 128 := (i 2).isLt
  unfold tapR
  rw [addf_apply, mulf_apply]
  refine congrArg (a i + ·) (congrArg₂ (· * ·) ?_ ?_)
  · refine (extractStridedSlice_apply (s := S2x130x130x64) (t := S2x128x128x64) _ (padR h) ho i
      (ix4 (i 0) ⟨di.val + (i 1).val, by omega⟩ ⟨dj.val + (i 2).val, by omega⟩ (i 3)) (by
      intro a
      match a with
      | ⟨0, _⟩ => exact (Nat.zero_add _).symm
      | ⟨1, _⟩ => rfl
      | ⟨2, _⟩ => rfl
      | ⟨3, _⟩ => exact (Nat.zero_add _).symm)).trans ?_
    exact padR_apply h _
  · refine (broadcastInDim_apply (s := S1x1x1x64) (t := S2x128x128x64) _ _ _ i (ix4 0 0 0 (i 3)) (by
      intro a
      match a with
      | ⟨0, _⟩ => rfl
      | ⟨1, _⟩ => rfl
      | ⟨2, _⟩ => rfl
      | ⟨3, _⟩ => rfl)).trans ?_
    refine (broadcastInDim_apply (s := S64) (t := S1x1x1x64) _ _ _ _ (ix1 (i 3)) (by
      intro a
      match a with
      | ⟨0, _⟩ => rfl)).trans ?_
    refine (shapeCast_apply (s := S1x1x64) (t := S64) _ _ _ (ix3 0 0 (i 3)) (by
      rw [Shape.rowMajor_val_three, Shape.rowMajor_val_one]
      show (0 * 1 + 0) * 64 + (i 3).val = (i 3).val
      omega)).trans ?_
    exact extractStridedSlice_apply (s := S3x3x64) (t := S1x1x64) _ k hq _ (ix3 di dj (i 3)) (by
      intro a
      match a with
      | ⟨0, _⟩ => rfl
      | ⟨1, _⟩ => rfl
      | ⟨2, _⟩ => exact (Nat.zero_add _).symm)

/-- Nine products added in order to a first number. -/
def taps (z : ℝ) (f g : Fin 3 → Fin 3 → ℝ) : ℝ :=
  z + f 0 0 * g 0 0 + f 0 1 * g 0 1 + f 0 2 * g 0 2 + f 1 0 * g 1 0 + f 1 1 * g 1 1 + f 1 2 * g 1 2 + f 2 0 * g 2 0 + f 2 1 * g 2 1 + f 2 2 * g 2 2

/-- The real image around a pixel, its border repeated. -/
def near (x : S2x128x128x64.Idx → ℝ) (i : S2x128x128x64.Idx) (di dj : Fin 3) : ℝ :=
  x (ix4 (i 0) (cl (di.val + (i 1).val)) (cl (dj.val + (i 2).val)) (i 3))

theorem tapR_up (di dj : Fin 3) (ho : S2x130x130x64.Slices ![0, di.val, dj.val, 0] S2x128x128x64) (hq : S3x3x64.Slices ![di.val, dj.val, 0] S1x1x64)
    (x : S2x128x128x64.Idx → ℝ) (k : S3x3x64.Idx → ℝ) (a : Vec Ideal S2x128x128x64 .f32) (i : S2x128x128x64.Idx) (s : ℝ) (hs : a i = (s : EReal)) :
    tapR ![0, di.val, dj.val, 0] ho ![di.val, dj.val, 0] hq (padR (up x)) (fun j => (k j : EReal)) a i
      = ((s + near x i di dj * k (ix3 di dj (i 3)) : ℝ) : EReal) := by
  refine (tapR_apply di dj ho hq _ _ _ i).trans ?_
  rw [hs, EReal.coe_add, EReal.coe_mul]
  rfl

theorem convR_up (x : S2x128x128x64.Idx → ℝ) (k : S3x3x64.Idx → ℝ) (i : S2x128x128x64.Idx) :
    convR (padR (up x)) (fun j => (k j : EReal)) i = (taps 0 (near x i) (fun di dj => k (ix3 di dj (i 3))) : EReal) := by
  have e0 : broadcastInDim S2x128x128x64 ![] bcast_S_S2x128x128x64 (constant S_ .f32 0x00000000#32 : FVec Ideal S_ .f32) i = ((0 : ℝ) : EReal) :=
    (broadcastInDim_scalar_apply _ _ i).trans Ideal.ofBits_zero_f32
  exact tapR_up 2 2 _ _ x k _ i _ (tapR_up 2 1 _ _ x k _ i _ (tapR_up 2 0 _ _ x k _ i _
    (tapR_up 1 2 _ _ x k _ i _ (tapR_up 1 1 _ _ x k _ i _ (tapR_up 1 0 _ _ x k _ i _
    (tapR_up 0 2 _ _ x k _ i _ (tapR_up 0 1 _ _ x k _ i _ (tapR_up 0 0 _ _ x k _ i _ e0))))))))

/-! ## The result -/

/-- The reference's activation at a pixel. -/
theorem actR_apply (u : Vec Ideal S2x128x128x64 .f32) (i : S2x128x128x64.Idx) : actR u i = Ideal.div (u i) (1 + Ideal.exp (-(u i))) := by
  unfold actR
  rw [hostDivf_apply, addf_apply, broadcastInDim_scalar_apply]
  refine (congrArg (fun e => Ideal.div _ (e + _)) Ideal.ofBits_one_f32).trans ?_
  rfl

theorem tailR_apply (u x : Vec Ideal S2x128x128x64 .f32) (W : Vec Ideal S64x64 .f32) (i : S2x128x128x64.Idx) :
    tailR u x W i = x i + ∑ c : Fin 64, Ideal.div (u (ix4 (i 0) (i 1) (i 2) c)) (1 + Ideal.exp (-(u (ix4 (i 0) (i 1) (i 2) c)))) * W (ix2 c (i 3)) := by
  have l0 : (i 0).val < 2 := (i 0).isLt
  have l1 : (i 1).val < 128 := (i 1).isLt
  have l2 : (i 2).val < 128 := (i 2).isLt
  have l3 : (i 3).val < 64 := (i 3).isLt
  unfold tailR
  rw [addf_apply]
  refine congrArg (x i + ·) ?_
  refine (shapeCast_apply (s := S32768x64) (t := S2x128x128x64) _ _ i (ix2 ⟨((i 0).val * 128 + (i 1).val) * 128 + (i 2).val, by omega⟩ (i 3)) (by
    rw [Shape.rowMajor_val_two, Shape.rowMajor_val_four]
    rfl)).trans ?_
  refine (StackMember.dotGeneral_plain_apply (m := 32768) (k := 64) (n := 64) none _ W _ (i 3)).trans ?_
  refine Finset.sum_congr rfl fun c _ => congrArg (· * _) ?_
  refine (shapeCast_apply (s := S2x128x128x64) (t := S32768x64) _ _ _ (ix4 (i 0) (i 1) (i 2) c) (by
    rw [Shape.rowMajor_val_two, Shape.rowMajor_val_four]
    rfl)).trans ?_
  exact actR_apply u _

/-- The reference's result where the image and the filter are real. -/
theorem outR_up (x : S2x128x128x64.Idx → ℝ) (k : S3x3x64.Idx → ℝ) (W : Vec Ideal S64x64 .f32) (i : S2x128x128x64.Idx) :
    outR (up x) (fun j => (k j : EReal)) W i = (x i : EReal) + ∑ c : Fin 64,
      Ideal.div (taps 0 (near (nr x) (ix4 (i 0) (i 1) (i 2) c)) (fun di dj => k (ix3 di dj c)) : EReal)
        (1 + Ideal.exp (-(taps 0 (near (nr x) (ix4 (i 0) (i 1) (i 2) c)) (fun di dj => k (ix3 di dj c)) : EReal))) * W (ix2 c (i 3)) := by
  unfold outR
  rw [normR_up, tailR_apply]
  simp only [convR_up]

end Cert.RefRun
-- ==== Proof.KerValue.lean ====
/-
# The kernel's payloads, entry by entry

The kernel's statistics, its nine scaled taps and its result are read at an index over the extended reals. Where the
blocks hold real numbers, each is the coercion of a real number: the statistics are sums over the block of the entries
and of their squares, and the taps start from minus the mean times the scale times the filter's sum.
-/
module

public import proofs.«01_k».proof.Proof.Data
public import proofs.«01_k».proof.Proof.RefValue
public import Idealize.ShloMosaic.Lib.Pipeline.Value
public import Idealize.ShloMosaic.Lib.ValueIdx
public import Idealize.ShloMosaic.Lib.IdealHost
public import Idealize.ShloMosaic.Lib.MatmulPlain
public import Idealize.ShloMosaic.PureOps.Ideal.Laws

@[expose] public section

set_option maxRecDepth 8000

noncomputable section

namespace Cert.NormConv

open Cert.KernelIdeal Cert.KernelIdeal.Gen
open Idealize.ShloMosaic Idealize.ShloMosaic.ValueIdx
open Cert.RefRun (taps eps sum_pixels coe_sum2)
open scoped BigOperators

/-! ## The sample selector -/

/-- The two-row selector: ones over the sample's own half of the pixels, zeros over the other half. -/
def pick : FVec Ideal S2x8192 .f32 :=
  concatenate S2x8192 0 [⟨S1x8192, (k0_pay11 : FVec Ideal S1x8192 .f32)⟩, ⟨S1x8192,
    concatenate S1x8192 1 [⟨S1x4096, broadcast S1x4096 (Scalar.ofBits .f32 0x00000000#32 : Ideal .f32)⟩,
      ⟨S1x4096, broadcast S1x4096 (Scalar.ofBits .f32 0x3F800000#32 : Ideal .f32)⟩] concatenates_S1x4096_S1x4096_S1x8192_d1⟩]
    concatenates_S1x8192_S1x8192_S2x8192_d0

/-- A row made of two halves, each one value. -/
theorem halves_apply (u v : Ideal .f32) (k : Fin 8192) :
    concatenate S1x8192 1 [⟨S1x4096, broadcast S1x4096 u⟩, ⟨S1x4096, broadcast S1x4096 v⟩] concatenates_S1x4096_S1x4096_S1x8192_d1 (ix2 0 k)
      = if k.val / 4096 = 0 then u else v := by
  by_cases h : k.val / 4096 = 0
  · rw [if_pos h]
    exact concatenate_pair_apply_left (t := S1x8192) (s₁ := S1x4096) (s₂ := S1x4096) (1 : Fin 2) _ _ _ _ rfl (ix2 0 ⟨k.val, by omega⟩) (by
      intro b
      match b with
      | ⟨0, _⟩ => rfl
      | ⟨1, _⟩ => rfl)
  · rw [if_neg h]
    exact concatenate_pair_apply_right (t := S1x8192) (s₁ := S1x4096) (s₂ := S1x4096) (1 : Fin 2) _ _ _ _ rfl rfl (ix2 0 ⟨k.val - 4096, by omega⟩) (by
      intro b hb
      match b with
      | ⟨0, _⟩ => rfl
      | ⟨1, _⟩ => exact absurd rfl hb) (by show k.val - 4096 + 4096 = k.val; omega)

theorem pick_apply (b : Fin 2) (k : Fin 8192) : pick (ix2 b k) = if k.val / 4096 = b.val then 1 else 0 := by
  unfold pick
  have l := k.isLt
  match b with
  | ⟨0, _⟩ =>
    refine (concatenate_pair_apply_left (t := S2x8192) (s₁ := S1x8192) (s₂ := S1x8192) (0 : Fin 2) _ _ _ _ rfl (ix2 0 k) (by
      intro b
      match b with
      | ⟨0, _⟩ => rfl
      | ⟨1, _⟩ => rfl)).trans ?_
    refine (halves_apply _ _ k).trans ?_
    have e1 : (Scalar.ofBits .f32 0x3F800000#32 : Ideal .f32) = 1 := Ideal.ofBits_one_f32
    have e0 : (Scalar.ofBits .f32 0x00000000#32 : Ideal .f32) = 0 := Ideal.ofBits_zero_f32
    rw [e0, e1]
  | ⟨1, _⟩ =>
    refine (concatenate_pair_apply_right (t := S2x8192) (s₁ := S1x8192) (s₂ := S1x8192) (0 : Fin 2) _ _ _ _ rfl rfl (ix2 0 k) (by
      intro b hb
      match b with
      | ⟨0, _⟩ => exact absurd rfl hb
      | ⟨1, _⟩ => rfl) rfl).trans ?_
    refine (halves_apply _ _ k).trans ?_
    have e1 : (Scalar.ofBits .f32 0x3F800000#32 : Ideal .f32) = 1 := Ideal.ofBits_one_f32
    have e0 : (Scalar.ofBits .f32 0x00000000#32 : Ideal .f32) = 0 := Ideal.ofBits_zero_f32
    rw [e0, e1]
    by_cases h : k.val / 4096 = 0
    · rw [if_pos h, if_neg (by show ¬ k.val / 4096 = 1; omega)]
    · rw [if_neg h, if_pos (by show k.val / 4096 = 1; omega)]

/-- The selected sum of a column is the sum over the sample's pixels. -/
theorem sum_pick (b : Fin 2) (f : Fin 8192 → EReal) :
    ∑ k : Fin 8192, pick (ix2 b k) * f k = ∑ r : Fin 64, ∑ q : Fin 64, f ⟨(b.val * 64 + r.val) * 64 + q.val, by omega⟩ := by
  have hk (k : Fin 8192) : pick (ix2 b k) * f k = if k.val / 4096 = b.val then f k else 0 := by
    rw [pick_apply]
    by_cases h : k.val / 4096 = b.val
    · rw [if_pos h, if_pos h, one_mul]
    · rw [if_neg h, if_neg h, zero_mul]
  rw [Finset.sum_congr rfl fun k _ => hk k, ← Finset.sum_filter, ← Finset.sum_product']
  refine Finset.sum_nbij' (fun k => ((⟨k.val / 64 % 64, Nat.mod_lt _ (by decide)⟩ : Fin 64), (⟨k.val % 64, Nat.mod_lt _ (by decide)⟩ : Fin 64)))
    (fun p => ⟨(b.val * 64 + p.1.val) * 64 + p.2.val, by omega⟩) ?_ ?_ ?_ ?_ ?_
  · intro k _; simp
  · intro p _
    rw [Finset.mem_filter]
    exact ⟨Finset.mem_univ _, by show ((b.val * 64 + p.1.val) * 64 + p.2.val) / 4096 = b.val; omega⟩
  · intro k hk
    have h := (Finset.mem_filter.1 hk).2
    exact Fin.ext (by show (b.val * 64 + k.val / 64 % 64) * 64 + k.val % 64 = k.val; omega)
  · intro p _
    refine Prod.ext (Fin.ext ?_) (Fin.ext ?_)
    · show ((b.val * 64 + p.1.val) * 64 + p.2.val) / 64 % 64 = p.1.val; omega
    · show ((b.val * 64 + p.1.val) * 64 + p.2.val) % 64 = p.2.val; omega
  · intro k hk
    have h := (Finset.mem_filter.1 hk).2
    exact congrArg f (Fin.ext (by show k.val = (b.val * 64 + k.val / 64 % 64) * 64 + k.val % 64; omega))

/-! ## The statistics of a block -/

/-- The sum of a block over rows and columns. -/
def bsum (y : S2x64x64x64.Idx → EReal) (b : Fin 2) (ch : Fin 64) : EReal := ∑ r : Fin 64, ∑ q : Fin 64, y (ix4 b r q ch)

theorem rows_apply (x : Vec Ideal S2x64x64x64 .f32) (b : Fin 2) (r q ch : Fin 64) (k : Fin 8192) (hk : k.val = (b.val * 64 + r.val) * 64 + q.val) :
    k0_pay10 x (ix2 k ch) = x (ix4 b r q ch) := by
  unfold k0_pay10
  rw [pay9_id]
  exact shapeCast_apply (s := S2x64x64x64) (t := S8192x64) _ _ _ _ (by
    rw [Shape.rowMajor_val_two, Shape.rowMajor_val_four]
    show (((b.val * 64 + r.val) * 64 + q.val) * 64 + ch.val) = k.val * 64 + ch.val
    rw [hk])

/-- The two sums of the selected rows of a matrix. -/
theorem pick_mul (y : FVec Ideal S8192x64 .f32) (b : Fin 2) (ch : Fin 64) :
    matmul dot_S2x8192_S8192x64_S2x64_1_0_0_1_n_n none pick y (constant S2x64 .f32 0x00000000#32) (ix2 b ch)
      = ∑ r : Fin 64, ∑ q : Fin 64, y (ix2 ⟨(b.val * 64 + r.val) * 64 + q.val, by omega⟩ ch) := by
  refine (Ideal.matmul_plain_apply (M := 2) (K := 8192) (N := 64) none pick y _ b ch).trans ?_
  have e0 : (constant S2x64 .f32 0x00000000#32 : FVec Ideal S2x64 .f32) (ix2 b ch) = 0 := Ideal.ofBits_zero_f32
  refine (congrArg (· + _) e0).trans ((zero_add _).trans ?_)
  exact sum_pick b fun k => y (ix2 k ch)

/-- The block's statistics: its two sums, then the two sums of its squares. -/
theorem stat_lo (x : Vec Ideal S2x64x64x64 .f32) (b : Fin 2) (ch : Fin 64) :
    k0_pay12 (k0_pay10 x) k0_pay11 (Scalar.ofBits .f32 0x00000000#32) (ix3 0 ⟨b.val, by omega⟩ ch) = bsum x b ch := by
  unfold k0_pay12
  refine (shapeCast_apply (s := S4x64) (t := S1x4x64) _ _ _ (ix2 ⟨b.val, by omega⟩ ch) (by
    rw [Shape.rowMajor_val_two, Shape.rowMajor_val_three]
    show b.val * 64 + ch.val = (0 * 4 + b.val) * 64 + ch.val
    omega)).trans ?_
  refine (concatenate_pair_apply_left (t := S4x64) (s₁ := S2x64) (s₂ := S2x64) (0 : Fin 2) _ _ _ _ rfl (ix2 b ch) (by
    intro a
    match a with
    | ⟨0, _⟩ => rfl
    | ⟨1, _⟩ => rfl)).trans ?_
  refine (pick_mul _ b ch).trans ?_
  exact Finset.sum_congr rfl fun r _ => Finset.sum_congr rfl fun q _ => rows_apply x b r q ch _ rfl

theorem stat_hi (x : Vec Ideal S2x64x64x64 .f32) (b : Fin 2) (ch : Fin 64) :
    k0_pay12 (k0_pay10 x) k0_pay11 (Scalar.ofBits .f32 0x00000000#32) (ix3 0 ⟨2 + b.val, by omega⟩ ch) = bsum (fun i => x i * x i) b ch := by
  unfold k0_pay12
  refine (shapeCast_apply (s := S4x64) (t := S1x4x64) _ _ _ (ix2 ⟨2 + b.val, by omega⟩ ch) (by
    rw [Shape.rowMajor_val_two, Shape.rowMajor_val_three]
    show (2 + b.val) * 64 + ch.val = (0 * 4 + (2 + b.val)) * 64 + ch.val
    omega)).trans ?_
  refine (concatenate_pair_apply_right (t := S4x64) (s₁ := S2x64) (s₂ := S2x64) (0 : Fin 2) _ _ _ _ rfl rfl (ix2 b ch) (by
    intro a ha
    match a with
    | ⟨0, _⟩ => exact absurd rfl ha
    | ⟨1, _⟩ => rfl) (by show b.val + 2 = 2 + b.val; omega)).trans ?_
  refine (pick_mul _ b ch).trans ?_
  refine Finset.sum_congr rfl fun r _ => Finset.sum_congr rfl fun q _ => ?_
  rw [mulf_apply, rows_apply x b r q ch _ rfl]

/-! ## The mean and the scale from four devices' statistics -/

theorem ofBits_inv : Ideal.ofBits .f32 0x38800000#32 = ((1 / 16384 : ℝ) : EReal) := by
  simp [Ideal.ofBits, Ideal.ieee, -EReal.coe_mul]; norm_num

theorem total_apply (s0 s1 s2 s3 : Vec Ideal S1x4x64 .f32) (j : Fin 4) (ch : Fin 64) :
    k0_pay24 s0 s1 s2 s3 (ix2 j ch) = s0 (ix3 0 j ch) + s1 (ix3 0 j ch) + s2 (ix3 0 j ch) + s3 (ix3 0 j ch) := by
  have h (s : Vec Ideal S1x4x64 .f32) : shapeCast S4x64 s shapeCasts_S1x4x64_S4x64 (ix2 j ch) = s (ix3 0 j ch) :=
    shapeCast_apply (s := S1x4x64) (t := S4x64) _ _ _ _ (by
      rw [Shape.rowMajor_val_two, Shape.rowMajor_val_three]
      show (0 * 4 + j.val) * 64 + ch.val = j.val * 64 + ch.val
      omega)
  unfold k0_pay24
  rw [addf_apply, addf_apply, addf_apply, h, h, h, h]

theorem mean_apply (s0 s1 s2 s3 : Vec Ideal S1x4x64 .f32) (b : Fin 2) (ch : Fin 64) (t : ℝ)
    (ht : k0_pay24 s0 s1 s2 s3 (ix2 ⟨b.val, by omega⟩ ch) = (t : EReal)) : k0_pay25 s0 s1 s2 s3 (ix2 b ch) = ((t / 16384 : ℝ) : EReal) := by
  unfold k0_pay25
  rw [mulf_apply, broadcast_apply]
  refine congrArg₂ (· * ·) ((extractStridedSlice_apply (s := S4x64) (t := S2x64) _ _ _ _ (ix2 ⟨b.val, by omega⟩ ch) (by
    intro a
    match a with
    | ⟨0, _⟩ => exact (Nat.zero_add _).symm
    | ⟨1, _⟩ => exact (Nat.zero_add _).symm)).trans ht) ofBits_inv |>.trans ?_
  rw [← EReal.coe_mul, mul_one_div]

theorem scale_apply (s0 s1 s2 s3 : Vec Ideal S1x4x64 .f32) (b : Fin 2) (ch : Fin 64) (t u : ℝ)
    (ht : k0_pay24 s0 s1 s2 s3 (ix2 ⟨b.val, by omega⟩ ch) = (t : EReal))
    (hu : k0_pay24 s0 s1 s2 s3 (ix2 ⟨2 + b.val, by omega⟩ ch) = (u : EReal)) (v : ℝ) (hv : 0 ≤ v)
    (e : u / 16384 - t / 16384 * (t / 16384) = v) :
    k0_pay26 s0 s1 s2 s3 (ix2 b ch) = (((Real.sqrt (v + eps))⁻¹ : ℝ) : EReal) := by
  unfold k0_pay26
  show Ideal.rsqrt (addf (F := Ideal) (s := S2x64) (φ := .f32) _ _ (ix2 b ch)) = _
  rw [addf_apply, subf_apply, mulf_apply, mulf_apply, broadcast_apply, broadcast_apply, mean_apply s0 s1 s2 s3 b ch t ht]
  have h2 : extractStridedSlice S2x64 ![2, 0] (k0_pay24 s0 s1 s2 s3) slices_S4x64_o2_0_S2x64 (ix2 b ch) = (u : EReal) :=
    (extractStridedSlice_apply (s := S4x64) (t := S2x64) _ _ _ _ (ix2 ⟨2 + b.val, by omega⟩ ch) (by
      intro a
      match a with
      | ⟨0, _⟩ => rfl
      | ⟨1, _⟩ => exact (Nat.zero_add _).symm)).trans hu
  rw [h2]
  have e1 : (Scalar.ofBits .f32 0x38800000#32 : Ideal .f32) = ((1 / 16384 : ℝ) : EReal) := ofBits_inv
  have e2 : (Scalar.ofBits .f32 0x3727C5AC#32 : Ideal .f32) = (eps : EReal) := Cert.RefRun.ofBits_eps
  rw [e1, e2, ← EReal.coe_mul, ← EReal.coe_mul, ← EReal.coe_sub, ← EReal.coe_add, mul_one_div, e]
  have hp : 0 < v + eps := add_pos_of_nonneg_of_pos hv Cert.RefRun.eps_pos
  rw [Ideal.rsqrt_coe, if_neg (not_lt.2 hp.le), if_neg hp.ne']

end Cert.NormConv
-- ==== Proof.KerTaps.lean ====
/-
# The kernel's nine taps and its result, entry by entry
-/
module

public import proofs.«01_k».proof.Proof.KerValue

@[expose] public section

set_option maxRecDepth 8000

noncomputable section

namespace Cert.NormConv

open Cert.KernelIdeal Cert.KernelIdeal.Gen
open Idealize.ShloMosaic Idealize.ShloMosaic.ValueIdx
open Cert.RefRun (taps coe_sum2)
open scoped BigOperators

section General
variable {F : FTy → Type} [FloatOps F]

/-! ## The taps named -/

/-- A value per sample and channel at every pixel. -/
def spreadK (v : FVec F S2x64 .f32) : FVec F S2x64x64x64 .f32 :=
  broadcastTo S2x64x64x64 (shapeCast S2x1x1x64 v shapeCasts_S2x64_S2x1x1x64) broadcasts_S2x1x1x64_S2x64x64x64

/-- A value per channel for both samples. -/
def bothK (v : FVec F S64 .f32) : FVec F S2x64 .f32 := broadcastTo S2x64 (shapeCast S1x64 v shapeCasts_S64_S1x64) broadcasts_S1x64_S2x64

/-- One tap: the padded image from offset `o`, times the filter's row at `q` scaled, added to what is there. -/
def tapK (o : Fin 4 → ℕ) (ho : S2x66x66x64.Slices o S2x64x64x64) (q : Fin 3 → ℕ) (hq : S3x3x64.Slices q S1x1x64)
    (p : Vec F S2x66x66x64 .f32) (k : FVec F S3x3x64 .f32) (v : FVec F S2x64 .f32) (a : FVec F S2x64x64x64 .f32) : FVec F S2x64x64x64 .f32 :=
  addf a (mulf (extractStridedSlice S2x64x64x64 o p ho) (spreadK (mulf (bothK (shapeCast S64 (extractStridedSlice S1x1x64 q k hq) shapeCasts_S1x1x64_S64)) v)))

/-- What the taps start from: minus the mean times the scale times the filter's sum. -/
def baseK (mean v : FVec F S2x64 .f32) (k : FVec F S3x3x64 .f32) : FVec F S2x64x64x64 .f32 :=
  broadcastTo S2x64x64x64 (shapeCast S2x1x1x64 (subf (broadcast S2x1x1x64 (Scalar.ofBits .f32 0x00000000#32))
    (shapeCast S2x1x1x64 (mulf (mulf mean v) (bothK (multiReduction .add [0, 1] S64 k 0x00000000#32 reduces_S3x3x64_S64 (.inl rfl) rfl)))
      shapeCasts_S2x64_S2x1x1x64)) shapeCasts_S2x1x1x64_S2x1x1x64) broadcasts_S2x1x1x64_S2x64x64x64

/-- The first three taps. -/
def conv3 (mean v : FVec F S2x64 .f32) (p : Vec F S2x66x66x64 .f32) (k : FVec F S3x3x64 .f32) : FVec F S2x64x64x64 .f32 :=
  tapK ![0, 0, 2, 0] slices_S2x66x66x64_o0_0_2_0_S2x64x64x64 ![0, 2, 0] slices_S3x3x64_o0_2_0_S1x1x64 p k v
    (tapK ![0, 0, 1, 0] slices_S2x66x66x64_o0_0_1_0_S2x64x64x64 ![0, 1, 0] slices_S3x3x64_o0_1_0_S1x1x64 p k v
    (tapK ![0, 0, 0, 0] slices_S2x66x66x64_o0_0_0_0_S2x64x64x64 ![0, 0, 0] slices_S3x3x64_o0_0_0_S1x1x64 p k v (baseK mean v k)))

/-- The nine taps. -/
def convK (mean v : FVec F S2x64 .f32) (p : Vec F S2x66x66x64 .f32) (k : FVec F S3x3x64 .f32) : FVec F S2x64x64x64 .f32 :=
  tapK ![0, 2, 2, 0] slices_S2x66x66x64_o0_2_2_0_S2x64x64x64 ![2, 2, 0] slices_S3x3x64_o2_2_0_S1x1x64 p k v
    (tapK ![0, 2, 1, 0] slices_S2x66x66x64_o0_2_1_0_S2x64x64x64 ![2, 1, 0] slices_S3x3x64_o2_1_0_S1x1x64 p k v
    (tapK ![0, 2, 0, 0] slices_S2x66x66x64_o0_2_0_0_S2x64x64x64 ![2, 0, 0] slices_S3x3x64_o2_0_0_S1x1x64 p k v
    (tapK ![0, 1, 2, 0] slices_S2x66x66x64_o0_1_2_0_S2x64x64x64 ![1, 2, 0] slices_S3x3x64_o1_2_0_S1x1x64 p k v
    (tapK ![0, 1, 1, 0] slices_S2x66x66x64_o0_1_1_0_S2x64x64x64 ![1, 1, 0] slices_S3x3x64_o1_1_0_S1x1x64 p k v
    (tapK ![0, 1, 0, 0] slices_S2x66x66x64_o0_1_0_0_S2x64x64x64 ![1, 0, 0] slices_S3x3x64_o1_0_0_S1x1x64 p k v (conv3 mean v p k))))))

theorem pay28_eq (mean v : FVec F S2x64 .f32) (p : Vec F S2x66x66x64 .f32) (k : Vec F S3x3x64 .f32) :
    k0_pay28 mean v p k = conv3 mean v p (k0_pay27 k) := rfl

theorem pay31_eq (mean v : FVec F S2x64 .f32) (p : Vec F S2x66x66x64 .f32) (k : Vec F S3x3x64 .f32) :
    k0_pay31 v p (k0_pay27 k) (conv3 mean v p (k0_pay27 k)) (k0_pay29 p) (k0_pay30 v k)
      = shapeCast S8192x64 (mulf (convK mean v p (k0_pay27 k)) (logistic (convK mean v p (k0_pay27 k)))) shapeCasts_S2x64x64x64_S8192x64 := rfl

end General

/-! ## The taps read at an index -/

theorem spreadK_apply (v : FVec Ideal S2x64 .f32) (i : S2x64x64x64.Idx) : spreadK v i = v (ix2 (i 0) (i 3)) := by
  unfold spreadK
  refine (broadcastTo_apply (s := S2x1x1x64) (t := S2x64x64x64) _ _ i (ix4 (i 0) 0 0 (i 3)) (by
    intro a
    match a with
    | ⟨0, _⟩ => rfl
    | ⟨1, _⟩ => rfl
    | ⟨2, _⟩ => rfl
    | ⟨3, _⟩ => rfl)).trans ?_
  exact shapeCast_apply (s := S2x64) (t := S2x1x1x64) _ _ _ _ (by
    rw [Shape.rowMajor_val_two, Shape.rowMajor_val_four]
    show (i 0).val * 64 + (i 3).val = (((i 0).val * 1 + 0) * 1 + 0) * 64 + (i 3).val
    omega)

theorem bothK_apply (v : FVec Ideal S64 .f32) (b : Fin 2) (ch : Fin 64) : bothK v (ix2 b ch) = v (ix1 ch) := by
  unfold bothK
  refine (broadcastTo_apply (s := S1x64) (t := S2x64) _ _ _ (ix2 0 ch) (by
    intro a
    match a with
    | ⟨0, _⟩ => rfl
    | ⟨1, _⟩ => rfl)).trans ?_
  exact shapeCast_apply (s := S64) (t := S1x64) _ _ _ _ (by
    rw [Shape.rowMajor_val_two, Shape.rowMajor_val_one]
    show ch.val = 0 * 64 + ch.val
    omega)

/-- One tap where everything is real. -/
theorem tapK_up (di dj : Fin 3) (ho : S2x66x66x64.Slices ![0, di.val, dj.val, 0] S2x64x64x64) (hq : S3x3x64.Slices ![di.val, dj.val, 0] S1x1x64)
    (p : Vec Ideal S2x66x66x64 .f32) (k : S3x3x64.Idx → ℝ) (v : FVec Ideal S2x64 .f32) (a : FVec Ideal S2x64x64x64 .f32) (i : S2x64x64x64.Idx)
    (s x n : ℝ) (hs : a i = (s : EReal)) (hv : v (ix2 (i 0) (i 3)) = (n : EReal))
    (hp : ∀ j : S2x66x66x64.Idx, (j 0).val = (i 0).val → (j 1).val = di.val + (i 1).val → (j 2).val = dj.val + (i 2).val → (j 3).val = (i 3).val → p j = (x : EReal)) :
    tapK ![0, di.val, dj.val, 0] ho ![di.val, dj.val, 0] hq p (fun j => (k j : EReal)) v a i
      = ((s + x * (k (ix3 di dj (i 3)) * n) : ℝ) : EReal) := by
  have l1 : (i 1).val < 64 := (i 1).isLt
  have l2 : (i 2).val < 64 := (i 2).isLt
  unfold tapK
  rw [addf_apply, mulf_apply, hs, spreadK_apply, mulf_apply]
  rw [EReal.coe_add, EReal.coe_mul, EReal.coe_mul]
  refine congrArg (_ + ·) (congrArg₂ (· * ·) ?_ (congrArg₂ (· * ·) ((bothK_apply _ _ _).trans ?_) hv))
  · refine (extractStridedSlice_apply (s := S2x66x66x64) (t := S2x64x64x64) _ p ho i
      (ix4 (i 0) ⟨di.val + (i 1).val, by omega⟩ ⟨dj.val + (i 2).val, by omega⟩ (i 3)) (by
      intro a
      match a with
      | ⟨0, _⟩ => exact (Nat.zero_add _).symm
      | ⟨1, _⟩ => rfl
      | ⟨2, _⟩ => rfl
      | ⟨3, _⟩ => exact (Nat.zero_add _).symm)).trans ?_
    exact hp _ rfl rfl rfl rfl
  · refine (shapeCast_apply (s := S1x1x64) (t := S64) _ _ _ (ix3 0 0 (i 3)) (by
      rw [Shape.rowMajor_val_three, Shape.rowMajor_val_one]
      show (0 * 1 + 0) * 64 + (i 3).val = (i 3).val
      omega)).trans ?_
    exact extractStridedSlice_apply (s := S3x3x64) (t := S1x1x64) _ _ hq _ (ix3 di dj (i 3)) (by
      intro a
      match a with
      | ⟨0, _⟩ => rfl
      | ⟨1, _⟩ => rfl
      | ⟨2, _⟩ => exact (Nat.zero_add _).symm)

/-- The filter's sum at a channel. -/
def fsum (k : S3x3x64.Idx → ℝ) (ch : Fin 64) : ℝ := ∑ di : Fin 3, ∑ dj : Fin 3, k (ix3 di dj ch)

theorem filter_sum (k : S3x3x64.Idx → ℝ) (ch : Fin 64) :
    multiReduction (F := Ideal) (φ := .f32) .add [0, 1] S64 (fun j : S3x3x64.Idx => (k j : EReal)) 0x00000000#32 reduces_S3x3x64_S64 (.inl rfl) rfl (ix1 ch)
      = (fsum k ch : EReal) := by
  refine Eq.trans ?_ (coe_sum2 _)
  show Ideal.reduceAdd reduces_S3x3x64_S64 _ (ix1 ch) = _
  unfold Ideal.reduceAdd
  have d (i : S3x3x64.Idx) := reduces_S3x3x64_S64.drop_apply_val_of_eq i 0 2
  have hd (i : S3x3x64.Idx) : reduces_S3x3x64_S64.drop i = ix1 ch ↔ (i 2 : Fin 64) = ch := by
    constructor
    · intro h
      have e := d i
      rw [h] at e
      exact Fin.ext e.symm
    · intro h
      funext a
      match a with
      | ⟨0, _⟩ => exact Fin.ext ((d i).trans (congrArg Fin.val h))
  rw [← Finset.sum_product']
  refine Finset.sum_nbij' (fun i => ((i 0 : Fin 3), (i 1 : Fin 3))) (fun p => ix3 p.1 p.2 ch) ?_ ?_ ?_ ?_ ?_
  · intro i _; simp
  · intro p _; rw [Finset.mem_filter]; exact ⟨Finset.mem_univ _, (hd _).2 rfl⟩
  · intro i hi
    have h := (hd i).1 (Finset.mem_filter.1 hi).2
    rw [← h]; exact (eq_ix3 i).symm
  · intro p _; rfl
  · intro i hi
    have h := (hd i).1 (Finset.mem_filter.1 hi).2
    rw [← h]; exact congrArg (fun j => (k j : EReal)) (eq_ix3 i)

theorem baseK_up (mean v : FVec Ideal S2x64 .f32) (k : S3x3x64.Idx → ℝ) (i : S2x64x64x64.Idx) (t n : ℝ)
    (hm : mean (ix2 (i 0) (i 3)) = (t : EReal)) (hv : v (ix2 (i 0) (i 3)) = (n : EReal)) :
    baseK mean v (fun j => (k j : EReal)) i = ((0 - t * n * fsum k (i 3) : ℝ) : EReal) := by
  unfold baseK
  refine (broadcastTo_apply (s := S2x1x1x64) (t := S2x64x64x64) _ _ i (ix4 (i 0) 0 0 (i 3)) (by
    intro a
    match a with
    | ⟨0, _⟩ => rfl
    | ⟨1, _⟩ => rfl
    | ⟨2, _⟩ => rfl
    | ⟨3, _⟩ => rfl)).trans ?_
  rw [shapeCast_self, subf_apply, broadcast_apply]
  have e0 : (Scalar.ofBits .f32 0x00000000#32 : Ideal .f32) = ((0 : ℝ) : EReal) := Ideal.ofBits_zero_f32
  rw [e0, EReal.coe_sub]
  refine congrArg (_ - ·) ?_
  refine (shapeCast_apply (s := S2x64) (t := S2x1x1x64) _ _ _ (ix2 (i 0) (i 3)) (by
    rw [Shape.rowMajor_val_two, Shape.rowMajor_val_four]
    show (i 0).val * 64 + (i 3).val = (((i 0).val * 1 + 0) * 1 + 0) * 64 + (i 3).val
    omega)).trans ?_
  rw [mulf_apply, mulf_apply, hm, hv, EReal.coe_mul, EReal.coe_mul]
  exact congrArg (_ * ·) ((bothK_apply _ _ _).trans (filter_sum k (i 3)))

/-- The nine taps where everything is real. -/
theorem convK_up (mean v : FVec Ideal S2x64 .f32) (p : Vec Ideal S2x66x66x64 .f32) (k : S3x3x64.Idx → ℝ) (i : S2x64x64x64.Idx)
    (t n : ℝ) (x : Fin 3 → Fin 3 → ℝ) (hm : mean (ix2 (i 0) (i 3)) = (t : EReal)) (hv : v (ix2 (i 0) (i 3)) = (n : EReal))
    (hp : ∀ (di dj : Fin 3) (j : S2x66x66x64.Idx), (j 0).val = (i 0).val → (j 1).val = di.val + (i 1).val → (j 2).val = dj.val + (i 2).val →
      (j 3).val = (i 3).val → p j = (x di dj : EReal)) :
    convK mean v p (fun j => (k j : EReal)) i = (taps (0 - t * n * fsum k (i 3)) x (fun di dj => k (ix3 di dj (i 3)) * n) : EReal) :=
  tapK_up 2 2 _ _ p k v _ i _ _ n (tapK_up 2 1 _ _ p k v _ i _ _ n (tapK_up 2 0 _ _ p k v _ i _ _ n
    (tapK_up 1 2 _ _ p k v _ i _ _ n (tapK_up 1 1 _ _ p k v _ i _ _ n (tapK_up 1 0 _ _ p k v _ i _ _ n
    (tapK_up 0 2 _ _ p k v _ i _ _ n (tapK_up 0 1 _ _ p k v _ i _ _ n (tapK_up 0 0 _ _ p k v _ i _ _ n (baseK_up mean v k i t n hm hv)
      hv (hp 0 0)) hv (hp 0 1)) hv (hp 0 2)) hv (hp 1 0)) hv (hp 1 1)) hv (hp 1 2)) hv (hp 2 0)) hv (hp 2 1)) hv (hp 2 2)

/-! ## The result -/

/-- The kernel's result at a pixel. -/
theorem out_apply (x : Vec Ideal S2x64x64x64 .f32) (u : FVec Ideal S2x64x64x64 .f32) (W : Vec Ideal S64x64 .f32) (i : S2x64x64x64.Idx) :
    k0_pay1 x (shapeCast S8192x64 (mulf u (logistic u)) shapeCasts_S2x64x64x64_S8192x64) W (constant S8192x64 .f32 0x00000000#32) i
      = x i + ∑ c : Fin 64, u (ix4 (i 0) (i 1) (i 2) c) * Ideal.logistic (u (ix4 (i 0) (i 1) (i 2) c)) * W (ix2 c (i 3)) := by
  have l0 : (i 0).val < 2 := (i 0).isLt
  have l1 : (i 1).val < 64 := (i 1).isLt
  have l2 : (i 2).val < 64 := (i 2).isLt
  unfold k0_pay1
  rw [addf_apply]
  refine congrArg (x i + ·) ?_
  refine (shapeCast_apply (s := S8192x64) (t := S2x64x64x64) _ _ i (ix2 ⟨((i 0).val * 64 + (i 1).val) * 64 + (i 2).val, by omega⟩ (i 3)) (by
    rw [Shape.rowMajor_val_two, Shape.rowMajor_val_four]
    rfl)).trans ?_
  refine (Ideal.matmul_plain_apply (M := 8192) (K := 64) (N := 64) none _ W _ _ (i 3)).trans ?_
  have e0 : (constant S8192x64 .f32 0x00000000#32 : FVec Ideal S8192x64 .f32) (ix2 ⟨((i 0).val * 64 + (i 1).val) * 64 + (i 2).val, by omega⟩ (i 3)) = 0 :=
    Ideal.ofBits_zero_f32
  refine (congrArg (· + _) e0).trans ((zero_add _).trans ?_)
  refine Finset.sum_congr rfl fun c _ => congrArg (· * _) ?_
  refine (shapeCast_apply (s := S2x64x64x64) (t := S8192x64) _ _ _ (ix4 (i 0) (i 1) (i 2) c) (by
    rw [Shape.rowMajor_val_two, Shape.rowMajor_val_four]
    rfl)).trans ?_
  rfl

/-- The activation of a real number, written either way. -/
theorem act_eq (r : ℝ) : (r : EReal) * Ideal.logistic r = Ideal.div r (1 + Ideal.exp (-(r : EReal))) := by
  have h : (1 : EReal) + Ideal.exp (-(r : EReal)) = ((1 + Real.exp (-r) : ℝ) : EReal) := by
    rw [← EReal.coe_neg, Ideal.exp_coe, ← EReal.coe_one, ← EReal.coe_add]
  have hp : (0 : ℝ) < 1 + Real.exp (-r) := by positivity
  rw [h, Ideal.div_coe hp.ne', Ideal.logistic_coe, one_div]

end Cert.NormConv
-- ==== Proof.Value.lean ====
/-
# The kernel's result is the reference's, block by block

Where every device's block of the image is its part of one real image, and the filter is real, the four devices'
statistics add up to the image's, so each device's mean is the image's mean and its scale is one over the root of the
variance plus the small constant; the padded block holds the image around the block with the image's border repeated;
and the nine taps, started from minus the mean times the scale times the filter's sum, come to the taps of the
normalised image.
-/
module

public import proofs.«01_k».proof.Proof.KerTaps

@[expose] public section

set_option maxRecDepth 8000

noncomputable section

namespace Cert.NormConv

open Cert.KernelIdeal Cert.KernelIdeal.Gen
open Idealize.ShloMosaic Idealize.ShloMosaic.ValueIdx
open Cert.ReferenceIdeal (S2x128x128x64)
open Cert.RefRun (taps tot mu vr nr near cl eps up)
open scoped BigOperators

/-! ## Sums over four blocks -/

/-- The sum over one of the four blocks. -/
def part (g : ℕ → ℕ → ℝ) (p p' : ℕ) : ℝ := ∑ r : Fin 64, ∑ q : Fin 64, g (64 * p + r.val) (64 * p' + q.val)

theorem sum_split (h : ℕ → ℝ) : ∑ r : Fin 128, h r.val = ∑ r : Fin 64, h (64 * 0 + r.val) + ∑ r : Fin 64, h (64 * 1 + r.val) := by
  rw [Fin.sum_univ_eq_sum_range h 128, Fin.sum_univ_eq_sum_range (fun r => h (64 * 0 + r)) 64, Fin.sum_univ_eq_sum_range (fun r => h (64 * 1 + r)) 64,
    show (128 : ℕ) = 64 + 64 from rfl, Finset.sum_range_add]
  simp

theorem sum_parts (g : ℕ → ℕ → ℝ) :
    ∑ r : Fin 128, ∑ q : Fin 128, g r.val q.val = part g 0 0 + part g 0 1 + (part g 1 0 + part g 1 1) := by
  have e (r : ℕ) := sum_split (g r)
  simp only [e]
  rw [sum_split fun r => ∑ q : Fin 64, g r (64 * 0 + q.val) + ∑ q : Fin 64, g r (64 * 1 + q.val)]
  simp only [Finset.sum_add_distrib]
  rfl

/-- The four devices' blocks, taken from any device, are the whole. -/
theorem sum_devices (g : ℕ → ℕ → ℝ) (c : Dev nD) :
    part g (c.val / 2) (c.val % 2) + part g ((xn c).val / 2) ((xn c).val % 2) + part g ((yn c).val / 2) ((yn c).val % 2)
      + part g ((dn c).val / 2) ((dn c).val % 2) = ∑ r : Fin 128, ∑ q : Fin 128, g r.val q.val := by
  rw [sum_parts, (xn_coords c).1, (xn_coords c).2, (yn_coords c).1, (yn_coords c).2, (dn_coords c).1, (dn_coords c).2]
  obtain ⟨hp, hq⟩ := row_le c
  generalize c.val / 2 = p at *
  generalize c.val % 2 = q at *
  have p01 : p = 0 ∨ p = 1 := by omega
  have q01 : q = 0 ∨ q = 1 := by omega
  rcases p01 with rfl | rfl <;> rcases q01 with rfl | rfl <;> ring

/-! ## The variance -/

theorem var_eq (x : S2x128x128x64.Idx → ℝ) (b : Fin 2) (ch : Fin 64) :
    tot (fun i => x i * x i) b ch / 16384 - tot x b ch / 16384 * (tot x b ch / 16384) = vr x b ch := by
  have h : tot (fun i => (x i - mu x (i 0) (i 3)) * (x i - mu x (i 0) (i 3))) b ch
      = tot (fun i => x i * x i) b ch - 2 * mu x b ch * tot x b ch + 16384 * (mu x b ch * mu x b ch) := by
    have e (r q : Fin 128) : (x (ix4 b r q ch) - mu x b ch) * (x (ix4 b r q ch) - mu x b ch)
        = x (ix4 b r q ch) * x (ix4 b r q ch) - 2 * mu x b ch * x (ix4 b r q ch) + mu x b ch * mu x b ch := by ring
    show ∑ r : Fin 128, ∑ q : Fin 128, (x (ix4 b r q ch) - mu x b ch) * (x (ix4 b r q ch) - mu x b ch) = _
    simp only [e, Finset.sum_add_distrib, Finset.sum_sub_distrib, ← Finset.mul_sum, Finset.sum_const, Finset.card_univ, Fintype.card_fin, nsmul_eq_mul]
    unfold tot
    norm_num
    ring
  unfold vr
  rw [h]
  unfold mu
  ring

/-! ## Where a block's pixel is in the image -/

/-- The image's index of a device's pixel. -/
def place (c : Dev nD) (i : S2x64x64x64.Idx) : S2x128x128x64.Idx :=
  ix4 (i 0) ⟨64 * (c.val / 2) + (i 1).val, by have := (row_le c).1; have : (i 1).val < 64 := (i 1).isLt; omega⟩
    ⟨64 * (c.val % 2) + (i 2).val, by have := (row_le c).2; have : (i 2).val < 64 := (i 2).isLt; omega⟩ (i 3)

variable (m : (ℓ : Loc nD τ sig) → Buf (Elt Ideal) ℓ) (ρ : Dev nD → PrngReg)

section Real
variable (x : S2x128x128x64.Idx → ℝ) (hx : ∀ c i, xstg m ρ c i = (x (place c i) : EReal))
include hx

theorem bsum_block (f : ℝ → ℝ) (F : EReal → EReal) (hF : ∀ r : ℝ, F r = (f r : EReal)) (c : Dev nD) (b : Fin 2) (ch : Fin 64) :
    bsum (fun i => F (xstg m ρ c i)) b ch
      = (part (fun R Q => f (x (ix4 b ⟨R % 128, Nat.mod_lt _ (by decide)⟩ ⟨Q % 128, Nat.mod_lt _ (by decide)⟩ ch))) (c.val / 2) (c.val % 2) : EReal) := by
  unfold bsum part
  rw [← Cert.RefRun.coe_sum2]
  refine Finset.sum_congr rfl fun r _ => Finset.sum_congr rfl fun q _ => ?_
  show F (xstg m ρ c (ix4 b r q ch)) = _
  rw [hx, hF]
  refine congrArg (fun j => (f (x j) : EReal)) ?_
  have := (row_le c).1
  have := (row_le c).2
  funext a
  apply Fin.ext
  match a with
  | ⟨0, _⟩ => rfl
  | ⟨1, _⟩ => show 64 * (c.val / 2) + r.val = (64 * (c.val / 2) + r.val) % 128; omega
  | ⟨2, _⟩ => show 64 * (c.val % 2) + q.val = (64 * (c.val % 2) + q.val) % 128; omega
  | ⟨3, _⟩ => rfl

theorem bsum_devices (f : ℝ → ℝ) (F : EReal → EReal) (hF : ∀ r : ℝ, F r = (f r : EReal)) (c : Dev nD) (b : Fin 2) (ch : Fin 64) :
    bsum (fun i => F (xstg m ρ c i)) b ch + bsum (fun i => F (xstg m ρ (xn c) i)) b ch + bsum (fun i => F (xstg m ρ (yn c) i)) b ch
      + bsum (fun i => F (xstg m ρ (dn c) i)) b ch = (tot (fun i => f (x i)) b ch : EReal) := by
  rw [bsum_block m ρ x hx f F hF, bsum_block m ρ x hx f F hF, bsum_block m ρ x hx f F hF, bsum_block m ρ x hx f F hF,
    ← EReal.coe_add, ← EReal.coe_add, ← EReal.coe_add, sum_devices]
  refine congrArg _ ?_
  unfold tot
  refine Finset.sum_congr rfl fun r _ => Finset.sum_congr rfl fun q _ => ?_
  refine congrArg (fun j => f (x j)) ?_
  have := r.isLt
  have := q.isLt
  funext a
  apply Fin.ext
  match a with
  | ⟨0, _⟩ => rfl
  | ⟨1, _⟩ => show r.val % 128 = r.val; omega
  | ⟨2, _⟩ => show q.val % 128 = q.val; omega
  | ⟨3, _⟩ => rfl

theorem total_lo (c : Dev nD) (b : Fin 2) (ch : Fin 64) :
    k0_pay24 (stV m ρ c) (stV m ρ (xn c)) (stV m ρ (yn c)) (stV m ρ (dn c)) (ix2 ⟨b.val, by omega⟩ ch) = (tot x b ch : EReal) := by
  rw [total_apply]
  unfold stV
  rw [stat_lo, stat_lo, stat_lo, stat_lo]
  exact bsum_devices m ρ x hx id id (fun _ => rfl) c b ch

theorem total_hi (c : Dev nD) (b : Fin 2) (ch : Fin 64) :
    k0_pay24 (stV m ρ c) (stV m ρ (xn c)) (stV m ρ (yn c)) (stV m ρ (dn c)) (ix2 ⟨2 + b.val, by omega⟩ ch) = (tot (fun i => x i * x i) b ch : EReal) := by
  rw [total_apply]
  unfold stV
  rw [stat_hi, stat_hi, stat_hi, stat_hi]
  exact bsum_devices m ρ x hx (fun r => r * r) (fun r => r * r) (fun r => (EReal.coe_mul r r).symm) c b ch

theorem meanV_eq (c : Dev nD) (b : Fin 2) (ch : Fin 64) : meanV m ρ c (ix2 b ch) = (mu x b ch : EReal) := by
  unfold meanV
  exact mean_apply _ _ _ _ b ch _ (total_lo m ρ x hx c b ch)

theorem varV_eq (c : Dev nD) (b : Fin 2) (ch : Fin 64) : varV m ρ c (ix2 b ch) = (((Real.sqrt (vr x b ch + eps))⁻¹ : ℝ) : EReal) := by
  unfold varV
  exact scale_apply _ _ _ _ b ch _ _ (total_lo m ρ x hx c b ch) (total_hi m ρ x hx c b ch) _ (Cert.RefRun.vr_nonneg x b ch) (var_eq x b ch)

/-- The padded block holds the image around the block, its border repeated. -/
theorem padV_eq (c : Dev nD) (i : S2x64x64x64.Idx) (di dj : Fin 3) (j : S2x66x66x64.Idx) (h0 : (j 0).val = (i 0).val)
    (h1 : (j 1).val = di.val + (i 1).val) (h2 : (j 2).val = dj.val + (i 2).val) (h3 : (j 3).val = (i 3).val) :
    padV m ρ c j = (near x (place c i) di dj : EReal) := by
  unfold padV padAt
  rw [hx]
  unfold near
  refine congrArg (fun j => (x j : EReal)) ?_
  rw [h1, h2]
  have g1 : gcl (c.val / 2) (di.val + (i 1).val) = min 127 (di.val + (64 * (c.val / 2) + (i 1).val) - 1) := by unfold gcl; congr 1; omega
  have g2 : gcl (c.val % 2) (dj.val + (i 2).val) = min 127 (dj.val + (64 * (c.val % 2) + (i 2).val) - 1) := by unfold gcl; congr 1; omega
  rw [g1, g2]
  have b1 : min 127 (di.val + (64 * (c.val / 2) + (i 1).val) - 1) ≤ 127 := Nat.min_le_left _ _
  have b2 : min 127 (dj.val + (64 * (c.val % 2) + (i 2).val) - 1) ≤ 127 := Nat.min_le_left _ _
  have e1 : (place c i 1).val = 64 * (c.val / 2) + (i 1).val := rfl
  have e2 : (place c i 2).val = 64 * (c.val % 2) + (i 2).val := rfl
  funext a
  apply Fin.ext
  match a with
  | ⟨0, _⟩ => exact h0
  | ⟨1, _⟩ =>
    show 64 * ((2 * (min 127 (di.val + (64 * (c.val / 2) + (i 1).val) - 1) / 64) + min 127 (dj.val + (64 * (c.val % 2) + (i 2).val) - 1) / 64) % 4 / 2)
      + min 127 (di.val + (64 * (c.val / 2) + (i 1).val) - 1) % 64 = min 127 (di.val + (64 * (c.val / 2) + (i 1).val) - 1)
    generalize min 127 (di.val + (64 * (c.val / 2) + (i 1).val) - 1) = R at *
    generalize min 127 (dj.val + (64 * (c.val % 2) + (i 2).val) - 1) = Q at *
    omega
  | ⟨2, _⟩ =>
    show 64 * ((2 * (min 127 (di.val + (64 * (c.val / 2) + (i 1).val) - 1) / 64) + min 127 (dj.val + (64 * (c.val % 2) + (i 2).val) - 1) / 64) % 4 % 2)
      + min 127 (dj.val + (64 * (c.val % 2) + (i 2).val) - 1) % 64 = min 127 (dj.val + (64 * (c.val % 2) + (i 2).val) - 1)
    generalize min 127 (di.val + (64 * (c.val / 2) + (i 1).val) - 1) = R at *
    generalize min 127 (dj.val + (64 * (c.val % 2) + (i 2).val) - 1) = Q at *
    omega
  | ⟨3, _⟩ => exact h3

omit hx in
/-- The taps of the normalised numbers, with the mean taken out and the scale moved to the filter. -/
theorem taps_eq (k : S3x3x64.Idx → ℝ) (ch : Fin 64) (f : Fin 3 → Fin 3 → ℝ) (t s : ℝ) :
    taps (0 - t * s⁻¹ * fsum k ch) f (fun di dj => k (ix3 di dj ch) * s⁻¹) = taps 0 (fun di dj => (f di dj - t) / s) (fun di dj => k (ix3 di dj ch)) := by
  unfold taps fsum
  simp only [Fin.sum_univ_three, div_eq_mul_inv]
  ring

theorem conv_eq (k : S3x3x64.Idx → ℝ) (c : Dev nD) (i : S2x64x64x64.Idx) :
    convK (meanV m ρ c) (varV m ρ c) (padV m ρ c) (fun j => (k j : EReal)) i
      = (taps 0 (near (nr x) (place c i)) (fun di dj => k (ix3 di dj (i 3))) : EReal) := by
  refine (convK_up _ _ _ k i _ _ (near x (place c i)) (meanV_eq m ρ x hx c (i 0) (i 3)) (varV_eq m ρ x hx c (i 0) (i 3))
    (fun di dj j h0 h1 h2 h3 => padV_eq m ρ x hx c i di dj j h0 h1 h2 h3)).trans ?_
  exact congrArg _ (taps_eq k (i 3) _ _ _)

/-- The kernel's result at a device's pixel is the reference's at the pixel's place in the image. -/
theorem outAt_ref (k : S3x3x64.Idx → ℝ) (W : Vec Ideal S64x64 .f32) (c : Dev nD) (hk : kstg m ρ c = fun j => (k j : EReal)) (hw : wstg m ρ c = W)
    (i : S2x64x64x64.Idx) :
    outAt m ρ c i = Cert.RefRun.outR (up x) (fun j => (k j : EReal)) W (place c i) := by
  rw [Cert.RefRun.outR_up]
  unfold outAt
  rw [pay28_eq, pay31_eq, pay9_id, pay32_id, pay27_id, hk, hw]
  refine (out_apply _ _ W i).trans ?_
  refine congrArg₂ (· + ·) (hx c i) (Finset.sum_congr rfl fun ch _ => congrArg (· * _) ?_)
  rw [conv_eq m ρ x hx k c, act_eq]
  rfl

end Real

end Cert.NormConv
-- ==== Proof.Blocks.lean ====
/-
# From memories to blocks

A window over a whole array reads the array, so a device's staged inputs are its argument arrays and its result array
ends at what the body wrote. A device's block of the image is the image at the device's places, and an array whose
absolute values are all below infinity is an array of real numbers.
-/
module

public import proofs.«01_k».proof.Proof.Value
public import proofs.«01_k».proof.Proof.Launch
public import proofs.«01_k».proof.Defs
public import Idealize.ShloMosaic.Lib.Pipeline.ValueKit.Geometry
public import Idealize.ShloMosaic.Lib.Affine
public import Idealize.ShloMosaic.Lib.ReduceAll

@[expose] public section

set_option maxRecDepth 8000

noncomputable section

namespace Cert.NormConv

open Cert.KernelIdeal Cert.KernelIdeal.Gen
open Idealize.ShloMosaic Idealize.ShloMosaic.ValueIdx
open Idealize.ShloMosaic.TcCoe
open Cert.ReferenceIdeal (S2x128x128x64)

section Windows

variable {F : FTy → Type} [FloatOps F]
variable (m : (ℓ : Loc nD τ sig) → Buf (Elt F) ℓ) (ρ : Dev nD → PrngReg) (c : Dev nD)

/-- The staged image is the device's argument array, -/
theorem xstg_mem : xstg m ρ c = m ((c.tc : Thread nD τ).loc main_arg0) :=
  funext fun i => congrArg (m ((c.tc : Thread nD τ).loc main_arg0)) (funext fun a => Fin.ext (Pipeline.Window.rect_emb_val_of_index_zero win0_0 (0 : Fin 1) a rfl i))

/-- the staged filter too, -/
theorem kstg_mem : kstg m ρ c = m ((c.tc : Thread nD τ).loc main_arg1) :=
  funext fun i => congrArg (m ((c.tc : Thread nD τ).loc main_arg1)) (funext fun a => Fin.ext (Pipeline.Window.rect_emb_val_of_index_zero win0_1 (0 : Fin 1) a rfl i))

/-- and the staged matrix. -/
theorem wstg_mem : wstg m ρ c = m ((c.tc : Thread nD τ).loc main_arg2) :=
  funext fun i => congrArg (m ((c.tc : Thread nD τ).loc main_arg2)) (funext fun a => Fin.ext (Pipeline.Window.rect_emb_val_of_index_zero win0_2 (0 : Fin 1) a rfl i))

/-- The result array ends at what the body wrote. -/
theorem final_out : finalA m ρ c 3 = outAt m ρ c :=
  (dats (F := F) m ρ 0 c).arrAt_eq_of_after_last (3 : Fin 4) ⟨0, by decide⟩ (by decide +kernel) (outAt m ρ c) fun j => rfl

end Windows

/-- A device's block of an array is the array at the device's places. -/
theorem blockN_place {α : Type} (c : Dev nD) (v : S2x128x128x64.Idx → α) :
    Layout.blockN ⟨4, ![2, 64, 64, 64]⟩ ⟨4, ![2, 128, 128, 64]⟩ (Layout.meshBlock [2, 2] ![[], [0], [1], []] c) v = fun i => v (place c i) := by
  funext i
  refine congrArg v (funext fun a => Fin.ext ?_)
  have e1 : Layout.meshLin [2, 2] c.val [0] = c.val / 2 := by revert c; decide
  have e2 : Layout.meshLin [2, 2] c.val [1] = c.val % 2 := by revert c; decide
  match a with
  | ⟨0, _⟩ => show 0 * 2 + (i 0).val = (i 0).val; omega
  | ⟨1, _⟩ => show Layout.meshLin [2, 2] c.val [0] * 64 + (i 1).val = 64 * (c.val / 2) + (i 1).val; omega
  | ⟨2, _⟩ => show Layout.meshLin [2, 2] c.val [1] * 64 + (i 2).val = 64 * (c.val % 2) + (i 2).val; omega
  | ⟨3, _⟩ => show 0 * 64 + (i 3).val = (i 3).val; omega

/-- Every place of the image is a place of some device's block. -/
theorem place_surj (i : S2x128x128x64.Idx) : ∃ (c : Dev nD) (j : S2x64x64x64.Idx), place c j = i := by
  have h1 : (i 1).val < 128 := (i 1).isLt
  have h2 : (i 2).val < 128 := (i 2).isLt
  refine ⟨⟨2 * ((i 1).val / 64) + (i 2).val / 64, by show _ < 4; omega⟩, ix4 (i 0) ⟨(i 1).val % 64, by omega⟩ ⟨(i 2).val % 64, by omega⟩ (i 3), ?_⟩
  funext a
  apply Fin.ext
  match a with
  | ⟨0, _⟩ => rfl
  | ⟨1, _⟩ => show 64 * ((2 * ((i 1).val / 64) + (i 2).val / 64) / 2) + (i 1).val % 64 = (i 1).val; omega
  | ⟨2, _⟩ => show 64 * ((2 * ((i 1).val / 64) + (i 2).val / 64) % 2) + (i 2).val % 64 = (i 2).val; omega
  | ⟨3, _⟩ => rfl

/-! ## Finite arrays -/

theorem ofBits_top : Ideal.ofBits .f32 0x7F800000#32 = ⊤ := by simp [Ideal.ofBits, Ideal.ieee]

/-- A number whose absolute value is below infinity is real. -/
theorem real_of_abs_lt (x : EReal) (h : Ideal.cmp .olt (max x (-x)) (Ideal.ofBits .f32 0x7F800000#32) = 1#1) : ((x.toReal : ℝ) : EReal) = x := by
  rw [ofBits_top] at h
  have hl : max x (-x) < ⊤ := by
    by_contra hn
    simp [Ideal.cmp, hn] at h
  refine EReal.coe_toReal ?_ ?_
  · rintro rfl; simp at hl
  · rintro rfl; simp at hl

instance preFacts : Cert.Pre_finite_KernelIdeal.Facts where
  bcast_S_S2x64x64x64 := by decide
  reducesTo_S2x64x64x64_S_d0_1_2_3 := by decide
  h_S_ := by decide
  bcast_S_S3x3x64 := by decide
  reducesTo_S3x3x64_S_d0_1_2 := by decide

instance preFacts' : Cert.Pre_finite_ReferenceIdeal.Facts where
  bcast_S_S2x128x128x64 := by decide
  reducesTo_S2x128x128x64_S_d0_1_2_3 := by decide
  h_S_ := by decide
  bcast_S_S3x3x64 := by decide
  reducesTo_S3x3x64_S_d0_1_2 := by decide

instance : Subsingleton Cert.Pre_finite_KernelIdeal.S_.Idx := ⟨fun a b => funext fun k => k.elim0⟩

/-- The precondition of one device's arrays: its block of the image and the filter are real. -/
theorem real_of_finite (x : FVec Ideal S2x64x64x64 .f32) (k : FVec Ideal S3x3x64 .f32) (W : FVec Ideal S64x64 .f32)
    (h : Cert.Pre_finite_KernelIdeal.fn (F := Ideal) x k W = fun _ => 1#1) :
    (∀ i, (((x i : EReal).toReal : ℝ) : EReal) = x i) ∧ ∀ i, (((k i : EReal).toReal : ℝ) : EReal) = k i := by
  have e := IntOp.andi_eq_one.1 (congrFun h (fun a => a.elim0))
  exact ⟨fun i => real_of_abs_lt (x i) (Host.reduce_andi_all _ _ _ _ _ e.1 i), fun i => real_of_abs_lt (k i) (Host.reduce_andi_all _ _ _ _ _ e.2 i)⟩

end Cert.NormConv
-- ==== Proof.lean ====
/-
# The certificate

The kernel's frame, its idealization's and the reference's, that the idealization is the kernel's own text, and that on
every device the idealized kernel's result is that device's block of the idealized reference's. The kernel's run is
`Cert.NormConv.run_main`, the reference's `Cert.RefRun.run_main`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Launch
public import proofs.«01_k».proof.Proof.RefRun
public import proofs.«01_k».proof.Proof.Blocks
public import Idealize.ShloMosaic.Adequacy
public import Idealize.ShloMosaic.Init
public import Idealize.ShloMosaic.Lib.Quiescent

@[expose] public section

set_option maxRecDepth 20000
set_option maxHeartbeats 1600000

noncomputable section

namespace Cert.Proof

open Idealize.ShloMosaic Idealize.SL.Sem

section Frames

open Cert.NormConv Cert.KernelIdeal Cert.KernelIdeal.Gen Idealize.ShloMosaic.TcCoe

variable {F : FTy → Type} [FloatOps F]
variable (m : (ℓ : Loc nD τ sig) → Buf (Elt F) ℓ) (ρ : Dev nD → PrngReg) (c : Dev nD)

/-- The run leaves the image as it was, -/
theorem final_image : finalA m ρ c 0 = m ((c.tc : Thread nD τ).loc main_arg0) :=
  (dats (F := F) m ρ 0 c).arrAt_in (0 : Fin 4) rfl _

/-- and the filter, -/
theorem final_filter : finalA m ρ c 1 = m ((c.tc : Thread nD τ).loc main_arg1) :=
  (dats (F := F) m ρ 0 c).arrAt_in (1 : Fin 4) rfl _

/-- and the matrix. -/
theorem final_matrix : finalA m ρ c 2 = m ((c.tc : Thread nD τ).loc main_arg2) :=
  (dats (F := F) m ρ 0 c).arrAt_in (2 : Fin 4) rfl _

end Frames

section SameText

variable {F : FTy → Type} [FloatOps F]

/-- The two programs have one text, so their bodies are one table, -/
theorem bodies_same : (Cert.Kernel.defs₀ (F := F)) = Cert.KernelIdeal.defs₀ (F := F) := by
  unfold Cert.Kernel.defs₀ Cert.KernelIdeal.defs₀
  refine congrArg (Defs.onTc (nD := Cert.Kernel.nD) (τ := Cert.Kernel.τ) (sig := Cert.Kernel.sig) (Val := Elt F)
    (Λ := Cert.Kernel.Λ₀)) ?_
  funext l a
  match l, a with
  | 0, (t, s) => rfl
  | ⟨_ + 1, h⟩, _ => exact absurd h (Nat.not_lt.2 (Nat.le_add_left _ _))

/-- and so are their bodies and launches together. -/
theorem defs_same : (Cert.Kernel.defs (F := F)) = Cert.KernelIdeal.defs (F := F) :=
  congrArg (Pipeline.defs Cert.Kernel.pcfgs) bodies_same

end SameText

open Cert.NormConv in
theorem frame_kernel : Cert.quiescent_Kernel := fun m ρ _ => by
  rw [defs_same]
  exact (θ_run (Cert.KernelIdeal.defs (F := Bits)) _ _).mono
    (fun _ h => ⟨fun c => ⟨(h.1 c (0 : Fin 4)).trans (final_image m ρ c), (h.1 c (1 : Fin 4)).trans (final_filter m ρ c),
      (h.1 c (2 : Fin 4)).trans (final_matrix m ρ c)⟩, h.2⟩) (run_main (F := Bits) m ρ)

open Cert.NormConv in
theorem frame_kernelIdeal : Cert.quiescent_KernelIdeal := fun m ρ _ =>
  (θ_run (Cert.KernelIdeal.defs (F := Ideal)) _ _).mono
    (fun _ h => ⟨fun c => ⟨(h.1 c (0 : Fin 4)).trans (final_image m ρ c), (h.1 c (1 : Fin 4)).trans (final_filter m ρ c),
      (h.1 c (2 : Fin 4)).trans (final_matrix m ρ c)⟩, h.2⟩) (run_main (F := Ideal) m ρ)

theorem frame_reference : Cert.quiescent_ReferenceIdeal := fun m ρ _ =>
  (θ_run (Cert.ReferenceIdeal.defs (F := Ideal)) _ _).mono
    (fun r h => ⟨fun c => (h c).2, sem_eq_zero_of_no_sems rfl r.2⟩) (Cert.RefRun.run_main (F := Ideal) m ρ)

section Value

open Cert.NormConv Idealize.ShloMosaic.ValueIdx

/-- From memories whose blocks are those of one image, the precondition read of each, the image and the filter are real,
    so the kernel's result on a device is the reference's at the device's places. -/
theorem algebraic : Cert.algebraic_KernelIdeal_ReferenceIdeal_pre_finite_KernelIdeal := fun m g m' g' hpre hm => by
  have real (c : Dev Cert.KernelIdeal.nD) := real_of_finite _ _ _ (hpre c)
  obtain ⟨x, hx⟩ : ∃ x : Cert.ReferenceIdeal.S2x128x128x64.Idx → ℝ,
      m' (((0 : Dev Cert.ReferenceIdeal.nD).tc : Thread Cert.ReferenceIdeal.nD Cert.ReferenceIdeal.τ).loc Cert.ReferenceIdeal.main_arg0) = Cert.RefRun.up x := by
    refine ⟨fun i => EReal.toReal (m' (((0 : Dev Cert.ReferenceIdeal.nD).tc : Thread Cert.ReferenceIdeal.nD Cert.ReferenceIdeal.τ).loc Cert.ReferenceIdeal.main_arg0) i), funext fun i => ?_⟩
    obtain ⟨c, j, rfl⟩ := place_surj i
    have e := congrFun ((hm c).1.trans (blockN_place c _)) j
    exact (((real c).1 j).symm.trans (congrArg (fun y : EReal => ((y.toReal : ℝ) : EReal)) e)).symm.trans e |>.symm
  obtain ⟨k, hk⟩ : ∃ k : Cert.KernelIdeal.S3x3x64.Idx → ℝ,
      m' (((0 : Dev Cert.ReferenceIdeal.nD).tc : Thread Cert.ReferenceIdeal.nD Cert.ReferenceIdeal.τ).loc Cert.ReferenceIdeal.main_arg1) = fun j => (k j : EReal) := by
    rw [← (hm 0).2.1]
    exact ⟨_, funext fun j => ((real 0).2 j).symm⟩
  have hblock (c : Dev Cert.KernelIdeal.nD) (i) : xstg m g c i = (x (place c i) : EReal) := by
    rw [xstg_mem, (hm c).1, blockN_place, hx]
  have out (c : Dev Cert.KernelIdeal.nD) : finalA m g c 3
      = Layout.blockN ⟨4, ![2, 64, 64, 64]⟩ ⟨4, ![2, 128, 128, 64]⟩ (Layout.meshBlock [2, 2] ![[], [0], [1], []] c)
        (Cert.RefRun.outR (F := Ideal) (m' (((0 : Dev Cert.ReferenceIdeal.nD).tc : Thread Cert.ReferenceIdeal.nD Cert.ReferenceIdeal.τ).loc Cert.ReferenceIdeal.main_arg0))
          (m' (((0 : Dev Cert.ReferenceIdeal.nD).tc : Thread Cert.ReferenceIdeal.nD Cert.ReferenceIdeal.τ).loc Cert.ReferenceIdeal.main_arg1))
          (m' (((0 : Dev Cert.ReferenceIdeal.nD).tc : Thread Cert.ReferenceIdeal.nD Cert.ReferenceIdeal.τ).loc Cert.ReferenceIdeal.main_arg2))) := by
    rw [blockN_place, hx, hk]
    refine (final_out m g c).trans (funext fun i => ?_)
    exact outAt_ref m g x hblock k _ c ((kstg_mem m g c).trans ((hm c).2.1.trans hk)) ((wstg_mem m g c).trans (hm c).2.2) i
  refine ⟨_, (θ_run (Cert.KernelIdeal.defs (F := Ideal)) _ _).mono
    (fun _ h c => ⟨(h.1 c (3 : Fin 4)).trans (out c), (h.1 c (0 : Fin 4)).trans (final_image m g c), (h.1 c (1 : Fin 4)).trans (final_filter m g c),
      (h.1 c (2 : Fin 4)).trans (final_matrix m g c)⟩) (run_main (F := Ideal) m g),
    (θ_run (Cert.ReferenceIdeal.defs (F := Ideal)) _ _).mono (fun _ h => h 0) (Cert.RefRun.run_main (F := Ideal) m' g')⟩

end Value

theorem claim : Cert.Claim := ⟨Cert.Kernel.Gen.facts, Cert.KernelIdeal.Gen.facts, Cert.ReferenceIdeal.Gen.facts, Cert.NormConv.preFacts, Cert.NormConv.preFacts',
  frame_kernel, frame_kernelIdeal, fun m g _ => frame_kernelIdeal m g trivial, frame_reference, fun m g _ => frame_reference m g trivial, trivial, algebraic⟩

end Cert.Proof

end
